-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_2nm" .f32 0x3B042108#32 ((1 / 496 : ℝ) : EReal)
  ∧ IdealRules.named_const.Statement Cert.KernelIdeal.κ "inv_mean" .f32 0x37842108#32 ((1 / 63488 : ℝ) : EReal)

def preserves_Reference_ReferenceIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v693) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256 : Shape := ⟨1, ![256]⟩
abbrev S248x248 : Shape := ⟨2, ![248, 248]⟩
abbrev S248x256 : Shape := ⟨2, ![248, 256]⟩
abbrev S_ : Shape := ⟨0, ![]⟩
abbrev S1x256 : Shape := ⟨2, ![1, 256]⟩
abbrev S1x1 : Shape := ⟨2, ![1, 1]⟩
abbrev S8x248x1 : Shape := ⟨3, ![8, 248, 1]⟩
abbrev S8x256 : Shape := ⟨2, ![8, 256]⟩
abbrev S1x248x256 : Shape := ⟨3, ![1, 248, 256]⟩
abbrev S8x1x256 : Shape := ⟨3, ![8, 1, 256]⟩
abbrev S8x248x256 : Shape := ⟨3, ![8, 248, 256]⟩
abbrev S8x248x128 : Shape := ⟨3, ![8, 248, 128]⟩
abbrev S1x8x248x128 : Shape := ⟨4, ![1, 8, 248, 128]⟩
abbrev S1 : Shape := ⟨1, ![1]⟩
abbrev S1x1x1x1 : Shape := ⟨4, ![1, 1, 1, 1]⟩
abbrev S8x248 : Shape := ⟨2, ![8, 248]⟩
abbrev S256x1 : Shape := ⟨2, ![256, 1]⟩
abbrev S248x1 : Shape := ⟨2, ![248, 1]⟩
abbrev S248 : Shape := ⟨1, ![248]⟩
abbrev S8x1 : Shape := ⟨2, ![8, 1]⟩
abbrev S1x8x248x1 : Shape := ⟨4, ![1, 8, 248, 1]⟩
abbrev S1x1x1 : Shape := ⟨3, ![1, 1, 1]⟩

abbrev nBuf : Space → Nat
  | .hbm => 13
  | .vmem => 11
  | .smem => 1
  | _ => 0

abbrev bufTy : (tb : Table) → Fin (tcTables nBuf tb) → BufTy
  | .hbm, ⟨0, _⟩ => ⟨S256x256, .f32⟩
  | .hbm, ⟨1, _⟩ => ⟨S256, .f32⟩
  | .hbm, ⟨2, _⟩ => ⟨S248x248, .f32⟩
  | .hbm, ⟨3, _⟩ => ⟨S248x256, .f32⟩
  | .hbm, ⟨4, _⟩ => ⟨S_, .f32⟩
  | .hbm, ⟨5, _⟩ => ⟨S248x256, .f32⟩
  | .hbm, ⟨6, _⟩ => ⟨S248x256, .f32⟩
  | .hbm, ⟨7, _⟩ => ⟨S_, .i32⟩
  | .hbm, ⟨8, _⟩ => ⟨S_, .f32⟩
  | .hbm, ⟨9, _⟩ => ⟨S248x256, .f32⟩
  | .hbm, ⟨10, _⟩ => ⟨S1x256, .f32⟩
  | .hbm, ⟨11, _⟩ => ⟨S1x1, .f32⟩
  | .hbm, ⟨12, _⟩ => ⟨S_, .f32⟩
  | .local _ .vmem, ⟨0, _⟩ => ⟨S248x256, .f32⟩
  | .local _ .vmem, ⟨1, _⟩ => ⟨S248x256, .f32⟩
  | .local _ .vmem, ⟨2, _⟩ => ⟨S1x256, .f32⟩
  | .local _ .vmem, ⟨3, _⟩ => ⟨S248x256, .f32⟩
  | .local _ .vmem, ⟨4, _⟩ => ⟨S248x256, .f32⟩
  | .local _ .vmem, ⟨5, _⟩ => ⟨S248x256, .f32⟩
  | .local _ .vmem, ⟨6, _⟩ => ⟨S248x256, .f32⟩
  | .local _ .vmem, ⟨7, _⟩ => ⟨S248x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .smem, ⟨0, _⟩ => ⟨S1x1, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c31_i32 : BitVec 32 := 31#32
  let v40 : BitVec 32 := Scalar.addi c0_i32 c31_i32
  let c1_i32 : BitVec 32 := 1#32
  ⟨c0_i32, v40, c1_i32⟩
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32_216 : BitVec 32 := 8#32
  let v383 : BitVec 32 := Scalar.muli arg12 c8_i32_216
  let v384 : Index := Scalar.indexCast v383
  let c0_217 : Index := 0#32
  ![v384.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32_216 : BitVec 32 := 8#32
  let v383 : BitVec 32 := Scalar.muli arg12 c8_i32_216
  let v429 : Index := Scalar.indexCast v383
  let c0_227 : Index := 0#32
  ![v429.toNat, 0]
@[reducible] def k0_t2_loop : Scf.Loop 32 :=
  let c0_i32_82 : BitVec 32 := 0#32
  let c31_i32_83 : BitVec 32 := 31#32
  let v147 : BitVec 32 := Scalar.addi c0_i32_82 c31_i32_83
  let c1_i32_84 : BitVec 32 := 1#32
  ⟨c0_i32_82, v147, c1_i32_84⟩
def k0_off3 (k0_t2 : Fin k0_t2_loop.trips) : Fin 2 → Nat :=
  let c0_i32_82 : BitVec 32 := 0#32
  let c1_i32_84 : BitVec 32 := 1#32
  let arg12 : BitVec 32 := Scf.iv c0_i32_82 c1_i32_84 k0_t2
  let c8_i32_216 : BitVec 32 := 8#32
  let v383 : BitVec 32 := Scalar.muli arg12 c8_i32_216
  let v384 : Index := Scalar.indexCast v383
  let c0_217 : Index := 0#32
  ![v384.toNat, 0]
def k0_off4 (k0_t2 : Fin k0_t2_loop.trips) : Fin 2 → Nat :=
  let c0_i32_82 : BitVec 32 := 0#32
  let c1_i32_84 : BitVec 32 := 1#32
  let arg12 : BitVec 32 := Scf.iv c0_i32_82 c1_i32_84 k0_t2
  let c8_i32_216 : BitVec 32 := 8#32
  let v383 : BitVec 32 := Scalar.muli arg12 c8_i32_216
  let v429 : Index := Scalar.indexCast v383
  let c0_227 : Index := 0#32
  ![v429.toNat, 0]
@[reducible] def k0_t3_loop : Scf.Loop 32 :=
  let c0_i32_142 : BitVec 32 := 0#32
  let c31_i32_143 : BitVec 32 := 31#32
  let v254 : BitVec 32 := Scalar.addi c0_i32_142 c31_i32_143
  let c1_i32_144 : BitVec 32 := 1#32
  ⟨c0_i32_142, v254, c1_i32_144⟩
def k0_off5 (k0_t3 : Fin k0_t3_loop.trips) : Fin 2 → Nat :=
  let c0_i32_142 : BitVec 32 := 0#32
  let c1_i32_144 : BitVec 32 := 1#32
  let arg12 : BitVec 32 := Scf.iv c0_i32_142 c1_i32_144 k0_t3
  let c8_i32_216 : BitVec 32 := 8#32
  let v383 : BitVec 32 := Scalar.muli arg12 c8_i32_216
  let v384 : Index := Scalar.indexCast v383
  let c0_217 : Index := 0#32
  ![v384.toNat, 0]
def k0_off6 (k0_t3 : Fin k0_t3_loop.trips) : Fin 2 → Nat :=
  let c0_i32_142 : BitVec 32 := 0#32
  let c1_i32_144 : BitVec 32 := 1#32
  let arg12 : BitVec 32 := Scf.iv c0_i32_142 c1_i32_144 k0_t3
  let c8_i32_216 : BitVec 32 := 8#32
  let v383 : BitVec 32 := Scalar.muli arg12 c8_i32_216
  let v429 : Index := Scalar.indexCast v383
  let c0_227 : Index := 0#32
  ![v429.toNat, 0]
@[reducible] def k0_t4_loop : Scf.Loop 32 :=
  let c0_i32_203 : BitVec 32 := 0#32
  let c31_i32_204 : BitVec 32 := 31#32
  let v361 : BitVec 32 := Scalar.addi c0_i32_203 c31_i32_204
  let c1_i32_205 : BitVec 32 := 1#32
  ⟨c0_i32_203, v361, c1_i32_205⟩
def k0_off7 (k0_t4 : Fin k0_t4_loop.trips) : Fin 2 → Nat :=
  let c0_i32_203 : BitVec 32 := 0#32
  let c1_i32_205 : BitVec 32 := 1#32
  let arg12 : BitVec 32 := Scf.iv c0_i32_203 c1_i32_205 k0_t4
  let c8_i32_216 : BitVec 32 := 8#32
  let v383 : BitVec 32 := Scalar.muli arg12 c8_i32_216
  let v384 : Index := Scalar.indexCast v383
  let c0_217 : Index := 0#32
  ![v384.toNat, 0]
abbrev stage0_0 : Fin 1 → Memref sig .tc .vmem S248x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S248x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "inv_2nm" => some ((1 / 496 : ℝ) : EReal)
  | "inv_mean" => some ((1 / 63488 : ℝ) : EReal)
  | _ => none
-- ==== Reference.lean ====
abbrev S256x256 : Shape := ⟨2, ![256, 256]⟩
abbrev S256 : Shape := ⟨1, ![256]⟩
abbrev S248x248 : Shape := ⟨2, ![248, 248]⟩
abbrev S_ : Shape := ⟨0, ![]⟩
abbrev S248x8 : Shape := ⟨2, ![248, 8]⟩
abbrev S248x256 : Shape := ⟨2, ![248, 256]⟩
abbrev S8x256 : Shape := ⟨2, ![8, 256]⟩
abbrev S1x248x256 : Shape := ⟨3, ![1, 248, 256]⟩
abbrev S248x1x256 : Shape := ⟨3, ![248, 1, 256]⟩
abbrev S248x248x256 : Shape := ⟨3, ![248, 248, 256]⟩
abbrev S248x248x128 : Shape := ⟨3, ![248, 248, 128]⟩
abbrev S248x248x64 : Shape := ⟨3, ![248, 248, 64]⟩
abbrev S248x248x32 : Shape := ⟨3, ![248, 248, 32]⟩
abbrev S248x248x16 : Shape := ⟨3, ![248, 248, 16]⟩
abbrev S248x248x8 : Shape := ⟨3, ![248, 248, 8]⟩
abbrev S248x248x4 : Shape := ⟨3, ![248, 248, 4]⟩
abbrev S248x248x2 : Shape := ⟨3, ![248, 248, 2]⟩
abbrev S248x248x1 : Shape := ⟨3, ![248, 248, 1]⟩
abbrev S248 : Shape := ⟨1, ![248]⟩
abbrev S248x1 : Shape := ⟨2, ![248, 1]⟩
abbrev S1x256 : Shape := ⟨2, ![1, 256]⟩

abbrev nBuf : Space → Nat
  | .hbm => 924
  | .vmem => 0
  | .smem => 0
  | _ => 0

abbrev hbmTy0_0 (i : Nat) : BufTy := match i % 128 with
  | 0 => ⟨S256x256, .f32⟩
  | 1 => ⟨S256, .f32⟩
  | 2 => ⟨S248x248, .f32⟩
  | 3 => ⟨S_, .f32⟩
  | 4 => ⟨S248x248, .f32⟩
  | 5 => ⟨S_, .f32⟩
  | 6 => ⟨S256, .f32⟩
  | 7 => ⟨S_, .f32⟩
  | 8 => ⟨S248x248, .f32⟩
  | 9 => ⟨S_, .f32⟩
  | 10 => ⟨S256, .f32⟩
  | 11 => ⟨S248x248, .f32⟩
  | 12 => ⟨S248x248, .f32⟩
  | 13 => ⟨S_, .f32⟩
  | 14 => ⟨S248x248, .f32⟩
  | 15 => ⟨S248x248, .f32⟩
  | 16 => ⟨S_, .f32⟩
  | 17 => ⟨S248x248, .f32⟩
  | 18 => ⟨S248x248, .f32⟩
  | 19 => ⟨S_, .f32⟩
  | 20 => ⟨S248x248, .f32⟩
  | 21 => ⟨S248x248, .f32⟩
  | 22 => ⟨S248x248, .f32⟩
  | 23 => ⟨S_, .f32⟩
  | 24 => ⟨S248x8, .f32⟩
  | 25 => ⟨S248x256, .f32⟩
  | 26 => ⟨S_, .f32⟩
  | 27 => ⟨S248x8, .f32⟩
  | 28 => ⟨S_, .f32⟩
  | 29 => ⟨S8x256, .f32⟩
  | 30 => ⟨S256x256, .f32⟩
  | 31 => ⟨S_, .f32⟩
  | 32 => ⟨S8x256, .f32⟩
  | 33 => ⟨S248x256, .f32⟩
  | 34 => ⟨S1x248x256, .f32⟩
  | 35 => ⟨S248x256, .f32⟩
  | 36 => ⟨S248x1x256, .f32⟩
  | 37 => ⟨S_, .f32⟩
  | 38 => ⟨S1x248x256, .f32⟩
  | 39 => ⟨S1x248x256, .f32⟩
  | 40 => ⟨S248x248x256, .f32⟩
  | 41 => ⟨S248x248x256, .f32⟩
  | 42 => ⟨S248x248x256, .f32⟩
  | 43 => ⟨S_, .f32⟩
  | 44 => ⟨S248x248x256, .f32⟩
  | 45 => ⟨S248x248x256, .f32⟩
  | 46 => ⟨S248x248x128, .f32⟩
  | 47 => ⟨S248x248x128, .f32⟩
  | 48 => ⟨S248x248x128, .f32⟩
  | 49 => ⟨S248x248x64, .f32⟩
  | 50 => ⟨S248x248x64, .f32⟩
  | 51 => ⟨S248x248x64, .f32⟩
  | 52 => ⟨S248x248x32, .f32⟩
  | 53 => ⟨S248x248x32, .f32⟩
  | 54 => ⟨S248x248x32, .f32⟩
  | 55 => ⟨S248x248x16, .f32⟩
  | 56 => ⟨S248x248x16, .f32⟩
  | 57 => ⟨S248x248x16, .f32⟩
  | 58 => ⟨S248x248x8, .f32⟩
  | 59 => ⟨S248x248x8, .f32⟩
  | 60 => ⟨S248x248x8, .f32⟩
  | 61 => ⟨S248x248x4, .f32⟩
  | 62 => ⟨S248x248x4, .f32⟩
  | 63 => ⟨S248x248x4, .f32⟩
  | 64 => ⟨S248x248x2, .f32⟩
  | 65 => ⟨S248x248x2, .f32⟩
  | 66 => ⟨S248x248x2, .f32⟩
  | 67 => ⟨S248x248x1, .f32⟩
  | 68 => ⟨S248x248x1, .f32⟩
  | 69 => ⟨S248x248x1, .f32⟩
  | 70 => ⟨S248x248, .f32⟩
  | 71 => ⟨S248x248, .i32⟩
  | 72 => ⟨S248x248, .i32⟩
  | 73 => ⟨S_, .i32⟩
  | 74 => ⟨S248x248, .i32⟩
  | 75 => ⟨S248x248, .i32⟩
  | 76 => ⟨S248x248, .i1⟩
  | 77 => ⟨S248x248, .f32⟩
  | 78 => ⟨S_, .f32⟩
  | 79 => ⟨S248x248, .f32⟩
  | 80 => ⟨S248x248, .f32⟩
  | 81 => ⟨S_, .f32⟩
  | 82 => ⟨S248x248, .f32⟩
  | 83 => ⟨S248x248, .f32⟩
  | 84 => ⟨S248x248, .f32⟩
  | 85 => ⟨S248x248, .f32⟩
  | 86 => ⟨S_, .f32⟩
  | 87 => ⟨S248x248, .f32⟩
  | 88 => ⟨S248x248, .f32⟩
  | 89 => ⟨S_, .f32⟩
  | 90 => ⟨S_, .f32⟩
  | 91 => ⟨S_, .f32⟩
  | 92 => ⟨S_, .f32⟩
  | 93 => ⟨S248x256, .f32⟩
  | 94 => ⟨S248, .f32⟩
  | 95 => ⟨S248x1, .f32⟩
  | 96 => ⟨S1x256, .f32⟩
  | 97 => ⟨S248x256, .f32⟩
  | 98 => ⟨S248x256, .f32⟩
  | 99 => ⟨S248x256, .f32⟩
  | 100 => ⟨S_, .f32⟩
  | 101 => ⟨S248x256, .f32⟩
  | 102 => ⟨S248x256, .f32⟩
  | 103 => ⟨S_, .f32⟩
  | 104 => ⟨S248x256, .f32⟩
  | 105 => ⟨S248x256, .f32⟩
  | 106 => ⟨S_, .f32⟩
  | 107 => ⟨S248x256, .f32⟩
  | 108 => ⟨S248x256, .i1⟩
  | 109 => ⟨S_, .f32⟩
  | 110 => ⟨S248x256, .f32⟩
  | 111 => ⟨S248x256, .f32⟩
  | 112 => ⟨S_, .f32⟩
  | 113 => ⟨S248x256, .f32⟩
  | 114 => ⟨S248x256, .f32⟩
  | 115 => ⟨S248x256, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S248x256, .f32⟩
  | 125 => ⟨S248x256, .f32⟩
  | 126 => ⟨S248x256, .f32⟩
  | 127 => ⟨S248x256, .f32⟩
  | _ => ⟨S256x256, .f32⟩

abbrev hbmTy0_1 (i : Nat) : BufTy := match i % 128 with
  | 0 => ⟨S_, .f32⟩
  | 1 => ⟨S248x256, .f32⟩
  | 2 => ⟨S248x256, .f32⟩
  | 3 => ⟨S_, .f32⟩
  | 4 => ⟨S248, .f32⟩
  | 5 => ⟨S248x1, .f32⟩
  | 6 => ⟨S248x256, .f32⟩
  | 7 => ⟨S_, .f32⟩
  | 8 => ⟨S256, .f32⟩
  | 9 => ⟨S1x256, .f32⟩
  | 10 => ⟨S_, .f32⟩
  | 11 => ⟨S256, .f32⟩
  | 12 => ⟨S_, .f32⟩
  | 13 => ⟨S248, .f32⟩
  | 14 => ⟨S_, .f32⟩
  | 15 => ⟨S256, .f32⟩
  | 16 => ⟨S256, .f32⟩
  | 17 => ⟨S_, .f32⟩
  | 18 => ⟨S256x256, .f32⟩
  | 19 => ⟨S_, .f32⟩
  | 20 => ⟨S_, .f32⟩
  | 21 => ⟨S_, .f32⟩
  | 22 => ⟨S248x248, .f32⟩
  | 23 => ⟨S248x248, .f32⟩
  | 24 => ⟨S248x248x1, .f32⟩
  | 25 => ⟨S248x248x1, .f32⟩
  | 26 => ⟨S248x248x1, .f32⟩
  | 27 => ⟨S_, .f32⟩
  | 28 => ⟨S248x248x2, .f32⟩
  | 29 => ⟨S_, .f32⟩
  | 30 => ⟨S248x248x2, .f32⟩
  | 31 => ⟨S248x248x2, .f32⟩
  | 32 => ⟨S248x248x2, .f32⟩
  | 33 => ⟨S248x248x2, .f32⟩
  | 34 => ⟨S_, .f32⟩
  | 35 => ⟨S248x248x4, .f32⟩
  | 36 => ⟨S_, .f32⟩
  | 37 => ⟨S248x248x4, .f32⟩
  | 38 => ⟨S248x248x4, .f32⟩
  | 39 => ⟨S248x248x4, .f32⟩
  | 40 => ⟨S248x248x4, .f32⟩
  | 41 => ⟨S_, .f32⟩
  | 42 => ⟨S248x248x8, .f32⟩
  | 43 => ⟨S_, .f32⟩
  | 44 => ⟨S248x248x8, .f32⟩
  | 45 => ⟨S248x248x8, .f32⟩
  | 46 => ⟨S248x248x8, .f32⟩
  | 47 => ⟨S248x248x8, .f32⟩
  | 48 => ⟨S_, .f32⟩
  | 49 => ⟨S248x248x16, .f32⟩
  | 50 => ⟨S_, .f32⟩
  | 51 => ⟨S248x248x16, .f32⟩
  | 52 => ⟨S248x248x16, .f32⟩
  | 53 => ⟨S248x248x16, .f32⟩
  | 54 => ⟨S248x248x16, .f32⟩
  | 55 => ⟨S_, .f32⟩
  | 56 => ⟨S248x248x32, .f32⟩
  | 57 => ⟨S_, .f32⟩
  | 58 => ⟨S248x248x32, .f32⟩
  | 59 => ⟨S248x248x32, .f32⟩
  | 60 => ⟨S248x248x32, .f32⟩
  | 61 => ⟨S248x248x32, .f32⟩
  | 62 => ⟨S_, .f32⟩
  | 63 => ⟨S248x248x64, .f32⟩
  | 64 => ⟨S_, .f32⟩
  | 65 => ⟨S248x248x64, .f32⟩
  | 66 => ⟨S248x248x64, .f32⟩
  | 67 => ⟨S248x248x64, .f32⟩
  | 68 => ⟨S248x248x64, .f32⟩
  | 69 => ⟨S_, .f32⟩
  | 70 => ⟨S248x248x128, .f32⟩
  | 71 => ⟨S_, .f32⟩
  | 72 => ⟨S248x248x128, .f32⟩
  | 73 => ⟨S248x248x128, .f32⟩
  | 74 => ⟨S248x248x128, .f32⟩
  | 75 => ⟨S248x248x128, .f32⟩
  | 76 => ⟨S_, .f32⟩
  | 77 => ⟨S248x248x256, .f32⟩
  | 78 => ⟨S_, .f32⟩
  | 79 => ⟨S248x248x256, .f32⟩
  | 80 => ⟨S248x248x256, .f32⟩
  | 81 => ⟨S248x248x256, .f32⟩
  | 82 => ⟨S248x248x256, .f32⟩
  | 83 => ⟨S248x248x256, .f32⟩
  | 84 => ⟨S_, .f32⟩
  | 85 => ⟨S248x256, .f32⟩
  | 86 => ⟨S248x1x256, .f32⟩
  | 87 => ⟨S_, .f32⟩
  | 88 => ⟨S248x256, .f32⟩
  | 89 => ⟨S_, .f32⟩
  | 90 => ⟨S256x256, .f32⟩
  | 91 => ⟨S256x256, .f32⟩
  | 92 => ⟨S248x256, .f32⟩
  | 93 => ⟨S8x256, .f32⟩
  | 94 => ⟨S248x8, .f32⟩
  | 95 => ⟨S248x248, .f32⟩
  | 96 => ⟨S248x248, .f32⟩
  | 97 => ⟨S_, .f32⟩
  | 98 => ⟨S248x248, .f32⟩
  | 99 => ⟨S248x248, .f32⟩
  | 100 => ⟨S_, .f32⟩
  | 101 => ⟨S248x248, .f32⟩
  | 102 => ⟨S248x248, .f32⟩
  | 103 => ⟨S248x248, .f32⟩
  | 104 => ⟨S_, .f32⟩
  | 105 => ⟨S256, .f32⟩
  | 106 => ⟨S256, .f32⟩
  | 107 => ⟨S_, .f32⟩
  | 108 => ⟨S256, .f32⟩
  | 109 => ⟨S256, .f32⟩
  | 110 => ⟨S256, .f32⟩
  | 111 => ⟨S_, .f32⟩
  | 112 => ⟨S248x248, .f32⟩
  | 113 => ⟨S248x248, .f32⟩
  | 114 => ⟨S248x248, .f32⟩
  | 115 => ⟨S_, .f32⟩
  | 116 => ⟨S248x248, .f32⟩
  | 117 => ⟨S248x248, .f32⟩
  | 118 => ⟨S248x248, .f32⟩
  | 119 => ⟨S_, .f32⟩
  | 120 => ⟨S256, .f32⟩
  | 121 => ⟨S256, .f32⟩
  | 122 => ⟨S256, .f32⟩
  | 123 => ⟨S_, .f32⟩
  | 124 => ⟨S256, .f32⟩
  | 125 => ⟨S256, .f32⟩
  | 126 => ⟨S256, .f32⟩
  | 127 => ⟨S_, .f32⟩
  | _ => ⟨S256x256, .f32⟩

abbrev hbmTy0_2 (i : Nat) : BufTy := match i % 128 with
  | 0 => ⟨S248x248, .f32⟩
  | 1 => ⟨S248x248, .f32⟩
  | 2 => ⟨S_, .f32⟩
  | 3 => ⟨S256, .f32⟩
  | 4 => ⟨S256, .f32⟩
  | 5 => ⟨S_, .f32⟩
  | 6 => ⟨S248x248, .f32⟩
  | 7 => ⟨S248x248, .f32⟩
  | 8 => ⟨S_, .f32⟩
  | 9 => ⟨S256, .f32⟩
  | 10 => ⟨S256, .f32⟩
  | 11 => ⟨S_, .f32⟩
  | 12 => ⟨S248x248, .f32⟩
  | 13 => ⟨S248x248, .f32⟩
  | 14 => ⟨S248x248, .f32⟩
  | 15 => ⟨S_, .f32⟩
  | 16 => ⟨S248x248, .f32⟩
  | 17 => ⟨S248x248, .f32⟩
  | 18 => ⟨S248x248, .f32⟩
  | 19 => ⟨S248x248, .f32⟩
  | 20 => ⟨S_, .f32⟩
  | 21 => ⟨S256, .f32⟩
  | 22 => ⟨S256, .f32⟩
  | 23 => ⟨S256, .f32⟩
  | 24 => ⟨S_, .f32⟩
  | 25 => ⟨S256, .f32⟩
  | 26 => ⟨S256, .f32⟩
  | 27 => ⟨S256, .f32⟩
  | 28 => ⟨S256, .f32⟩
  | 29 => ⟨S248x248, .f32⟩
  | 30 => ⟨S248x248, .f32⟩
  | 31 => ⟨S_, .f32⟩
  | 32 => ⟨S248x248, .f32⟩
  | 33 => ⟨S248x248, .f32⟩
  | 34 => ⟨S_, .f32⟩
  | 35 => ⟨S248x248, .f32⟩
  | 36 => ⟨S248x248, .f32⟩
  | 37 => ⟨S_, .f32⟩
  | 38 => ⟨S248x248, .f32⟩
  | 39 => ⟨S248x248, .f32⟩
  | 40 => ⟨S248x248, .f32⟩
  | 41 => ⟨S_, .f32⟩
  | 42 => ⟨S248x8, .f32⟩
  | 43 => ⟨S248x256, .f32⟩
  | 44 => ⟨S_, .f32⟩
  | 45 => ⟨S248x8, .f32⟩
  | 46 => ⟨S_, .f32⟩
  | 47 => ⟨S8x256, .f32⟩
  | 48 => ⟨S256x256, .f32⟩
  | 49 => ⟨S_, .f32⟩
  | 50 => ⟨S8x256, .f32⟩
  | 51 => ⟨S248x256, .f32⟩
  | 52 => ⟨S1x248x256, .f32⟩
  | 53 => ⟨S248x256, .f32⟩
  | 54 => ⟨S248x1x256, .f32⟩
  | 55 => ⟨S_, .f32⟩
  | 56 => ⟨S1x248x256, .f32⟩
  | 57 => ⟨S1x248x256, .f32⟩
  | 58 => ⟨S248x248x256, .f32⟩
  | 59 => ⟨S248x248x256, .f32⟩
  | 60 => ⟨S248x248x256, .f32⟩
  | 61 => ⟨S_, .f32⟩
  | 62 => ⟨S248x248x256, .f32⟩
  | 63 => ⟨S248x248x256, .f32⟩
  | 64 => ⟨S248x248x128, .f32⟩
  | 65 => ⟨S248x248x128, .f32⟩
  | 66 => ⟨S248x248x128, .f32⟩
  | 67 => ⟨S248x248x64, .f32⟩
  | 68 => ⟨S248x248x64, .f32⟩
  | 69 => ⟨S248x248x64, .f32⟩
  | 70 => ⟨S248x248x32, .f32⟩
  | 71 => ⟨S248x248x32, .f32⟩
  | 72 => ⟨S248x248x32, .f32⟩
  | 73 => ⟨S248x248x16, .f32⟩
  | 74 => ⟨S248x248x16, .f32⟩
  | 75 => ⟨S248x248x16, .f32⟩
  | 76 => ⟨S248x248x8, .f32⟩
  | 77 => ⟨S248x248x8, .f32⟩
  | 78 => ⟨S248x248x8, .f32⟩
  | 79 => ⟨S248x248x4, .f32⟩
  | 80 => ⟨S248x248x4, .f32⟩
  | 81 => ⟨S248x248x4, .f32⟩
  | 82 => ⟨S248x248x2, .f32⟩
  | 83 => ⟨S248x248x2, .f32⟩
  | 84 => ⟨S248x248x2, .f32⟩
  | 85 => ⟨S248x248x1, .f32⟩
  | 86 => ⟨S248x248x1, .f32⟩
  | 87 => ⟨S248x248x1, .f32⟩
  | 88 => ⟨S248x248, .f32⟩
  | 89 => ⟨S248x248, .i32⟩
  | 90 => ⟨S248x248, .i32⟩
  | 91 => ⟨S_, .i32⟩
  | 92 => ⟨S248x248, .i32⟩
  | 93 => ⟨S248x248, .i32⟩
  | 94 => ⟨S248x248, .i1⟩
  | 95 => ⟨S248x248, .f32⟩
  | 96 => ⟨S_, .f32⟩
  | 97 => ⟨S248x248, .f32⟩
  | 98 => ⟨S248x248, .f32⟩
  | 99 => ⟨S_, .f32⟩
  | 100 => ⟨S248x248, .f32⟩
  | 101 => ⟨S248x248, .f32⟩
  | 102 => ⟨S248x248, .f32⟩
  | 103 => ⟨S248x248, .f32⟩
  | 104 => ⟨S_, .f32⟩
  | 105 => ⟨S248x248, .f32⟩
  | 106 => ⟨S248x248, .f32⟩
  | 107 => ⟨S_, .f32⟩
  | 108 => ⟨S_, .f32⟩
  | 109 => ⟨S_, .f32⟩
  | 110 => ⟨S_, .f32⟩
  | 111 => ⟨S248x256, .f32⟩
  | 112 => ⟨S248, .f32⟩
  | 113 => ⟨S248x1, .f32⟩
  | 114 => ⟨S1x256, .f32⟩
  | 115 => ⟨S248x256, .f32⟩
  | 116 => ⟨S248x256, .f32⟩
  | 117 => ⟨S248x256, .f32⟩
  | 118 => ⟨S_, .f32⟩
  | 119 => ⟨S248x256, .f32⟩
  | 120 => ⟨S248x256, .f32⟩
  | 121 => ⟨S_, .f32⟩
  | 122 => ⟨S248x256, .f32⟩
  | 123 => ⟨S248x256, .f32⟩
  | 124 => ⟨S_, .f32⟩
  | 125 => ⟨S248x256, .f32⟩
  | 126 => ⟨S248x256, .i1⟩
  | 127 => ⟨S_, .f32⟩
  | _ => ⟨S256x256, .f32⟩

abbrev hbmTy0_3 (i : Nat) : BufTy := match i % 128 with
  | 0 => ⟨S248x256, .f32⟩
  | 1 => ⟨S248x256, .f32⟩
  | 2 => ⟨S_, .f32⟩
  | 3 => ⟨S248x256, .f32⟩
  | 4 => ⟨S248x256, .f32⟩
  | 5 => ⟨S248x256, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S248x256, .f32⟩
  | 15 => ⟨S248x256, .f32⟩
  | 16 => ⟨S248x256, .f32⟩
  | 17 => ⟨S248x256, .f32⟩
  | 18 => ⟨S_, .f32⟩
  | 19 => ⟨S248x256, .f32⟩
  | 20 => ⟨S248x256, .f32⟩
  | 21 => ⟨S_, .f32⟩
  | 22 => ⟨S248, .f32⟩
  | 23 => ⟨S248x1, .f32⟩
  | 24 => ⟨S248x256, .f32⟩
  | 25 => ⟨S_, .f32⟩
  | 26 => ⟨S256, .f32⟩
  | 27 => ⟨S1x256, .f32⟩
  | 28 => ⟨S_, .f32⟩
  | 29 => ⟨S256, .f32⟩
  | 30 => ⟨S_, .f32⟩
  | 31 => ⟨S248, .f32⟩
  | 32 => ⟨S_, .f32⟩
  | 33 => ⟨S256, .f32⟩
  | 34 => ⟨S256, .f32⟩
  | 35 => ⟨S_, .f32⟩
  | 36 => ⟨S256x256, .f32⟩
  | 37 => ⟨S_, .f32⟩
  | 38 => ⟨S_, .f32⟩
  | 39 => ⟨S_, .f32⟩
  | 40 => ⟨S248x248, .f32⟩
  | 41 => ⟨S248x248, .f32⟩
  | 42 => ⟨S248x248x1, .f32⟩
  | 43 => ⟨S248x248x1, .f32⟩
  | 44 => ⟨S248x248x1, .f32⟩
  | 45 => ⟨S_, .f32⟩
  | 46 => ⟨S248x248x2, .f32⟩
  | 47 => ⟨S_, .f32⟩
  | 48 => ⟨S248x248x2, .f32⟩
  | 49 => ⟨S248x248x2, .f32⟩
  | 50 => ⟨S248x248x2, .f32⟩
  | 51 => ⟨S248x248x2, .f32⟩
  | 52 => ⟨S_, .f32⟩
  | 53 => ⟨S248x248x4, .f32⟩
  | 54 => ⟨S_, .f32⟩
  | 55 => ⟨S248x248x4, .f32⟩
  | 56 => ⟨S248x248x4, .f32⟩
  | 57 => ⟨S248x248x4, .f32⟩
  | 58 => ⟨S248x248x4, .f32⟩
  | 59 => ⟨S_, .f32⟩
  | 60 => ⟨S248x248x8, .f32⟩
  | 61 => ⟨S_, .f32⟩
  | 62 => ⟨S248x248x8, .f32⟩
  | 63 => ⟨S248x248x8, .f32⟩
  | 64 => ⟨S248x248x8, .f32⟩
  | 65 => ⟨S248x248x8, .f32⟩
  | 66 => ⟨S_, .f32⟩
  | 67 => ⟨S248x248x16, .f32⟩
  | 68 => ⟨S_, .f32⟩
  | 69 => ⟨S248x248x16, .f32⟩
  | 70 => ⟨S248x248x16, .f32⟩
  | 71 => ⟨S248x248x16, .f32⟩
  | 72 => ⟨S248x248x16, .f32⟩
  | 73 => ⟨S_, .f32⟩
  | 74 => ⟨S248x248x32, .f32⟩
  | 75 => ⟨S_, .f32⟩
  | 76 => ⟨S248x248x32, .f32⟩
  | 77 => ⟨S248x248x32, .f32⟩
  | 78 => ⟨S248x248x32, .f32⟩
  | 79 => ⟨S248x248x32, .f32⟩
  | 80 => ⟨S_, .f32⟩
  | 81 => ⟨S248x248x64, .f32⟩
  | 82 => ⟨S_, .f32⟩
  | 83 => ⟨S248x248x64, .f32⟩
  | 84 => ⟨S248x248x64, .f32⟩
  | 85 => ⟨S248x248x64, .f32⟩
  | 86 => ⟨S248x248x64, .f32⟩
  | 87 => ⟨S_, .f32⟩
  | 88 => ⟨S248x248x128, .f32⟩
  | 89 => ⟨S_, .f32⟩
  | 90 => ⟨S248x248x128, .f32⟩
  | 91 => ⟨S248x248x128, .f32⟩
  | 92 => ⟨S248x248x128, .f32⟩
  | 93 => ⟨S248x248x128, .f32⟩
  | 94 => ⟨S_, .f32⟩
  | 95 => ⟨S248x248x256, .f32⟩
  | 96 => ⟨S_, .f32⟩
  | 97 => ⟨S248x248x256, .f32⟩
  | 98 => ⟨S248x248x256, .f32⟩
  | 99 => ⟨S248x248x256, .f32⟩
  | 100 => ⟨S248x248x256, .f32⟩
  | 101 => ⟨S248x248x256, .f32⟩
  | 102 => ⟨S_, .f32⟩
  | 103 => ⟨S248x256, .f32⟩
  | 104 => ⟨S248x1x256, .f32⟩
  | 105 => ⟨S_, .f32⟩
  | 106 => ⟨S248x256, .f32⟩
  | 107 => ⟨S_, .f32⟩
  | 108 => ⟨S256x256, .f32⟩
  | 109 => ⟨S256x256, .f32⟩
  | 110 => ⟨S248x256, .f32⟩
  | 111 => ⟨S8x256, .f32⟩
  | 112 => ⟨S248x8, .f32⟩
  | 113 => ⟨S248x248, .f32⟩
  | 114 => ⟨S248x248, .f32⟩
  | 115 => ⟨S_, .f32⟩
  | 116 => ⟨S248x248, .f32⟩
  | 117 => ⟨S248x248, .f32⟩
  | 118 => ⟨S_, .f32⟩
  | 119 => ⟨S248x248, .f32⟩
  | 120 => ⟨S248x248, .f32⟩
  | 121 => ⟨S248x248, .f32⟩
  | 122 => ⟨S_, .f32⟩
  | 123 => ⟨S256, .f32⟩
  | 124 => ⟨S256, .f32⟩
  | 125 => ⟨S_, .f32⟩
  | 126 => ⟨S256, .f32⟩
  | 127 => ⟨S256, .f32⟩
  | _ => ⟨S256x256, .f32⟩

abbrev hbmTy0_4 (i : Nat) : BufTy := match i % 128 with
  | 0 => ⟨S256, .f32⟩
  | 1 => ⟨S_, .f32⟩
  | 2 => ⟨S248x248, .f32⟩
  | 3 => ⟨S248x248, .f32⟩
  | 4 => ⟨S248x248, .f32⟩
  | 5 => ⟨S_, .f32⟩
  | 6 => ⟨S248x248, .f32⟩
  | 7 => ⟨S248x248, .f32⟩
  | 8 => ⟨S248x248, .f32⟩
  | 9 => ⟨S_, .f32⟩
  | 10 => ⟨S256, .f32⟩
  | 11 => ⟨S256, .f32⟩
  | 12 => ⟨S256, .f32⟩
  | 13 => ⟨S_, .f32⟩
  | 14 => ⟨S256, .f32⟩
  | 15 => ⟨S256, .f32⟩
  | 16 => ⟨S256, .f32⟩
  | 17 => ⟨S_, .f32⟩
  | 18 => ⟨S248x248, .f32⟩
  | 19 => ⟨S248x248, .f32⟩
  | 20 => ⟨S_, .f32⟩
  | 21 => ⟨S256, .f32⟩
  | 22 => ⟨S256, .f32⟩
  | 23 => ⟨S_, .f32⟩
  | 24 => ⟨S248x248, .f32⟩
  | 25 => ⟨S248x248, .f32⟩
  | 26 => ⟨S_, .f32⟩
  | 27 => ⟨S256, .f32⟩
  | 28 => ⟨S256, .f32⟩
  | 29 => ⟨S_, .f32⟩
  | 30 => ⟨S248x248, .f32⟩
  | 31 => ⟨S248x248, .f32⟩
  | 32 => ⟨S248x248, .f32⟩
  | 33 => ⟨S_, .f32⟩
  | 34 => ⟨S248x248, .f32⟩
  | 35 => ⟨S248x248, .f32⟩
  | 36 => ⟨S248x248, .f32⟩
  | 37 => ⟨S248x248, .f32⟩
  | 38 => ⟨S_, .f32⟩
  | 39 => ⟨S256, .f32⟩
  | 40 => ⟨S256, .f32⟩
  | 41 => ⟨S256, .f32⟩
  | 42 => ⟨S_, .f32⟩
  | 43 => ⟨S256, .f32⟩
  | 44 => ⟨S256, .f32⟩
  | 45 => ⟨S256, .f32⟩
  | 46 => ⟨S256, .f32⟩
  | 47 => ⟨S248x248, .f32⟩
  | 48 => ⟨S248x248, .f32⟩
  | 49 => ⟨S_, .f32⟩
  | 50 => ⟨S248x248, .f32⟩
  | 51 => ⟨S248x248, .f32⟩
  | 52 => ⟨S_, .f32⟩
  | 53 => ⟨S248x248, .f32⟩
  | 54 => ⟨S248x248, .f32⟩
  | 55 => ⟨S_, .f32⟩
  | 56 => ⟨S248x248, .f32⟩
  | 57 => ⟨S248x248, .f32⟩
  | 58 => ⟨S248x248, .f32⟩
  | 59 => ⟨S_, .f32⟩
  | 60 => ⟨S248x8, .f32⟩
  | 61 => ⟨S248x256, .f32⟩
  | 62 => ⟨S_, .f32⟩
  | 63 => ⟨S248x8, .f32⟩
  | 64 => ⟨S_, .f32⟩
  | 65 => ⟨S8x256, .f32⟩
  | 66 => ⟨S256x256, .f32⟩
  | 67 => ⟨S_, .f32⟩
  | 68 => ⟨S8x256, .f32⟩
  | 69 => ⟨S248x256, .f32⟩
  | 70 => ⟨S1x248x256, .f32⟩
  | 71 => ⟨S248x256, .f32⟩
  | 72 => ⟨S248x1x256, .f32⟩
  | 73 => ⟨S_, .f32⟩
  | 74 => ⟨S1x248x256, .f32⟩
  | 75 => ⟨S1x248x256, .f32⟩
  | 76 => ⟨S248x248x256, .f32⟩
  | 77 => ⟨S248x248x256, .f32⟩
  | 78 => ⟨S248x248x256, .f32⟩
  | 79 => ⟨S_, .f32⟩
  | 80 => ⟨S248x248x256, .f32⟩
  | 81 => ⟨S248x248x256, .f32⟩
  | 82 => ⟨S248x248x128, .f32⟩
  | 83 => ⟨S248x248x128, .f32⟩
  | 84 => ⟨S248x248x128, .f32⟩
  | 85 => ⟨S248x248x64, .f32⟩
  | 86 => ⟨S248x248x64, .f32⟩
  | 87 => ⟨S248x248x64, .f32⟩
  | 88 => ⟨S248x248x32, .f32⟩
  | 89 => ⟨S248x248x32, .f32⟩
  | 90 => ⟨S248x248x32, .f32⟩
  | 91 => ⟨S248x248x16, .f32⟩
  | 92 => ⟨S248x248x16, .f32⟩
  | 93 => ⟨S248x248x16, .f32⟩
  | 94 => ⟨S248x248x8, .f32⟩
  | 95 => ⟨S248x248x8, .f32⟩
  | 96 => ⟨S248x248x8, .f32⟩
  | 97 => ⟨S248x248x4, .f32⟩
  | 98 => ⟨S248x248x4, .f32⟩
  | 99 => ⟨S248x248x4, .f32⟩
  | 100 => ⟨S248x248x2, .f32⟩
  | 101 => ⟨S248x248x2, .f32⟩
  | 102 => ⟨S248x248x2, .f32⟩
  | 103 => ⟨S248x248x1, .f32⟩
  | 104 => ⟨S248x248x1, .f32⟩
  | 105 => ⟨S248x248x1, .f32⟩
  | 106 => ⟨S248x248, .f32⟩
  | 107 => ⟨S248x248, .i32⟩
  | 108 => ⟨S248x248, .i32⟩
  | 109 => ⟨S_, .i32⟩
  | 110 => ⟨S248x248, .i32⟩
  | 111 => ⟨S248x248, .i32⟩
  | 112 => ⟨S248x248, .i1⟩
  | 113 => ⟨S248x248, .f32⟩
  | 114 => ⟨S_, .f32⟩
  | 115 => ⟨S248x248, .f32⟩
  | 116 => ⟨S248x248, .f32⟩
  | 117 => ⟨S_, .f32⟩
  | 118 => ⟨S248x248, .f32⟩
  | 119 => ⟨S248x248, .f32⟩
  | 120 => ⟨S248x248, .f32⟩
  | 121 => ⟨S248x248, .f32⟩
  | 122 => ⟨S_, .f32⟩
  | 123 => ⟨S248x248, .f32⟩
  | 124 => ⟨S248x248, .f32⟩
  | 125 => ⟨S_, .f32⟩
  | 126 => ⟨S_, .f32⟩
  | 127 => ⟨S_, .f32⟩
  | _ => ⟨S256x256, .f32⟩

abbrev hbmTy0_5 (i : Nat) : BufTy := match i % 128 with
  | 0 => ⟨S_, .f32⟩
  | 1 => ⟨S248x256, .f32⟩
  | 2 => ⟨S248, .f32⟩
  | 3 => ⟨S248x1, .f32⟩
  | 4 => ⟨S1x256, .f32⟩
  | 5 => ⟨S248x256, .f32⟩
  | 6 => ⟨S248x256, .f32⟩
  | 7 => ⟨S248x256, .f32⟩
  | 8 => ⟨S_, .f32⟩
  | 9 => ⟨S248x256, .f32⟩
  | 10 => ⟨S248x256, .f32⟩
  | 11 => ⟨S_, .f32⟩
  | 12 => ⟨S248x256, .f32⟩
  | 13 => ⟨S248x256, .f32⟩
  | 14 => ⟨S_, .f32⟩
  | 15 => ⟨S248x256, .f32⟩
  | 16 => ⟨S248x256, .i1⟩
  | 17 => ⟨S_, .f32⟩
  | 18 => ⟨S248x256, .f32⟩
  | 19 => ⟨S248x256, .f32⟩
  | 20 => ⟨S_, .f32⟩
  | 21 => ⟨S248x256, .f32⟩
  | 22 => ⟨S248x256, .f32⟩
  | 23 => ⟨S248x256, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S248x256, .f32⟩
  | 33 => ⟨S248x256, .f32⟩
  | 34 => ⟨S248x256, .f32⟩
  | 35 => ⟨S248x256, .f32⟩
  | 36 => ⟨S_, .f32⟩
  | 37 => ⟨S248x256, .f32⟩
  | 38 => ⟨S248x256, .f32⟩
  | 39 => ⟨S_, .f32⟩
  | 40 => ⟨S248, .f32⟩
  | 41 => ⟨S248x1, .f32⟩
  | 42 => ⟨S248x256, .f32⟩
  | 43 => ⟨S_, .f32⟩
  | 44 => ⟨S256, .f32⟩
  | 45 => ⟨S1x256, .f32⟩
  | 46 => ⟨S_, .f32⟩
  | 47 => ⟨S256, .f32⟩
  | 48 => ⟨S_, .f32⟩
  | 49 => ⟨S248, .f32⟩
  | 50 => ⟨S_, .f32⟩
  | 51 => ⟨S256, .f32⟩
  | 52 => ⟨S256, .f32⟩
  | 53 => ⟨S_, .f32⟩
  | 54 => ⟨S256x256, .f32⟩
  | 55 => ⟨S_, .f32⟩
  | 56 => ⟨S_, .f32⟩
  | 57 => ⟨S_, .f32⟩
  | 58 => ⟨S248x248, .f32⟩
  | 59 => ⟨S248x248, .f32⟩
  | 60 => ⟨S248x248x1, .f32⟩
  | 61 => ⟨S248x248x1, .f32⟩
  | 62 => ⟨S248x248x1, .f32⟩
  | 63 => ⟨S_, .f32⟩
  | 64 => ⟨S248x248x2, .f32⟩
  | 65 => ⟨S_, .f32⟩
  | 66 => ⟨S248x248x2, .f32⟩
  | 67 => ⟨S248x248x2, .f32⟩
  | 68 => ⟨S248x248x2, .f32⟩
  | 69 => ⟨S248x248x2, .f32⟩
  | 70 => ⟨S_, .f32⟩
  | 71 => ⟨S248x248x4, .f32⟩
  | 72 => ⟨S_, .f32⟩
  | 73 => ⟨S248x248x4, .f32⟩
  | 74 => ⟨S248x248x4, .f32⟩
  | 75 => ⟨S248x248x4, .f32⟩
  | 76 => ⟨S248x248x4, .f32⟩
  | 77 => ⟨S_, .f32⟩
  | 78 => ⟨S248x248x8, .f32⟩
  | 79 => ⟨S_, .f32⟩
  | 80 => ⟨S248x248x8, .f32⟩
  | 81 => ⟨S248x248x8, .f32⟩
  | 82 => ⟨S248x248x8, .f32⟩
  | 83 => ⟨S248x248x8, .f32⟩
  | 84 => ⟨S_, .f32⟩
  | 85 => ⟨S248x248x16, .f32⟩
  | 86 => ⟨S_, .f32⟩
  | 87 => ⟨S248x248x16, .f32⟩
  | 88 => ⟨S248x248x16, .f32⟩
  | 89 => ⟨S248x248x16, .f32⟩
  | 90 => ⟨S248x248x16, .f32⟩
  | 91 => ⟨S_, .f32⟩
  | 92 => ⟨S248x248x32, .f32⟩
  | 93 => ⟨S_, .f32⟩
  | 94 => ⟨S248x248x32, .f32⟩
  | 95 => ⟨S248x248x32, .f32⟩
  | 96 => ⟨S248x248x32, .f32⟩
  | 97 => ⟨S248x248x32, .f32⟩
  | 98 => ⟨S_, .f32⟩
  | 99 => ⟨S248x248x64, .f32⟩
  | 100 => ⟨S_, .f32⟩
  | 101 => ⟨S248x248x64, .f32⟩
  | 102 => ⟨S248x248x64, .f32⟩
  | 103 => ⟨S248x248x64, .f32⟩
  | 104 => ⟨S248x248x64, .f32⟩
  | 105 => ⟨S_, .f32⟩
  | 106 => ⟨S248x248x128, .f32⟩
  | 107 => ⟨S_, .f32⟩
  | 108 => ⟨S248x248x128, .f32⟩
  | 109 => ⟨S248x248x128, .f32⟩
  | 110 => ⟨S248x248x128, .f32⟩
  | 111 => ⟨S248x248x128, .f32⟩
  | 112 => ⟨S_, .f32⟩
  | 113 => ⟨S248x248x256, .f32⟩
  | 114 => ⟨S_, .f32⟩
  | 115 => ⟨S248x248x256, .f32⟩
  | 116 => ⟨S248x248x256, .f32⟩
  | 117 => ⟨S248x248x256, .f32⟩
  | 118 => ⟨S248x248x256, .f32⟩
  | 119 => ⟨S248x248x256, .f32⟩
  | 120 => ⟨S_, .f32⟩
  | 121 => ⟨S248x256, .f32⟩
  | 122 => ⟨S248x1x256, .f32⟩
  | 123 => ⟨S_, .f32⟩
  | 124 => ⟨S248x256, .f32⟩
  | 125 => ⟨S_, .f32⟩
  | 126 => ⟨S256x256, .f32⟩
  | 127 => ⟨S256x256, .f32⟩
  | _ => ⟨S256x256, .f32⟩

abbrev hbmTy0_6 (i : Nat) : BufTy := match i % 128 with
  | 0 => ⟨S248x256, .f32⟩
  | 1 => ⟨S8x256, .f32⟩
  | 2 => ⟨S248x8, .f32⟩
  | 3 => ⟨S248x248, .f32⟩
  | 4 => ⟨S248x248, .f32⟩
  | 5 => ⟨S_, .f32⟩
  | 6 => ⟨S248x248, .f32⟩
  | 7 => ⟨S248x248, .f32⟩
  | 8 => ⟨S_, .f32⟩
  | 9 => ⟨S248x248, .f32⟩
  | 10 => ⟨S248x248, .f32⟩
  | 11 => ⟨S248x248, .f32⟩
  | 12 => ⟨S_, .f32⟩
  | 13 => ⟨S256, .f32⟩
  | 14 => ⟨S256, .f32⟩
  | 15 => ⟨S_, .f32⟩
  | 16 => ⟨S256, .f32⟩
  | 17 => ⟨S256, .f32⟩
  | 18 => ⟨S256, .f32⟩
  | 19 => ⟨S_, .f32⟩
  | 20 => ⟨S248x248, .f32⟩
  | 21 => ⟨S248x248, .f32⟩
  | 22 => ⟨S248x248, .f32⟩
  | 23 => ⟨S_, .f32⟩
  | 24 => ⟨S248x248, .f32⟩
  | 25 => ⟨S248x248, .f32⟩
  | 26 => ⟨S248x248, .f32⟩
  | 27 => ⟨S_, .f32⟩
  | 28 => ⟨S256, .f32⟩
  | 29 => ⟨S256, .f32⟩
  | 30 => ⟨S256, .f32⟩
  | 31 => ⟨S_, .f32⟩
  | 32 => ⟨S256, .f32⟩
  | 33 => ⟨S256, .f32⟩
  | 34 => ⟨S256, .f32⟩
  | 35 => ⟨S_, .f32⟩
  | 36 => ⟨S248x248, .f32⟩
  | 37 => ⟨S248x248, .f32⟩
  | 38 => ⟨S_, .f32⟩
  | 39 => ⟨S256, .f32⟩
  | 40 => ⟨S256, .f32⟩
  | 41 => ⟨S_, .f32⟩
  | 42 => ⟨S248x248, .f32⟩
  | 43 => ⟨S248x248, .f32⟩
  | 44 => ⟨S_, .f32⟩
  | 45 => ⟨S256, .f32⟩
  | 46 => ⟨S256, .f32⟩
  | 47 => ⟨S_, .f32⟩
  | 48 => ⟨S248x248, .f32⟩
  | 49 => ⟨S248x248, .f32⟩
  | 50 => ⟨S248x248, .f32⟩
  | 51 => ⟨S_, .f32⟩
  | 52 => ⟨S248x248, .f32⟩
  | 53 => ⟨S248x248, .f32⟩
  | 54 => ⟨S248x248, .f32⟩
  | 55 => ⟨S248x248, .f32⟩
  | 56 => ⟨S_, .f32⟩
  | 57 => ⟨S256, .f32⟩
  | 58 => ⟨S256, .f32⟩
  | 59 => ⟨S256, .f32⟩
  | 60 => ⟨S_, .f32⟩
  | 61 => ⟨S256, .f32⟩
  | 62 => ⟨S256, .f32⟩
  | 63 => ⟨S256, .f32⟩
  | 64 => ⟨S256, .f32⟩
  | 65 => ⟨S248x248, .f32⟩
  | 66 => ⟨S248x248, .f32⟩
  | 67 => ⟨S_, .f32⟩
  | 68 => ⟨S248x248, .f32⟩
  | 69 => ⟨S248x248, .f32⟩
  | 70 => ⟨S_, .f32⟩
  | 71 => ⟨S248x248, .f32⟩
  | 72 => ⟨S248x248, .f32⟩
  | 73 => ⟨S_, .f32⟩
  | 74 => ⟨S248x8, .f32⟩
  | 75 => ⟨S248x256, .f32⟩
  | 76 => ⟨S_, .f32⟩
  | 77 => ⟨S8x256, .f32⟩
  | 78 => ⟨S256x256, .f32⟩
  | 79 => ⟨S248x256, .f32⟩
  | 80 => ⟨S1x248x256, .f32⟩
  | 81 => ⟨S248x256, .f32⟩
  | 82 => ⟨S248x1x256, .f32⟩
  | 83 => ⟨S_, .f32⟩
  | 84 => ⟨S1x248x256, .f32⟩
  | 85 => ⟨S1x248x256, .f32⟩
  | 86 => ⟨S248x248x256, .f32⟩
  | 87 => ⟨S248x248x256, .f32⟩
  | 88 => ⟨S248x248x256, .f32⟩
  | 89 => ⟨S_, .f32⟩
  | 90 => ⟨S248x248x256, .f32⟩
  | 91 => ⟨S248x248x256, .f32⟩
  | 92 => ⟨S248x248x128, .f32⟩
  | 93 => ⟨S248x248x128, .f32⟩
  | 94 => ⟨S248x248x128, .f32⟩
  | 95 => ⟨S248x248x64, .f32⟩
  | 96 => ⟨S248x248x64, .f32⟩
  | 97 => ⟨S248x248x64, .f32⟩
  | 98 => ⟨S248x248x32, .f32⟩
  | 99 => ⟨S248x248x32, .f32⟩
  | 100 => ⟨S248x248x32, .f32⟩
  | 101 => ⟨S248x248x16, .f32⟩
  | 102 => ⟨S248x248x16, .f32⟩
  | 103 => ⟨S248x248x16, .f32⟩
  | 104 => ⟨S248x248x8, .f32⟩
  | 105 => ⟨S248x248x8, .f32⟩
  | 106 => ⟨S248x248x8, .f32⟩
  | 107 => ⟨S248x248x4, .f32⟩
  | 108 => ⟨S248x248x4, .f32⟩
  | 109 => ⟨S248x248x4, .f32⟩
  | 110 => ⟨S248x248x2, .f32⟩
  | 111 => ⟨S248x248x2, .f32⟩
  | 112 => ⟨S248x248x2, .f32⟩
  | 113 => ⟨S248x248x1, .f32⟩
  | 114 => ⟨S248x248x1, .f32⟩
  | 115 => ⟨S248x248x1, .f32⟩
  | 116 => ⟨S248x248, .f32⟩
  | 117 => ⟨S248x248, .i32⟩
  | 118 => ⟨S248x248, .i32⟩
  | 119 => ⟨S_, .i32⟩
  | 120 => ⟨S248x248, .i32⟩
  | 121 => ⟨S248x248, .i32⟩
  | 122 => ⟨S248x248, .i1⟩
  | 123 => ⟨S248x248, .f32⟩
  | 124 => ⟨S_, .f32⟩
  | 125 => ⟨S248x248, .f32⟩
  | 126 => ⟨S248x248, .f32⟩
  | 127 => ⟨S_, .f32⟩
  | _ => ⟨S256x256, .f32⟩

abbrev hbmTy0_7 (i : Nat) : BufTy := match i % 128 with
  | 0 => ⟨S248x248, .f32⟩
  | 1 => ⟨S248x248, .f32⟩
  | 2 => ⟨S248x248, .f32⟩
  | 3 => ⟨S248x248, .f32⟩
  | 4 => ⟨S_, .f32⟩
  | 5 => ⟨S_, .f32⟩
  | 6 => ⟨S_, .f32⟩
  | 7 => ⟨S_, .f32⟩
  | 8 => ⟨S248x256, .f32⟩
  | 9 => ⟨S248, .f32⟩
  | 10 => ⟨S248x1, .f32⟩
  | 11 => ⟨S1x256, .f32⟩
  | 12 => ⟨S248x256, .f32⟩
  | 13 => ⟨S248x256, .f32⟩
  | 14 => ⟨S248x256, .f32⟩
  | 15 => ⟨S_, .f32⟩
  | 16 => ⟨S248x256, .f32⟩
  | 17 => ⟨S248x256, .f32⟩
  | 18 => ⟨S_, .f32⟩
  | 19 => ⟨S248x256, .f32⟩
  | 20 => ⟨S248x256, .f32⟩
  | 21 => ⟨S248x256, .f32⟩
  | 22 => ⟨S248x256, .f32⟩
  | 23 => ⟨S_, .f32⟩
  | 24 => ⟨S_, .f32⟩
  | 25 => ⟨S_, .f32⟩
  | 26 => ⟨S_, .f32⟩
  | 27 => ⟨S_, .f32⟩
  | _ => ⟨S256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S256x256, .f32⟩

abbrev bufTy : (tb : Table) → Fin (tcTables nBuf tb) → BufTy
  | .hbm, ⟨i, _⟩ => hbmTy i
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_v7 : Ref sig .tc := ⟨.hbm, 15, rfl⟩
abbrev main_cst_4 : Ref sig .tc := ⟨.hbm, 16, rfl⟩
abbrev main_v8 : Ref sig .tc := ⟨.hbm, 17, rfl⟩
abbrev main_v9 : Ref sig .tc := ⟨.hbm, 18, rfl⟩
abbrev main_cst_5 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_6 : Ref sig .tc := ⟨.hbm, 23, rfl⟩
abbrev main_v13 : Ref sig .tc := ⟨.hbm, 24, rfl⟩
abbrev main_v14 : Ref sig .tc := ⟨.hbm, 25, rfl⟩
abbrev main_cst_7 : Ref sig .tc := ⟨.hbm, 26, rfl⟩
abbrev main_v15 : Ref sig .tc := ⟨.hbm, 27, rfl⟩
abbrev main_cst_8 : Ref sig .tc := ⟨.hbm, 28, rfl⟩
abbrev main_v16 : Ref sig .tc := ⟨.hbm, 29, rfl⟩
abbrev main_v17 : Ref sig .tc := ⟨.hbm, 30, rfl⟩
abbrev main_cst_9 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_10 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_11 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_cst_13 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_cst_15 : Ref sig .tc := ⟨.hbm, 89, rfl⟩
abbrev main_v69 : Ref sig .tc := ⟨.hbm, 90, rfl⟩
abbrev main_cst_16 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_17 : Ref sig .tc := ⟨.hbm, 100, rfl⟩
abbrev main_v78 : Ref sig .tc := ⟨.hbm, 101, rfl⟩
abbrev main_v79 : Ref sig .tc := ⟨.hbm, 102, rfl⟩
abbrev main_call0_cst : Ref sig .tc := ⟨.hbm, 103, rfl⟩
abbrev main_call0_v0 : Ref sig .tc := ⟨.hbm, 104, rfl⟩
abbrev main_v80 : Ref sig .tc := ⟨.hbm, 105, rfl⟩
abbrev main_cst_18 : Ref sig .tc := ⟨.hbm, 106, rfl⟩
abbrev main_v81 : Ref sig .tc := ⟨.hbm, 107, rfl⟩
abbrev main_v82 : Ref sig .tc := ⟨.hbm, 108, rfl⟩
abbrev main_cst_19 : Ref sig .tc := ⟨.hbm, 109, rfl⟩
abbrev main_v83 : Ref sig .tc := ⟨.hbm, 110, rfl⟩
abbrev main_v84 : Ref sig .tc := ⟨.hbm, 111, rfl⟩
abbrev main_cst_20 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_21 : Ref sig .tc := ⟨.hbm, 116, rfl⟩
abbrev main_v88 : Ref sig .tc := ⟨.hbm, 117, rfl⟩
abbrev main_cst_22 : Ref sig .tc := ⟨.hbm, 118, rfl⟩
abbrev main_v89 : Ref sig .tc := ⟨.hbm, 119, rfl⟩
abbrev main_v90 : Ref sig .tc := ⟨.hbm, 120, rfl⟩
abbrev main_cst_23 : Ref sig .tc := ⟨.hbm, 121, rfl⟩
abbrev main_cst_24 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_25 : Ref sig .tc := ⟨.hbm, 128, rfl⟩
abbrev main_v96 : Ref sig .tc := ⟨.hbm, 129, rfl⟩
abbrev main_v97 : Ref sig .tc := ⟨.hbm, 130, rfl⟩
abbrev main_cst_26 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_27 : Ref sig .tc := ⟨.hbm, 135, rfl⟩
abbrev main_v101 : Ref sig .tc := ⟨.hbm, 136, rfl⟩
abbrev main_v102 : Ref sig .tc := ⟨.hbm, 137, rfl⟩
abbrev main_cst_28 : Ref sig .tc := ⟨.hbm, 138, rfl⟩
abbrev main_v103 : Ref sig .tc := ⟨.hbm, 139, rfl⟩
abbrev main_cst_29 : Ref sig .tc := ⟨.hbm, 140, rfl⟩
abbrev main_v104 : Ref sig .tc := ⟨.hbm, 141, rfl⟩
abbrev main_cst_30 : Ref sig .tc := ⟨.hbm, 142, rfl⟩
abbrev main_v105 : Ref sig .tc := ⟨.hbm, 143, rfl⟩
abbrev main_v106 : Ref sig .tc := ⟨.hbm, 144, rfl⟩
abbrev main_cst_31 : Ref sig .tc := ⟨.hbm, 145, rfl⟩
abbrev main_v107 : Ref sig .tc := ⟨.hbm, 146, rfl⟩
abbrev main_cst_32 : Ref sig .tc := ⟨.hbm, 147, rfl⟩
abbrev main_cst_33 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_34 : Ref sig .tc := ⟨.hbm, 155, rfl⟩
abbrev main_v114 : Ref sig .tc := ⟨.hbm, 156, rfl⟩
abbrev main_cst_35 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_36 : Ref sig .tc := ⟨.hbm, 162, rfl⟩
abbrev main_v119 : Ref sig .tc := ⟨.hbm, 163, rfl⟩
abbrev main_cst_37 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_cst_38 : Ref sig .tc := ⟨.hbm, 169, rfl⟩
abbrev main_v124 : Ref sig .tc := ⟨.hbm, 170, rfl⟩
abbrev main_cst_39 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_40 : Ref sig .tc := ⟨.hbm, 176, rfl⟩
abbrev main_v129 : Ref sig .tc := ⟨.hbm, 177, rfl⟩
abbrev main_cst_41 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_42 : Ref sig .tc := ⟨.hbm, 183, rfl⟩
abbrev main_v134 : Ref sig .tc := ⟨.hbm, 184, rfl⟩
abbrev main_cst_43 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_cst_44 : Ref sig .tc := ⟨.hbm, 190, rfl⟩
abbrev main_v139 : Ref sig .tc := ⟨.hbm, 191, rfl⟩
abbrev main_cst_45 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_cst_46 : Ref sig .tc := ⟨.hbm, 197, rfl⟩
abbrev main_v144 : Ref sig .tc := ⟨.hbm, 198, rfl⟩
abbrev main_cst_47 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_cst_48 : Ref sig .tc := ⟨.hbm, 204, rfl⟩
abbrev main_v149 : Ref sig .tc := ⟨.hbm, 205, rfl⟩
abbrev main_cst_49 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_cst_50 : Ref sig .tc := ⟨.hbm, 212, rfl⟩
abbrev main_v155 : Ref sig .tc := ⟨.hbm, 213, rfl⟩
abbrev main_v156 : Ref sig .tc := ⟨.hbm, 214, rfl⟩
abbrev main_cst_51 : Ref sig .tc := ⟨.hbm, 215, rfl⟩
abbrev main_v157 : Ref sig .tc := ⟨.hbm, 216, rfl⟩
abbrev main_cst_52 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_cst_53 : Ref sig .tc := ⟨.hbm, 225, rfl⟩
abbrev main_v165 : Ref sig .tc := ⟨.hbm, 226, rfl⟩
abbrev main_v166 : Ref sig .tc := ⟨.hbm, 227, rfl⟩
abbrev main_cst_54 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_cst_55 : Ref sig .tc := ⟨.hbm, 232, rfl⟩
abbrev main_v170 : Ref sig .tc := ⟨.hbm, 233, rfl⟩
abbrev main_v171 : Ref sig .tc := ⟨.hbm, 234, rfl⟩
abbrev main_cst_56 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_cst_57 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_cst_58 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_cst_59 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_cst_60 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_cst_61 : Ref sig .tc := ⟨.hbm, 255, rfl⟩
abbrev main_v187 : Ref sig .tc := ⟨.hbm, 256, rfl⟩
abbrev main_v188 : Ref sig .tc := ⟨.hbm, 257, rfl⟩
abbrev main_cst_62 : Ref sig .tc := ⟨.hbm, 258, rfl⟩
abbrev main_v189 : Ref sig .tc := ⟨.hbm, 259, rfl⟩
abbrev main_v190 : Ref sig .tc := ⟨.hbm, 260, rfl⟩
abbrev main_cst_63 : Ref sig .tc := ⟨.hbm, 261, rfl⟩
abbrev main_v191 : Ref sig .tc := ⟨.hbm, 262, rfl⟩
abbrev main_v192 : Ref sig .tc := ⟨.hbm, 263, rfl⟩
abbrev main_cst_64 : Ref sig .tc := ⟨.hbm, 264, rfl⟩
abbrev main_v193 : Ref sig .tc := ⟨.hbm, 265, rfl⟩
abbrev main_v194 : Ref sig .tc := ⟨.hbm, 266, rfl⟩
abbrev main_cst_65 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_cst_66 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_cst_67 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_cst_68 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_cst_69 : Ref sig .tc := ⟨.hbm, 287, rfl⟩
abbrev main_v211 : Ref sig .tc := ⟨.hbm, 288, rfl⟩
abbrev main_v212 : Ref sig .tc := ⟨.hbm, 289, rfl⟩
abbrev main_cst_70 : Ref sig .tc := ⟨.hbm, 290, rfl⟩
abbrev main_v213 : Ref sig .tc := ⟨.hbm, 291, rfl⟩
abbrev main_v214 : Ref sig .tc := ⟨.hbm, 292, rfl⟩
abbrev main_cst_71 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_cst_72 : Ref sig .tc := ⟨.hbm, 297, rfl⟩
abbrev main_v218 : Ref sig .tc := ⟨.hbm, 298, rfl⟩
abbrev main_v219 : Ref sig .tc := ⟨.hbm, 299, rfl⟩
abbrev main_cst_73 : Ref sig .tc := ⟨.hbm, 300, rfl⟩
abbrev main_v220 : Ref sig .tc := ⟨.hbm, 301, rfl⟩
abbrev main_cst_74 : Ref sig .tc := ⟨.hbm, 302, rfl⟩
abbrev main_v221 : Ref sig .tc := ⟨.hbm, 303, rfl⟩
abbrev main_v222 : Ref sig .tc := ⟨.hbm, 304, rfl⟩
abbrev main_cst_75 : Ref sig .tc := ⟨.hbm, 305, rfl⟩
abbrev main_v223 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩
abbrev main_v227 : Ref sig .tc := ⟨.hbm, 310, rfl⟩
abbrev main_cst_76 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_cst_77 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_v238 : Ref sig .tc := ⟨.hbm, 323, rfl⟩
abbrev main_v239 : Ref sig .tc := ⟨.hbm, 324, rfl⟩
abbrev main_v240 : Ref sig .tc := ⟨.hbm, 325, rfl⟩
abbrev main_v241 : Ref sig .tc := ⟨.hbm, 326, rfl⟩
abbrev main_v242 : Ref sig .tc := ⟨.hbm, 327, rfl⟩
abbrev main_v243 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_v248 : Ref sig .tc := ⟨.hbm, 333, rfl⟩
abbrev main_v249 : Ref sig .tc := ⟨.hbm, 334, rfl⟩
abbrev main_v250 : Ref sig .tc := ⟨.hbm, 335, rfl⟩
abbrev main_v251 : Ref sig .tc := ⟨.hbm, 336, rfl⟩
abbrev main_v252 : Ref sig .tc := ⟨.hbm, 337, rfl⟩
abbrev main_v253 : Ref sig .tc := ⟨.hbm, 338, rfl⟩
abbrev main_v254 : Ref sig .tc := ⟨.hbm, 339, rfl⟩
abbrev main_v255 : Ref sig .tc := ⟨.hbm, 340, rfl⟩
abbrev main_v256 : Ref sig .tc := ⟨.hbm, 341, rfl⟩
abbrev main_v257 : Ref sig .tc := ⟨.hbm, 342, rfl⟩
abbrev main_v258 : Ref sig .tc := ⟨.hbm, 343, rfl⟩
abbrev main_v259 : Ref sig .tc := ⟨.hbm, 344, rfl⟩
abbrev main_v260 : Ref sig .tc := ⟨.hbm, 345, rfl⟩
abbrev main_v261 : Ref sig .tc := ⟨.hbm, 346, rfl⟩
abbrev main_c_78 : Ref sig .tc := ⟨.hbm, 347, rfl⟩
abbrev main_v262 : Ref sig .tc := ⟨.hbm, 348, rfl⟩
abbrev main_v263 : Ref sig .tc := ⟨.hbm, 349, rfl⟩
abbrev main_v264 : Ref sig .tc := ⟨.hbm, 350, rfl⟩
abbrev main_v265 : Ref sig .tc := ⟨.hbm, 351, rfl⟩
abbrev main_cst_79 : Ref sig .tc := ⟨.hbm, 352, rfl⟩
abbrev main_v266 : Ref sig .tc := ⟨.hbm, 353, rfl⟩
abbrev main_v267 : Ref sig .tc := ⟨.hbm, 354, rfl⟩
abbrev main_cst_80 : Ref sig .tc := ⟨.hbm, 355, rfl⟩
abbrev main_v268 : Ref sig .tc := ⟨.hbm, 356, rfl⟩
abbrev main_v269 : Ref sig .tc := ⟨.hbm, 357, rfl⟩
abbrev main_v270 : Ref sig .tc := ⟨.hbm, 358, rfl⟩
abbrev main_v271 : Ref sig .tc := ⟨.hbm, 359, rfl⟩
abbrev main_cst_81 : Ref sig .tc := ⟨.hbm, 360, rfl⟩
abbrev main_v272 : Ref sig .tc := ⟨.hbm, 361, rfl⟩
abbrev main_v273 : Ref sig .tc := ⟨.hbm, 362, rfl⟩
abbrev main_cst_82 : Ref sig .tc := ⟨.hbm, 363, rfl⟩
abbrev main_v274 : Ref sig .tc := ⟨.hbm, 364, rfl⟩
abbrev main_cst_83 : Ref sig .tc := ⟨.hbm, 365, rfl⟩
abbrev main_v275 : Ref sig .tc := ⟨.hbm, 366, rfl⟩
abbrev main_v276 : Ref sig .tc := ⟨.hbm, 367, rfl⟩
abbrev main_v277 : Ref sig .tc := ⟨.hbm, 368, rfl⟩
abbrev main_v278 : Ref sig .tc := ⟨.hbm, 369, rfl⟩
abbrev main_v279 : Ref sig .tc := ⟨.hbm, 370, rfl⟩
abbrev main_v280 : Ref sig .tc := ⟨.hbm, 371, rfl⟩
abbrev main_v281 : Ref sig .tc := ⟨.hbm, 372, rfl⟩
abbrev main_v282 : Ref sig .tc := ⟨.hbm, 373, rfl⟩
abbrev main_cst_84 : Ref sig .tc := ⟨.hbm, 374, rfl⟩
abbrev main_v283 : Ref sig .tc := ⟨.hbm, 375, rfl⟩
abbrev main_v284 : Ref sig .tc := ⟨.hbm, 376, rfl⟩
abbrev main_call1_cst : Ref sig .tc := ⟨.hbm, 377, rfl⟩
abbrev main_call1_v0 : Ref sig .tc := ⟨.hbm, 378, rfl⟩
abbrev main_v285 : Ref sig .tc := ⟨.hbm, 379, rfl⟩
abbrev main_cst_85 : Ref sig .tc := ⟨.hbm, 380, rfl⟩
abbrev main_v286 : Ref sig .tc := ⟨.hbm, 381, rfl⟩
abbrev main_v287 : Ref sig .tc := ⟨.hbm, 382, rfl⟩
abbrev main_cst_86 : Ref sig .tc := ⟨.hbm, 383, rfl⟩
abbrev main_v288 : Ref sig .tc := ⟨.hbm, 384, rfl⟩
abbrev main_v289 : Ref sig .tc := ⟨.hbm, 385, rfl⟩
abbrev main_cst_87 : Ref sig .tc := ⟨.hbm, 386, rfl⟩
abbrev main_v290 : Ref sig .tc := ⟨.hbm, 387, rfl⟩
abbrev main_v291 : Ref sig .tc := ⟨.hbm, 388, rfl⟩
abbrev main_v292 : Ref sig .tc := ⟨.hbm, 389, rfl⟩
abbrev main_cst_88 : Ref sig .tc := ⟨.hbm, 390, rfl⟩
abbrev main_v293 : Ref sig .tc := ⟨.hbm, 391, rfl⟩
abbrev main_cst_89 : Ref sig .tc := ⟨.hbm, 392, rfl⟩
abbrev main_v294 : Ref sig .tc := ⟨.hbm, 393, rfl⟩
abbrev main_v295 : Ref sig .tc := ⟨.hbm, 394, rfl⟩
abbrev main_cst_90 : Ref sig .tc := ⟨.hbm, 395, rfl⟩
abbrev main_cst_91 : Ref sig .tc := ⟨.hbm, 396, rfl⟩
abbrev main_v296 : Ref sig .tc := ⟨.hbm, 397, rfl⟩
abbrev main_v297 : Ref sig .tc := ⟨.hbm, 398, rfl⟩
abbrev main_v298 : Ref sig .tc := ⟨.hbm, 399, rfl⟩
abbrev main_v299 : Ref sig .tc := ⟨.hbm, 400, rfl⟩
abbrev main_v300 : Ref sig .tc := ⟨.hbm, 401, rfl⟩
abbrev main_cst_92 : Ref sig .tc := ⟨.hbm, 402, rfl⟩
abbrev main_v301 : Ref sig .tc := ⟨.hbm, 403, rfl⟩
abbrev main_v302 : Ref sig .tc := ⟨.hbm, 404, rfl⟩
abbrev main_cst_93 : Ref sig .tc := ⟨.hbm, 405, rfl⟩
abbrev main_v303 : Ref sig .tc := ⟨.hbm, 406, rfl⟩
abbrev main_v304 : Ref sig .tc := ⟨.hbm, 407, rfl⟩
abbrev main_v305 : Ref sig .tc := ⟨.hbm, 408, rfl⟩
abbrev main_cst_94 : Ref sig .tc := ⟨.hbm, 409, rfl⟩
abbrev main_v306 : Ref sig .tc := ⟨.hbm, 410, rfl⟩
abbrev main_v307 : Ref sig .tc := ⟨.hbm, 411, rfl⟩
abbrev main_cst_95 : Ref sig .tc := ⟨.hbm, 412, rfl⟩
abbrev main_v308 : Ref sig .tc := ⟨.hbm, 413, rfl⟩
abbrev main_cst_96 : Ref sig .tc := ⟨.hbm, 414, rfl⟩
abbrev main_v309 : Ref sig .tc := ⟨.hbm, 415, rfl⟩
abbrev main_cst_97 : Ref sig .tc := ⟨.hbm, 416, rfl⟩
abbrev main_v310 : Ref sig .tc := ⟨.hbm, 417, rfl⟩
abbrev main_v311 : Ref sig .tc := ⟨.hbm, 418, rfl⟩
abbrev main_cst_98 : Ref sig .tc := ⟨.hbm, 419, rfl⟩
abbrev main_v312 : Ref sig .tc := ⟨.hbm, 420, rfl⟩
abbrev main_cst_99 : Ref sig .tc := ⟨.hbm, 421, rfl⟩
abbrev main_cst_100 : Ref sig .tc := ⟨.hbm, 422, rfl⟩
abbrev main_v313 : Ref sig .tc := ⟨.hbm, 423, rfl⟩
abbrev main_v314 : Ref sig .tc := ⟨.hbm, 424, rfl⟩
abbrev main_v315 : Ref sig .tc := ⟨.hbm, 425, rfl⟩
abbrev main_v316 : Ref sig .tc := ⟨.hbm, 426, rfl⟩
abbrev main_v317 : Ref sig .tc := ⟨.hbm, 427, rfl⟩
abbrev main_v318 : Ref sig .tc := ⟨.hbm, 428, rfl⟩
abbrev main_cst_101 : Ref sig .tc := ⟨.hbm, 429, rfl⟩
abbrev main_v319 : Ref sig .tc := ⟨.hbm, 430, rfl⟩
abbrev main_cst_102 : Ref sig .tc := ⟨.hbm, 431, rfl⟩
abbrev main_v320 : Ref sig .tc := ⟨.hbm, 432, rfl⟩
abbrev main_v321 : Ref sig .tc := ⟨.hbm, 433, rfl⟩
abbrev main_v322 : Ref sig .tc := ⟨.hbm, 434, rfl⟩
abbrev main_v323 : Ref sig .tc := ⟨.hbm, 435, rfl⟩
abbrev main_cst_103 : Ref sig .tc := ⟨.hbm, 436, rfl⟩
abbrev main_v324 : Ref sig .tc := ⟨.hbm, 437, rfl⟩
abbrev main_cst_104 : Ref sig .tc := ⟨.hbm, 438, rfl⟩
abbrev main_v325 : Ref sig .tc := ⟨.hbm, 439, rfl⟩
abbrev main_v326 : Ref sig .tc := ⟨.hbm, 440, rfl⟩
abbrev main_v327 : Ref sig .tc := ⟨.hbm, 441, rfl⟩
abbrev main_v328 : Ref sig .tc := ⟨.hbm, 442, rfl⟩
abbrev main_cst_105 : Ref sig .tc := ⟨.hbm, 443, rfl⟩
abbrev main_v329 : Ref sig .tc := ⟨.hbm, 444, rfl⟩
abbrev main_cst_106 : Ref sig .tc := ⟨.hbm, 445, rfl⟩
abbrev main_v330 : Ref sig .tc := ⟨.hbm, 446, rfl⟩
abbrev main_v331 : Ref sig .tc := ⟨.hbm, 447, rfl⟩
abbrev main_v332 : Ref sig .tc := ⟨.hbm, 448, rfl⟩
abbrev main_v333 : Ref sig .tc := ⟨.hbm, 449, rfl⟩
abbrev main_cst_107 : Ref sig .tc := ⟨.hbm, 450, rfl⟩
abbrev main_v334 : Ref sig .tc := ⟨.hbm, 451, rfl⟩
abbrev main_cst_108 : Ref sig .tc := ⟨.hbm, 452, rfl⟩
abbrev main_v335 : Ref sig .tc := ⟨.hbm, 453, rfl⟩
abbrev main_v336 : Ref sig .tc := ⟨.hbm, 454, rfl⟩
abbrev main_v337 : Ref sig .tc := ⟨.hbm, 455, rfl⟩
abbrev main_v338 : Ref sig .tc := ⟨.hbm, 456, rfl⟩
abbrev main_cst_109 : Ref sig .tc := ⟨.hbm, 457, rfl⟩
abbrev main_v339 : Ref sig .tc := ⟨.hbm, 458, rfl⟩
abbrev main_cst_110 : Ref sig .tc := ⟨.hbm, 459, rfl⟩
abbrev main_v340 : Ref sig .tc := ⟨.hbm, 460, rfl⟩
abbrev main_v341 : Ref sig .tc := ⟨.hbm, 461, rfl⟩
abbrev main_v342 : Ref sig .tc := ⟨.hbm, 462, rfl⟩
abbrev main_v343 : Ref sig .tc := ⟨.hbm, 463, rfl⟩
abbrev main_cst_111 : Ref sig .tc := ⟨.hbm, 464, rfl⟩
abbrev main_v344 : Ref sig .tc := ⟨.hbm, 465, rfl⟩
abbrev main_cst_112 : Ref sig .tc := ⟨.hbm, 466, rfl⟩
abbrev main_v345 : Ref sig .tc := ⟨.hbm, 467, rfl⟩
abbrev main_v346 : Ref sig .tc := ⟨.hbm, 468, rfl⟩
abbrev main_v347 : Ref sig .tc := ⟨.hbm, 469, rfl⟩
abbrev main_v348 : Ref sig .tc := ⟨.hbm, 470, rfl⟩
abbrev main_cst_113 : Ref sig .tc := ⟨.hbm, 471, rfl⟩
abbrev main_v349 : Ref sig .tc := ⟨.hbm, 472, rfl⟩
abbrev main_cst_114 : Ref sig .tc := ⟨.hbm, 473, rfl⟩
abbrev main_v350 : Ref sig .tc := ⟨.hbm, 474, rfl⟩
abbrev main_v351 : Ref sig .tc := ⟨.hbm, 475, rfl⟩
abbrev main_v352 : Ref sig .tc := ⟨.hbm, 476, rfl⟩
abbrev main_v353 : Ref sig .tc := ⟨.hbm, 477, rfl⟩
abbrev main_cst_115 : Ref sig .tc := ⟨.hbm, 478, rfl⟩
abbrev main_v354 : Ref sig .tc := ⟨.hbm, 479, rfl⟩
abbrev main_cst_116 : Ref sig .tc := ⟨.hbm, 480, rfl⟩
abbrev main_v355 : Ref sig .tc := ⟨.hbm, 481, rfl⟩
abbrev main_v356 : Ref sig .tc := ⟨.hbm, 482, rfl⟩
abbrev main_v357 : Ref sig .tc := ⟨.hbm, 483, rfl⟩
abbrev main_v358 : Ref sig .tc := ⟨.hbm, 484, rfl⟩
abbrev main_v359 : Ref sig .tc := ⟨.hbm, 485, rfl⟩
abbrev main_cst_117 : Ref sig .tc := ⟨.hbm, 486, rfl⟩
abbrev main_v360 : Ref sig .tc := ⟨.hbm, 487, rfl⟩
abbrev main_v361 : Ref sig .tc := ⟨.hbm, 488, rfl⟩
abbrev main_cst_118 : Ref sig .tc := ⟨.hbm, 489, rfl⟩
abbrev main_v362 : Ref sig .tc := ⟨.hbm, 490, rfl⟩
abbrev main_cst_119 : Ref sig .tc := ⟨.hbm, 491, rfl⟩
abbrev main_v363 : Ref sig .tc := ⟨.hbm, 492, rfl⟩
abbrev main_v364 : Ref sig .tc := ⟨.hbm, 493, rfl⟩
abbrev main_v365 : Ref sig .tc := ⟨.hbm, 494, rfl⟩
abbrev main_v366 : Ref sig .tc := ⟨.hbm, 495, rfl⟩
abbrev main_v367 : Ref sig .tc := ⟨.hbm, 496, rfl⟩
abbrev main_v368 : Ref sig .tc := ⟨.hbm, 497, rfl⟩
abbrev main_v369 : Ref sig .tc := ⟨.hbm, 498, rfl⟩
abbrev main_cst_120 : Ref sig .tc := ⟨.hbm, 499, rfl⟩
abbrev main_v370 : Ref sig .tc := ⟨.hbm, 500, rfl⟩
abbrev main_v371 : Ref sig .tc := ⟨.hbm, 501, rfl⟩
abbrev main_cst_121 : Ref sig .tc := ⟨.hbm, 502, rfl⟩
abbrev main_v372 : Ref sig .tc := ⟨.hbm, 503, rfl⟩
abbrev main_v373 : Ref sig .tc := ⟨.hbm, 504, rfl⟩
abbrev main_v374 : Ref sig .tc := ⟨.hbm, 505, rfl⟩
abbrev main_cst_122 : Ref sig .tc := ⟨.hbm, 506, rfl⟩
abbrev main_v375 : Ref sig .tc := ⟨.hbm, 507, rfl⟩
abbrev main_v376 : Ref sig .tc := ⟨.hbm, 508, rfl⟩
abbrev main_cst_123 : Ref sig .tc := ⟨.hbm, 509, rfl⟩
abbrev main_v377 : Ref sig .tc := ⟨.hbm, 510, rfl⟩
abbrev main_v378 : Ref sig .tc := ⟨.hbm, 511, rfl⟩
abbrev main_v379 : Ref sig .tc := ⟨.hbm, 512, rfl⟩
abbrev main_cst_124 : Ref sig .tc := ⟨.hbm, 513, rfl⟩
abbrev main_v380 : Ref sig .tc := ⟨.hbm, 514, rfl⟩
abbrev main_v381 : Ref sig .tc := ⟨.hbm, 515, rfl⟩
abbrev main_v382 : Ref sig .tc := ⟨.hbm, 516, rfl⟩
abbrev main_cst_125 : Ref sig .tc := ⟨.hbm, 517, rfl⟩
abbrev main_v383 : Ref sig .tc := ⟨.hbm, 518, rfl⟩
abbrev main_v384 : Ref sig .tc := ⟨.hbm, 519, rfl⟩
abbrev main_v385 : Ref sig .tc := ⟨.hbm, 520, rfl⟩
abbrev main_cst_126 : Ref sig .tc := ⟨.hbm, 521, rfl⟩
abbrev main_v386 : Ref sig .tc := ⟨.hbm, 522, rfl⟩
abbrev main_v387 : Ref sig .tc := ⟨.hbm, 523, rfl⟩
abbrev main_v388 : Ref sig .tc := ⟨.hbm, 524, rfl⟩
abbrev main_cst_127 : Ref sig .tc := ⟨.hbm, 525, rfl⟩
abbrev main_v389 : Ref sig .tc := ⟨.hbm, 526, rfl⟩
abbrev main_v390 : Ref sig .tc := ⟨.hbm, 527, rfl⟩
abbrev main_v391 : Ref sig .tc := ⟨.hbm, 528, rfl⟩
abbrev main_cst_128 : Ref sig .tc := ⟨.hbm, 529, rfl⟩
abbrev main_v392 : Ref sig .tc := ⟨.hbm, 530, rfl⟩
abbrev main_v393 : Ref sig .tc := ⟨.hbm, 531, rfl⟩
abbrev main_cst_129 : Ref sig .tc := ⟨.hbm, 532, rfl⟩
abbrev main_v394 : Ref sig .tc := ⟨.hbm, 533, rfl⟩
abbrev main_v395 : Ref sig .tc := ⟨.hbm, 534, rfl⟩
abbrev main_cst_130 : Ref sig .tc := ⟨.hbm, 535, rfl⟩
abbrev main_v396 : Ref sig .tc := ⟨.hbm, 536, rfl⟩
abbrev main_v397 : Ref sig .tc := ⟨.hbm, 537, rfl⟩
abbrev main_cst_131 : Ref sig .tc := ⟨.hbm, 538, rfl⟩
abbrev main_v398 : Ref sig .tc := ⟨.hbm, 539, rfl⟩
abbrev main_v399 : Ref sig .tc := ⟨.hbm, 540, rfl⟩
abbrev main_cst_132 : Ref sig .tc := ⟨.hbm, 541, rfl⟩
abbrev main_v400 : Ref sig .tc := ⟨.hbm, 542, rfl⟩
abbrev main_v401 : Ref sig .tc := ⟨.hbm, 543, rfl⟩
abbrev main_v402 : Ref sig .tc := ⟨.hbm, 544, rfl⟩
abbrev main_cst_133 : Ref sig .tc := ⟨.hbm, 545, rfl⟩
abbrev main_v403 : Ref sig .tc := ⟨.hbm, 546, rfl⟩
abbrev main_v404 : Ref sig .tc := ⟨.hbm, 547, rfl⟩
abbrev main_v405 : Ref sig .tc := ⟨.hbm, 548, rfl⟩
abbrev main_v406 : Ref sig .tc := ⟨.hbm, 549, rfl⟩
abbrev main_cst_134 : Ref sig .tc := ⟨.hbm, 550, rfl⟩
abbrev main_v407 : Ref sig .tc := ⟨.hbm, 551, rfl⟩
abbrev main_v408 : Ref sig .tc := ⟨.hbm, 552, rfl⟩
abbrev main_v409 : Ref sig .tc := ⟨.hbm, 553, rfl⟩
abbrev main_cst_135 : Ref sig .tc := ⟨.hbm, 554, rfl⟩
abbrev main_v410 : Ref sig .tc := ⟨.hbm, 555, rfl⟩
abbrev main_v411 : Ref sig .tc := ⟨.hbm, 556, rfl⟩
abbrev main_v412 : Ref sig .tc := ⟨.hbm, 557, rfl⟩
abbrev main_v413 : Ref sig .tc := ⟨.hbm, 558, rfl⟩
abbrev main_v414 : Ref sig .tc := ⟨.hbm, 559, rfl⟩
abbrev main_v415 : Ref sig .tc := ⟨.hbm, 560, rfl⟩
abbrev main_cst_136 : Ref sig .tc := ⟨.hbm, 561, rfl⟩
abbrev main_v416 : Ref sig .tc := ⟨.hbm, 562, rfl⟩
abbrev main_v417 : Ref sig .tc := ⟨.hbm, 563, rfl⟩
abbrev main_cst_137 : Ref sig .tc := ⟨.hbm, 564, rfl⟩
abbrev main_v418 : Ref sig .tc := ⟨.hbm, 565, rfl⟩
abbrev main_v419 : Ref sig .tc := ⟨.hbm, 566, rfl⟩
abbrev main_cst_138 : Ref sig .tc := ⟨.hbm, 567, rfl⟩
abbrev main_v420 : Ref sig .tc := ⟨.hbm, 568, rfl⟩
abbrev main_v421 : Ref sig .tc := ⟨.hbm, 569, rfl⟩
abbrev main_v422 : Ref sig .tc := ⟨.hbm, 570, rfl⟩
abbrev main_cst_139 : Ref sig .tc := ⟨.hbm, 571, rfl⟩
abbrev main_v423 : Ref sig .tc := ⟨.hbm, 572, rfl⟩
abbrev main_v424 : Ref sig .tc := ⟨.hbm, 573, rfl⟩
abbrev main_cst_140 : Ref sig .tc := ⟨.hbm, 574, rfl⟩
abbrev main_v425 : Ref sig .tc := ⟨.hbm, 575, rfl⟩
abbrev main_cst_141 : Ref sig .tc := ⟨.hbm, 576, rfl⟩
abbrev main_v426 : Ref sig .tc := ⟨.hbm, 577, rfl⟩
abbrev main_v427 : Ref sig .tc := ⟨.hbm, 578, rfl⟩
abbrev main_cst_142 : Ref sig .tc := ⟨.hbm, 579, rfl⟩
abbrev main_v428 : Ref sig .tc := ⟨.hbm, 580, rfl⟩
abbrev main_v429 : Ref sig .tc := ⟨.hbm, 581, rfl⟩
abbrev main_v430 : Ref sig .tc := ⟨.hbm, 582, rfl⟩
abbrev main_v431 : Ref sig .tc := ⟨.hbm, 583, rfl⟩
abbrev main_v432 : Ref sig .tc := ⟨.hbm, 584, rfl⟩
abbrev main_cst_143 : Ref sig .tc := ⟨.hbm, 585, rfl⟩
abbrev main_v433 : Ref sig .tc := ⟨.hbm, 586, rfl⟩
abbrev main_v434 : Ref sig .tc := ⟨.hbm, 587, rfl⟩
abbrev main_v435 : Ref sig .tc := ⟨.hbm, 588, rfl⟩
abbrev main_v436 : Ref sig .tc := ⟨.hbm, 589, rfl⟩
abbrev main_v437 : Ref sig .tc := ⟨.hbm, 590, rfl⟩
abbrev main_cst_144 : Ref sig .tc := ⟨.hbm, 591, rfl⟩
abbrev main_v438 : Ref sig .tc := ⟨.hbm, 592, rfl⟩
abbrev main_v439 : Ref sig .tc := ⟨.hbm, 593, rfl⟩
abbrev main_v440 : Ref sig .tc := ⟨.hbm, 594, rfl⟩
abbrev main_v441 : Ref sig .tc := ⟨.hbm, 595, rfl⟩
abbrev main_v442 : Ref sig .tc := ⟨.hbm, 596, rfl⟩
abbrev main_v443 : Ref sig .tc := ⟨.hbm, 597, rfl⟩
abbrev main_v444 : Ref sig .tc := ⟨.hbm, 598, rfl⟩
abbrev main_v445 : Ref sig .tc := ⟨.hbm, 599, rfl⟩
abbrev main_v446 : Ref sig .tc := ⟨.hbm, 600, rfl⟩
abbrev main_v447 : Ref sig .tc := ⟨.hbm, 601, rfl⟩
abbrev main_v448 : Ref sig .tc := ⟨.hbm, 602, rfl⟩
abbrev main_v449 : Ref sig .tc := ⟨.hbm, 603, rfl⟩
abbrev main_v450 : Ref sig .tc := ⟨.hbm, 604, rfl⟩
abbrev main_v451 : Ref sig .tc := ⟨.hbm, 605, rfl⟩
abbrev main_v452 : Ref sig .tc := ⟨.hbm, 606, rfl⟩
abbrev main_v453 : Ref sig .tc := ⟨.hbm, 607, rfl⟩
abbrev main_v454 : Ref sig .tc := ⟨.hbm, 608, rfl⟩
abbrev main_v455 : Ref sig .tc := ⟨.hbm, 609, rfl⟩
abbrev main_v456 : Ref sig .tc := ⟨.hbm, 610, rfl⟩
abbrev main_v457 : Ref sig .tc := ⟨.hbm, 611, rfl⟩
abbrev main_v458 : Ref sig .tc := ⟨.hbm, 612, rfl⟩
abbrev main_v459 : Ref sig .tc := ⟨.hbm, 613, rfl⟩
abbrev main_v460 : Ref sig .tc := ⟨.hbm, 614, rfl⟩
abbrev main_v461 : Ref sig .tc := ⟨.hbm, 615, rfl⟩
abbrev main_v462 : Ref sig .tc := ⟨.hbm, 616, rfl⟩
abbrev main_v463 : Ref sig .tc := ⟨.hbm, 617, rfl⟩
abbrev main_v464 : Ref sig .tc := ⟨.hbm, 618, rfl⟩
abbrev main_v465 : Ref sig .tc := ⟨.hbm, 619, rfl⟩
abbrev main_v466 : Ref sig .tc := ⟨.hbm, 620, rfl⟩
abbrev main_c_145 : Ref sig .tc := ⟨.hbm, 621, rfl⟩
abbrev main_v467 : Ref sig .tc := ⟨.hbm, 622, rfl⟩
abbrev main_v468 : Ref sig .tc := ⟨.hbm, 623, rfl⟩
abbrev main_v469 : Ref sig .tc := ⟨.hbm, 624, rfl⟩
abbrev main_v470 : Ref sig .tc := ⟨.hbm, 625, rfl⟩
abbrev main_cst_146 : Ref sig .tc := ⟨.hbm, 626, rfl⟩
abbrev main_v471 : Ref sig .tc := ⟨.hbm, 627, rfl⟩
abbrev main_v472 : Ref sig .tc := ⟨.hbm, 628, rfl⟩
abbrev main_cst_147 : Ref sig .tc := ⟨.hbm, 629, rfl⟩
abbrev main_v473 : Ref sig .tc := ⟨.hbm, 630, rfl⟩
abbrev main_v474 : Ref sig .tc := ⟨.hbm, 631, rfl⟩
abbrev main_v475 : Ref sig .tc := ⟨.hbm, 632, rfl⟩
abbrev main_v476 : Ref sig .tc := ⟨.hbm, 633, rfl⟩
abbrev main_cst_148 : Ref sig .tc := ⟨.hbm, 634, rfl⟩
abbrev main_v477 : Ref sig .tc := ⟨.hbm, 635, rfl⟩
abbrev main_v478 : Ref sig .tc := ⟨.hbm, 636, rfl⟩
abbrev main_cst_149 : Ref sig .tc := ⟨.hbm, 637, rfl⟩
abbrev main_v479 : Ref sig .tc := ⟨.hbm, 638, rfl⟩
abbrev main_cst_150 : Ref sig .tc := ⟨.hbm, 639, rfl⟩
abbrev main_v480 : Ref sig .tc := ⟨.hbm, 640, rfl⟩
abbrev main_v481 : Ref sig .tc := ⟨.hbm, 641, rfl⟩
abbrev main_v482 : Ref sig .tc := ⟨.hbm, 642, rfl⟩
abbrev main_v483 : Ref sig .tc := ⟨.hbm, 643, rfl⟩
abbrev main_v484 : Ref sig .tc := ⟨.hbm, 644, rfl⟩
abbrev main_v485 : Ref sig .tc := ⟨.hbm, 645, rfl⟩
abbrev main_v486 : Ref sig .tc := ⟨.hbm, 646, rfl⟩
abbrev main_v487 : Ref sig .tc := ⟨.hbm, 647, rfl⟩
abbrev main_cst_151 : Ref sig .tc := ⟨.hbm, 648, rfl⟩
abbrev main_v488 : Ref sig .tc := ⟨.hbm, 649, rfl⟩
abbrev main_v489 : Ref sig .tc := ⟨.hbm, 650, rfl⟩
abbrev main_call2_cst : Ref sig .tc := ⟨.hbm, 651, rfl⟩
abbrev main_call2_v0 : Ref sig .tc := ⟨.hbm, 652, rfl⟩
abbrev main_v490 : Ref sig .tc := ⟨.hbm, 653, rfl⟩
abbrev main_cst_152 : Ref sig .tc := ⟨.hbm, 654, rfl⟩
abbrev main_v491 : Ref sig .tc := ⟨.hbm, 655, rfl⟩
abbrev main_v492 : Ref sig .tc := ⟨.hbm, 656, rfl⟩
abbrev main_cst_153 : Ref sig .tc := ⟨.hbm, 657, rfl⟩
abbrev main_v493 : Ref sig .tc := ⟨.hbm, 658, rfl⟩
abbrev main_v494 : Ref sig .tc := ⟨.hbm, 659, rfl⟩
abbrev main_cst_154 : Ref sig .tc := ⟨.hbm, 660, rfl⟩
abbrev main_v495 : Ref sig .tc := ⟨.hbm, 661, rfl⟩
abbrev main_v496 : Ref sig .tc := ⟨.hbm, 662, rfl⟩
abbrev main_v497 : Ref sig .tc := ⟨.hbm, 663, rfl⟩
abbrev main_cst_155 : Ref sig .tc := ⟨.hbm, 664, rfl⟩
abbrev main_v498 : Ref sig .tc := ⟨.hbm, 665, rfl⟩
abbrev main_cst_156 : Ref sig .tc := ⟨.hbm, 666, rfl⟩
abbrev main_v499 : Ref sig .tc := ⟨.hbm, 667, rfl⟩
abbrev main_v500 : Ref sig .tc := ⟨.hbm, 668, rfl⟩
abbrev main_cst_157 : Ref sig .tc := ⟨.hbm, 669, rfl⟩
abbrev main_cst_158 : Ref sig .tc := ⟨.hbm, 670, rfl⟩
abbrev main_v501 : Ref sig .tc := ⟨.hbm, 671, rfl⟩
abbrev main_v502 : Ref sig .tc := ⟨.hbm, 672, rfl⟩
abbrev main_v503 : Ref sig .tc := ⟨.hbm, 673, rfl⟩
abbrev main_v504 : Ref sig .tc := ⟨.hbm, 674, rfl⟩
abbrev main_v505 : Ref sig .tc := ⟨.hbm, 675, rfl⟩
abbrev main_cst_159 : Ref sig .tc := ⟨.hbm, 676, rfl⟩
abbrev main_v506 : Ref sig .tc := ⟨.hbm, 677, rfl⟩
abbrev main_v507 : Ref sig .tc := ⟨.hbm, 678, rfl⟩
abbrev main_cst_160 : Ref sig .tc := ⟨.hbm, 679, rfl⟩
abbrev main_v508 : Ref sig .tc := ⟨.hbm, 680, rfl⟩
abbrev main_v509 : Ref sig .tc := ⟨.hbm, 681, rfl⟩
abbrev main_v510 : Ref sig .tc := ⟨.hbm, 682, rfl⟩
abbrev main_cst_161 : Ref sig .tc := ⟨.hbm, 683, rfl⟩
abbrev main_v511 : Ref sig .tc := ⟨.hbm, 684, rfl⟩
abbrev main_v512 : Ref sig .tc := ⟨.hbm, 685, rfl⟩
abbrev main_cst_162 : Ref sig .tc := ⟨.hbm, 686, rfl⟩
abbrev main_v513 : Ref sig .tc := ⟨.hbm, 687, rfl⟩
abbrev main_cst_163 : Ref sig .tc := ⟨.hbm, 688, rfl⟩
abbrev main_v514 : Ref sig .tc := ⟨.hbm, 689, rfl⟩
abbrev main_cst_164 : Ref sig .tc := ⟨.hbm, 690, rfl⟩
abbrev main_v515 : Ref sig .tc := ⟨.hbm, 691, rfl⟩
abbrev main_v516 : Ref sig .tc := ⟨.hbm, 692, rfl⟩
abbrev main_cst_165 : Ref sig .tc := ⟨.hbm, 693, rfl⟩
abbrev main_v517 : Ref sig .tc := ⟨.hbm, 694, rfl⟩
abbrev main_cst_166 : Ref sig .tc := ⟨.hbm, 695, rfl⟩
abbrev main_cst_167 : Ref sig .tc := ⟨.hbm, 696, rfl⟩
abbrev main_v518 : Ref sig .tc := ⟨.hbm, 697, rfl⟩
abbrev main_v519 : Ref sig .tc := ⟨.hbm, 698, rfl⟩
abbrev main_v520 : Ref sig .tc := ⟨.hbm, 699, rfl⟩
abbrev main_v521 : Ref sig .tc := ⟨.hbm, 700, rfl⟩
abbrev main_v522 : Ref sig .tc := ⟨.hbm, 701, rfl⟩
abbrev main_v523 : Ref sig .tc := ⟨.hbm, 702, rfl⟩
abbrev main_cst_168 : Ref sig .tc := ⟨.hbm, 703, rfl⟩
abbrev main_v524 : Ref sig .tc := ⟨.hbm, 704, rfl⟩
abbrev main_cst_169 : Ref sig .tc := ⟨.hbm, 705, rfl⟩
abbrev main_v525 : Ref sig .tc := ⟨.hbm, 706, rfl⟩
abbrev main_v526 : Ref sig .tc := ⟨.hbm, 707, rfl⟩
abbrev main_v527 : Ref sig .tc := ⟨.hbm, 708, rfl⟩
abbrev main_v528 : Ref sig .tc := ⟨.hbm, 709, rfl⟩
abbrev main_cst_170 : Ref sig .tc := ⟨.hbm, 710, rfl⟩
abbrev main_v529 : Ref sig .tc := ⟨.hbm, 711, rfl⟩
abbrev main_cst_171 : Ref sig .tc := ⟨.hbm, 712, rfl⟩
abbrev main_v530 : Ref sig .tc := ⟨.hbm, 713, rfl⟩
abbrev main_v531 : Ref sig .tc := ⟨.hbm, 714, rfl⟩
abbrev main_v532 : Ref sig .tc := ⟨.hbm, 715, rfl⟩
abbrev main_v533 : Ref sig .tc := ⟨.hbm, 716, rfl⟩
abbrev main_cst_172 : Ref sig .tc := ⟨.hbm, 717, rfl⟩
abbrev main_v534 : Ref sig .tc := ⟨.hbm, 718, rfl⟩
abbrev main_cst_173 : Ref sig .tc := ⟨.hbm, 719, rfl⟩
abbrev main_v535 : Ref sig .tc := ⟨.hbm, 720, rfl⟩
abbrev main_v536 : Ref sig .tc := ⟨.hbm, 721, rfl⟩
abbrev main_v537 : Ref sig .tc := ⟨.hbm, 722, rfl⟩
abbrev main_v538 : Ref sig .tc := ⟨.hbm, 723, rfl⟩
abbrev main_cst_174 : Ref sig .tc := ⟨.hbm, 724, rfl⟩
abbrev main_v539 : Ref sig .tc := ⟨.hbm, 725, rfl⟩
abbrev main_cst_175 : Ref sig .tc := ⟨.hbm, 726, rfl⟩
abbrev main_v540 : Ref sig .tc := ⟨.hbm, 727, rfl⟩
abbrev main_v541 : Ref sig .tc := ⟨.hbm, 728, rfl⟩
abbrev main_v542 : Ref sig .tc := ⟨.hbm, 729, rfl⟩
abbrev main_v543 : Ref sig .tc := ⟨.hbm, 730, rfl⟩
abbrev main_cst_176 : Ref sig .tc := ⟨.hbm, 731, rfl⟩
abbrev main_v544 : Ref sig .tc := ⟨.hbm, 732, rfl⟩
abbrev main_cst_177 : Ref sig .tc := ⟨.hbm, 733, rfl⟩
abbrev main_v545 : Ref sig .tc := ⟨.hbm, 734, rfl⟩
abbrev main_v546 : Ref sig .tc := ⟨.hbm, 735, rfl⟩
abbrev main_v547 : Ref sig .tc := ⟨.hbm, 736, rfl⟩
abbrev main_v548 : Ref sig .tc := ⟨.hbm, 737, rfl⟩
abbrev main_cst_178 : Ref sig .tc := ⟨.hbm, 738, rfl⟩
abbrev main_v549 : Ref sig .tc := ⟨.hbm, 739, rfl⟩
abbrev main_cst_179 : Ref sig .tc := ⟨.hbm, 740, rfl⟩
abbrev main_v550 : Ref sig .tc := ⟨.hbm, 741, rfl⟩
abbrev main_v551 : Ref sig .tc := ⟨.hbm, 742, rfl⟩
abbrev main_v552 : Ref sig .tc := ⟨.hbm, 743, rfl⟩
abbrev main_v553 : Ref sig .tc := ⟨.hbm, 744, rfl⟩
abbrev main_cst_180 : Ref sig .tc := ⟨.hbm, 745, rfl⟩
abbrev main_v554 : Ref sig .tc := ⟨.hbm, 746, rfl⟩
abbrev main_cst_181 : Ref sig .tc := ⟨.hbm, 747, rfl⟩
abbrev main_v555 : Ref sig .tc := ⟨.hbm, 748, rfl⟩
abbrev main_v556 : Ref sig .tc := ⟨.hbm, 749, rfl⟩
abbrev main_v557 : Ref sig .tc := ⟨.hbm, 750, rfl⟩
abbrev main_v558 : Ref sig .tc := ⟨.hbm, 751, rfl⟩
abbrev main_cst_182 : Ref sig .tc := ⟨.hbm, 752, rfl⟩
abbrev main_v559 : Ref sig .tc := ⟨.hbm, 753, rfl⟩
abbrev main_cst_183 : Ref sig .tc := ⟨.hbm, 754, rfl⟩
abbrev main_v560 : Ref sig .tc := ⟨.hbm, 755, rfl⟩
abbrev main_v561 : Ref sig .tc := ⟨.hbm, 756, rfl⟩
abbrev main_v562 : Ref sig .tc := ⟨.hbm, 757, rfl⟩
abbrev main_v563 : Ref sig .tc := ⟨.hbm, 758, rfl⟩
abbrev main_v564 : Ref sig .tc := ⟨.hbm, 759, rfl⟩
abbrev main_cst_184 : Ref sig .tc := ⟨.hbm, 760, rfl⟩
abbrev main_v565 : Ref sig .tc := ⟨.hbm, 761, rfl⟩
abbrev main_v566 : Ref sig .tc := ⟨.hbm, 762, rfl⟩
abbrev main_cst_185 : Ref sig .tc := ⟨.hbm, 763, rfl⟩
abbrev main_v567 : Ref sig .tc := ⟨.hbm, 764, rfl⟩
abbrev main_cst_186 : Ref sig .tc := ⟨.hbm, 765, rfl⟩
abbrev main_v568 : Ref sig .tc := ⟨.hbm, 766, rfl⟩
abbrev main_v569 : Ref sig .tc := ⟨.hbm, 767, rfl⟩
abbrev main_v570 : Ref sig .tc := ⟨.hbm, 768, rfl⟩
abbrev main_v571 : Ref sig .tc := ⟨.hbm, 769, rfl⟩
abbrev main_v572 : Ref sig .tc := ⟨.hbm, 770, rfl⟩
abbrev main_v573 : Ref sig .tc := ⟨.hbm, 771, rfl⟩
abbrev main_v574 : Ref sig .tc := ⟨.hbm, 772, rfl⟩
abbrev main_cst_187 : Ref sig .tc := ⟨.hbm, 773, rfl⟩
abbrev main_v575 : Ref sig .tc := ⟨.hbm, 774, rfl⟩
abbrev main_v576 : Ref sig .tc := ⟨.hbm, 775, rfl⟩
abbrev main_cst_188 : Ref sig .tc := ⟨.hbm, 776, rfl⟩
abbrev main_v577 : Ref sig .tc := ⟨.hbm, 777, rfl⟩
abbrev main_v578 : Ref sig .tc := ⟨.hbm, 778, rfl⟩
abbrev main_v579 : Ref sig .tc := ⟨.hbm, 779, rfl⟩
abbrev main_cst_189 : Ref sig .tc := ⟨.hbm, 780, rfl⟩
abbrev main_v580 : Ref sig .tc := ⟨.hbm, 781, rfl⟩
abbrev main_v581 : Ref sig .tc := ⟨.hbm, 782, rfl⟩
abbrev main_cst_190 : Ref sig .tc := ⟨.hbm, 783, rfl⟩
abbrev main_v582 : Ref sig .tc := ⟨.hbm, 784, rfl⟩
abbrev main_v583 : Ref sig .tc := ⟨.hbm, 785, rfl⟩
abbrev main_v584 : Ref sig .tc := ⟨.hbm, 786, rfl⟩
abbrev main_cst_191 : Ref sig .tc := ⟨.hbm, 787, rfl⟩
abbrev main_v585 : Ref sig .tc := ⟨.hbm, 788, rfl⟩
abbrev main_v586 : Ref sig .tc := ⟨.hbm, 789, rfl⟩
abbrev main_v587 : Ref sig .tc := ⟨.hbm, 790, rfl⟩
abbrev main_cst_192 : Ref sig .tc := ⟨.hbm, 791, rfl⟩
abbrev main_v588 : Ref sig .tc := ⟨.hbm, 792, rfl⟩
abbrev main_v589 : Ref sig .tc := ⟨.hbm, 793, rfl⟩
abbrev main_v590 : Ref sig .tc := ⟨.hbm, 794, rfl⟩
abbrev main_cst_193 : Ref sig .tc := ⟨.hbm, 795, rfl⟩
abbrev main_v591 : Ref sig .tc := ⟨.hbm, 796, rfl⟩
abbrev main_v592 : Ref sig .tc := ⟨.hbm, 797, rfl⟩
abbrev main_v593 : Ref sig .tc := ⟨.hbm, 798, rfl⟩
abbrev main_cst_194 : Ref sig .tc := ⟨.hbm, 799, rfl⟩
abbrev main_v594 : Ref sig .tc := ⟨.hbm, 800, rfl⟩
abbrev main_v595 : Ref sig .tc := ⟨.hbm, 801, rfl⟩
abbrev main_v596 : Ref sig .tc := ⟨.hbm, 802, rfl⟩
abbrev main_cst_195 : Ref sig .tc := ⟨.hbm, 803, rfl⟩
abbrev main_v597 : Ref sig .tc := ⟨.hbm, 804, rfl⟩
abbrev main_v598 : Ref sig .tc := ⟨.hbm, 805, rfl⟩
abbrev main_cst_196 : Ref sig .tc := ⟨.hbm, 806, rfl⟩
abbrev main_v599 : Ref sig .tc := ⟨.hbm, 807, rfl⟩
abbrev main_v600 : Ref sig .tc := ⟨.hbm, 808, rfl⟩
abbrev main_cst_197 : Ref sig .tc := ⟨.hbm, 809, rfl⟩
abbrev main_v601 : Ref sig .tc := ⟨.hbm, 810, rfl⟩
abbrev main_v602 : Ref sig .tc := ⟨.hbm, 811, rfl⟩
abbrev main_cst_198 : Ref sig .tc := ⟨.hbm, 812, rfl⟩
abbrev main_v603 : Ref sig .tc := ⟨.hbm, 813, rfl⟩
abbrev main_v604 : Ref sig .tc := ⟨.hbm, 814, rfl⟩
abbrev main_cst_199 : Ref sig .tc := ⟨.hbm, 815, rfl⟩
abbrev main_v605 : Ref sig .tc := ⟨.hbm, 816, rfl⟩
abbrev main_v606 : Ref sig .tc := ⟨.hbm, 817, rfl⟩
abbrev main_v607 : Ref sig .tc := ⟨.hbm, 818, rfl⟩
abbrev main_cst_200 : Ref sig .tc := ⟨.hbm, 819, rfl⟩
abbrev main_v608 : Ref sig .tc := ⟨.hbm, 820, rfl⟩
abbrev main_v609 : Ref sig .tc := ⟨.hbm, 821, rfl⟩
abbrev main_v610 : Ref sig .tc := ⟨.hbm, 822, rfl⟩
abbrev main_v611 : Ref sig .tc := ⟨.hbm, 823, rfl⟩
abbrev main_cst_201 : Ref sig .tc := ⟨.hbm, 824, rfl⟩
abbrev main_v612 : Ref sig .tc := ⟨.hbm, 825, rfl⟩
abbrev main_v613 : Ref sig .tc := ⟨.hbm, 826, rfl⟩
abbrev main_v614 : Ref sig .tc := ⟨.hbm, 827, rfl⟩
abbrev main_cst_202 : Ref sig .tc := ⟨.hbm, 828, rfl⟩
abbrev main_v615 : Ref sig .tc := ⟨.hbm, 829, rfl⟩
abbrev main_v616 : Ref sig .tc := ⟨.hbm, 830, rfl⟩
abbrev main_v617 : Ref sig .tc := ⟨.hbm, 831, rfl⟩
abbrev main_v618 : Ref sig .tc := ⟨.hbm, 832, rfl⟩
abbrev main_v619 : Ref sig .tc := ⟨.hbm, 833, rfl⟩
abbrev main_v620 : Ref sig .tc := ⟨.hbm, 834, rfl⟩
abbrev main_cst_203 : Ref sig .tc := ⟨.hbm, 835, rfl⟩
abbrev main_v621 : Ref sig .tc := ⟨.hbm, 836, rfl⟩
abbrev main_v622 : Ref sig .tc := ⟨.hbm, 837, rfl⟩
abbrev main_cst_204 : Ref sig .tc := ⟨.hbm, 838, rfl⟩
abbrev main_v623 : Ref sig .tc := ⟨.hbm, 839, rfl⟩
abbrev main_v624 : Ref sig .tc := ⟨.hbm, 840, rfl⟩
abbrev main_cst_205 : Ref sig .tc := ⟨.hbm, 841, rfl⟩
abbrev main_v625 : Ref sig .tc := ⟨.hbm, 842, rfl⟩
abbrev main_v626 : Ref sig .tc := ⟨.hbm, 843, rfl⟩
abbrev main_cst_206 : Ref sig .tc := ⟨.hbm, 844, rfl⟩
abbrev main_v627 : Ref sig .tc := ⟨.hbm, 845, rfl⟩
abbrev main_v628 : Ref sig .tc := ⟨.hbm, 846, rfl⟩
abbrev main_v629 : Ref sig .tc := ⟨.hbm, 847, rfl⟩
abbrev main_v630 : Ref sig .tc := ⟨.hbm, 848, rfl⟩
abbrev main_v631 : Ref sig .tc := ⟨.hbm, 849, rfl⟩
abbrev main_v632 : Ref sig .tc := ⟨.hbm, 850, rfl⟩
abbrev main_cst_207 : Ref sig .tc := ⟨.hbm, 851, rfl⟩
abbrev main_v633 : Ref sig .tc := ⟨.hbm, 852, rfl⟩
abbrev main_v634 : Ref sig .tc := ⟨.hbm, 853, rfl⟩
abbrev main_v635 : Ref sig .tc := ⟨.hbm, 854, rfl⟩
abbrev main_v636 : Ref sig .tc := ⟨.hbm, 855, rfl⟩
abbrev main_v637 : Ref sig .tc := ⟨.hbm, 856, rfl⟩
abbrev main_cst_208 : Ref sig .tc := ⟨.hbm, 857, rfl⟩
abbrev main_v638 : Ref sig .tc := ⟨.hbm, 858, rfl⟩
abbrev main_v639 : Ref sig .tc := ⟨.hbm, 859, rfl⟩
abbrev main_v640 : Ref sig .tc := ⟨.hbm, 860, rfl⟩
abbrev main_v641 : Ref sig .tc := ⟨.hbm, 861, rfl⟩
abbrev main_v642 : Ref sig .tc := ⟨.hbm, 862, rfl⟩
abbrev main_v643 : Ref sig .tc := ⟨.hbm, 863, rfl⟩
abbrev main_v644 : Ref sig .tc := ⟨.hbm, 864, rfl⟩
abbrev main_v645 : Ref sig .tc := ⟨.hbm, 865, rfl⟩
abbrev main_v646 : Ref sig .tc := ⟨.hbm, 866, rfl⟩
abbrev main_v647 : Ref sig .tc := ⟨.hbm, 867, rfl⟩
abbrev main_v648 : Ref sig .tc := ⟨.hbm, 868, rfl⟩
abbrev main_v649 : Ref sig .tc := ⟨.hbm, 869, rfl⟩
abbrev main_v650 : Ref sig .tc := ⟨.hbm, 870, rfl⟩
abbrev main_v651 : Ref sig .tc := ⟨.hbm, 871, rfl⟩
abbrev main_v652 : Ref sig .tc := ⟨.hbm, 872, rfl⟩
abbrev main_v653 : Ref sig .tc := ⟨.hbm, 873, rfl⟩
abbrev main_v654 : Ref sig .tc := ⟨.hbm, 874, rfl⟩
abbrev main_v655 : Ref sig .tc := ⟨.hbm, 875, rfl⟩
abbrev main_v656 : Ref sig .tc := ⟨.hbm, 876, rfl⟩
abbrev main_v657 : Ref sig .tc := ⟨.hbm, 877, rfl⟩
abbrev main_v658 : Ref sig .tc := ⟨.hbm, 878, rfl⟩
abbrev main_v659 : Ref sig .tc := ⟨.hbm, 879, rfl⟩
abbrev main_v660 : Ref sig .tc := ⟨.hbm, 880, rfl⟩
abbrev main_v661 : Ref sig .tc := ⟨.hbm, 881, rfl⟩
abbrev main_v662 : Ref sig .tc := ⟨.hbm, 882, rfl⟩
abbrev main_v663 : Ref sig .tc := ⟨.hbm, 883, rfl⟩
abbrev main_v664 : Ref sig .tc := ⟨.hbm, 884, rfl⟩
abbrev main_v665 : Ref sig .tc := ⟨.hbm, 885, rfl⟩
abbrev main_v666 : Ref sig .tc := ⟨.hbm, 886, rfl⟩
abbrev main_c_209 : Ref sig .tc := ⟨.hbm, 887, rfl⟩
abbrev main_v667 : Ref sig .tc := ⟨.hbm, 888, rfl⟩
abbrev main_v668 : Ref sig .tc := ⟨.hbm, 889, rfl⟩
abbrev main_v669 : Ref sig .tc := ⟨.hbm, 890, rfl⟩
abbrev main_v670 : Ref sig .tc := ⟨.hbm, 891, rfl⟩
abbrev main_cst_210 : Ref sig .tc := ⟨.hbm, 892, rfl⟩
abbrev main_v671 : Ref sig .tc := ⟨.hbm, 893, rfl⟩
abbrev main_v672 : Ref sig .tc := ⟨.hbm, 894, rfl⟩
abbrev main_cst_211 : Ref sig .tc := ⟨.hbm, 895, rfl⟩
abbrev main_v673 : Ref sig .tc := ⟨.hbm, 896, rfl⟩
abbrev main_v674 : Ref sig .tc := ⟨.hbm, 897, rfl⟩
abbrev main_v675 : Ref sig .tc := ⟨.hbm, 898, rfl⟩
abbrev main_v676 : Ref sig .tc := ⟨.hbm, 899, rfl⟩
abbrev main_cst_212 : Ref sig .tc := ⟨.hbm, 900, rfl⟩
abbrev main_v677 : Ref sig .tc := ⟨.hbm, 901, rfl⟩
abbrev main_cst_213 : Ref sig .tc := ⟨.hbm, 902, rfl⟩
abbrev main_v678 : Ref sig .tc := ⟨.hbm, 903, rfl⟩
abbrev main_v679 : Ref sig .tc := ⟨.hbm, 904, rfl⟩
abbrev main_v680 : Ref sig .tc := ⟨.hbm, 905, rfl⟩
abbrev main_v681 : Ref sig .tc := ⟨.hbm, 906, rfl⟩
abbrev main_v682 : Ref sig .tc := ⟨.hbm, 907, rfl⟩
abbrev main_v683 : Ref sig .tc := ⟨.hbm, 908, rfl⟩
abbrev main_v684 : Ref sig .tc := ⟨.hbm, 909, rfl⟩
abbrev main_v685 : Ref sig .tc := ⟨.hbm, 910, rfl⟩
abbrev main_cst_214 : Ref sig .tc := ⟨.hbm, 911, rfl⟩
abbrev main_v686 : Ref sig .tc := ⟨.hbm, 912, rfl⟩
abbrev main_v687 : Ref sig .tc := ⟨.hbm, 913, rfl⟩
abbrev main_call3_cst : Ref sig .tc := ⟨.hbm, 914, rfl⟩
abbrev main_call3_v0 : Ref sig .tc := ⟨.hbm, 915, rfl⟩
abbrev main_v688 : Ref sig .tc := ⟨.hbm, 916, rfl⟩
abbrev main_v689 : Ref sig .tc := ⟨.hbm, 917, rfl⟩
abbrev main_v690 : Ref sig .tc := ⟨.hbm, 918, rfl⟩
abbrev main_cst_215 : Ref sig .tc := ⟨.hbm, 919, rfl⟩
abbrev main_v691 : Ref sig .tc := ⟨.hbm, 920, rfl⟩
abbrev main_cst_216 : Ref sig .tc := ⟨.hbm, 921, rfl⟩
abbrev main_v692 : Ref sig .tc := ⟨.hbm, 922, rfl⟩
abbrev main_v693 : Ref sig .tc := ⟨.hbm, 923, rfl⟩

abbrev nD : Nat := 1
abbrev τ : Topo := Topo.v7x

variable {F : FTy → Type} [FloatOps F]
-- ==== Proof.KernelIdeal.Loops.lean ====
/-
  `KernelIdeal`: the three loops over the 31 blocks of eight rows. One trip reads the rows `8 k … 8 k + 7` of `h` (arg5) and
  stores the odd-loss gradient of those rows into `gh` (arg6). The conditional of a trip only chooses between two pure
  values, so a trip is a load and a store of one value (`trip·`), and the invariant is `gh` after `k` such stores.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import Idealize.ShloMosaic.Lib.Tactic
public import Idealize.ShloMosaic.Lib.VecWindow
public import Idealize.ShloMosaic.Lib.WritesUnit
public import Idealize.ShloMosaic.Lib.ValueIdxCore

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev 𝒱₀ : Variants := Variants.none

theorem rows8_inb {k : ℕ} (hk : k < 31) : ∀ a : Fin S248x256.rank, (![8 * k, 0] : Fin 2 → ℕ) a + S8x256.size a ≤ S248x256.size a :=
  Fin.forall_fin_two.mpr ⟨by show 8 * k + 8 ≤ 248; omega, by show 0 + 256 ≤ 256; omega⟩

/-- The rows `8 k … 8 k + 7`. -/
def rows8 (hv : Vec F S248x256 .f32) (k : ℕ) (hk : k < 31) : Vec F S8x256 .f32 :=
  VecWindow.window hv ![8 * k, 0] S8x256.size (rows8_inb hk)

/-! ## Loop 1 -/

/-- The rows trip `k` stores: by the branch its conditional takes on whether the smallest product is zero. -/
def trip1 (v1 : FVec F S248x256 .f32) (v31 : IVec S8x248x1 32) (v32 : IVec S8x248x1 32) (k : Fin k0_t1_loop.trips) (x : Vec F S8x256 .f32) : FVec F S8x256 .f32 :=
  if Scalar.cmpi .ne (Scalar.extui (Scalar.cmpf .oeq (k0_pay13 v1 x) (Scalar.ofBits .f32 0x00000000#32)) : BitVec 32) 0#32 = 1#1 then
    k0_pay45 v1 (k0_pay12 v1 v31 v32 0#32 1#32 k x) (k0_pay3 (k0_pay9 v1 x)) (k0_pay6 (k0_pay9 v1 x)) (k0_pay7 (k0_pay9 v1 x)) (k0_pay8 (k0_pay9 v1 x))
  else k0_pay46 v1 (k0_pay9 v1 x) (k0_pay11 v1 x) (k0_pay12 v1 v31 v32 0#32 1#32 k x)

/-- A trip with its conditional folded into the value it stores. -/
def flat1 (arg0 : Memref sig .tc .vmem S248x256 .f32) (harg0 : arg0.IsWhole) (arg1 : Memref sig .tc .vmem S248x256 .f32) (harg1 : arg1.IsWhole) (arg2 : Memref sig .tc .vmem S1x256 .f32) (harg2 : arg2.IsWhole) (arg3 : Memref sig .tc .smem S1x1 .f32) (harg3 : arg3.IsWhole)
    (arg4 : Memref sig .tc .vmem S248x256 .f32) (harg4 : arg4.IsWhole) (arg5 : Memref sig .tc .vmem S248x256 .f32) (harg5 : arg5.IsWhole) (arg6 : Memref sig .tc .vmem S248x256 .f32) (harg6 : arg6.IsWhole) (arg7 : Memref sig .tc .vmem S248x256 .f32) (harg7 : arg7.IsWhole)
    (arg8 : Memref sig .tc .vmem S248x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole)
    (v1 : FVec F S248x256 .f32) (v31 : IVec S8x248x1 32) (v32 : IVec S8x248x1 32) (k : Fin k0_t1_loop.trips) : Prog (TpuEff nD τ sig (Elt F) Λ₀ .tc) Unit := do
  let v385 : Vec F S8x256 .f32 ← Prog.lift (.load arg5 (Rect.unit (s := S248x256) (k0_off1 k) S8x256.size (k0_off1_inb k)).toLoadRect (View.loadsAt_vmem h_S8x256))
  let v430 : Vec F S8x256 .f32 ← Prog.lift (.load arg6 (Rect.unit (s := S248x256) (k0_off2 k) S8x256.size (k0_off2_inb k)).toLoadRect (View.loadsAt_vmem h_S8x256))
  Prog.lift (.store arg6 (Rect.unit (s := S248x256) (k0_off2 k) S8x256.size (k0_off2_inb k)) (k0_pay47 (trip1 v1 v31 v32 k v385)) Finset.univ (View.stores_vmem_bits_univ h_S8x256 rfl) (.inl rfl))
  pure ⟨⟩

theorem body1_eq (arg0 : Memref sig .tc .vmem S248x256 .f32) (harg0 : arg0.IsWhole) (arg1 : Memref sig .tc .vmem S248x256 .f32) (harg1 : arg1.IsWhole) (arg2 : Memref sig .tc .vmem S1x256 .f32) (harg2 : arg2.IsWhole) (arg3 : Memref sig .tc .smem S1x1 .f32) (harg3 : arg3.IsWhole)
    (arg4 : Memref sig .tc .vmem S248x256 .f32) (harg4 : arg4.IsWhole) (arg5 : Memref sig .tc .vmem S248x256 .f32) (harg5 : arg5.IsWhole) (arg6 : Memref sig .tc .vmem S248x256 .f32) (harg6 : arg6.IsWhole) (arg7 : Memref sig .tc .vmem S248x256 .f32) (harg7 : arg7.IsWhole)
    (arg8 : Memref sig .tc .vmem S248x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole)
    (v1 : FVec F S248x256 .f32) (v4 : IVec S248x256 1) (v31 : IVec S8x248x1 32) (v32 : IVec S8x248x1 32) (k : Fin k0_t1_loop.trips) (acc : Unit) :
    k0_t1_body (F := F) arg0 harg0 arg1 harg1 arg2 harg2 arg3 harg3 arg4 harg4 arg5 harg5 arg6 harg6 arg7 harg7 arg8 harg8 arg9 harg9 arg10 harg10 arg11 harg11 v1 v4 v31 v32 k acc
      = flat1 arg0 harg0 arg1 harg1 arg2 harg2 arg3 harg3 arg4 harg4 arg5 harg5 arg6 harg6 arg7 harg7 arg8 harg8 arg9 harg9 arg10 harg10 arg11 harg11 v1 v31 v32 k := by
  unfold k0_t1_body flat1
  rw [k0_part2_eq_skeleton, k0_part1_eq_skeleton]
  unfold k0_part2_skel k0_part1_skel trip1
  simp only [bind_assoc, pure_bind]
  congr 1
  funext x
  split <;> rfl

theorem trips1 : k0_t1_loop.trips = 31 := by decide

/-- The piece trip `k` stores, `h` at the contents `X`. -/
def piece1 (arg5 : Memref sig .tc .vmem S248x256 .f32)
    (v1 : FVec F S248x256 .f32) (v31 : IVec S8x248x1 32) (v32 : IVec S8x248x1 32) (X : BufTy.Contents (Elt F) arg5.view.ty) (k : Fin k0_t1_loop.trips) : View.Piece (Elt F) S248x256 .f32 :=
  ⟨Rect.unit (s := S248x256) (k0_off2 k) S8x256.size (k0_off2_inb k),
    k0_pay47 (trip1 v1 v31 v32 k (arg5.view.readAt (Elt F) (Rect.unit (s := S248x256) (k0_off1 k) S8x256.size (k0_off1_inb k)).toLoadRect X))⟩

/-- `gh` before trip `k`, from its contents `G` before the loop: the stores of the trips before `k`. -/
def st1 (arg5 : Memref sig .tc .vmem S248x256 .f32) (arg6 : Memref sig .tc .vmem S248x256 .f32)
    (v1 : FVec F S248x256 .f32) (v31 : IVec S8x248x1 32) (v32 : IVec S8x248x1 32) (X : BufTy.Contents (Elt F) arg5.view.ty) (G : BufTy.Contents (Elt F) arg6.view.ty) : ℕ → BufTy.Contents (Elt F) arg6.view.ty
  | 0 => G
  | k + 1 => if h : k < k0_t1_loop.trips then
      arg6.view.writes (Elt F) (st1 arg5 arg6 v1 v31 v32 X G k) [piece1 arg5 v1 v31 v32 X ⟨k, h⟩]
    else st1 arg5 arg6 v1 v31 v32 X G k

theorem st1_succ (arg5 : Memref sig .tc .vmem S248x256 .f32) (arg6 : Memref sig .tc .vmem S248x256 .f32)
    (v1 : FVec F S248x256 .f32) (v31 : IVec S8x248x1 32) (v32 : IVec S8x248x1 32) (X : BufTy.Contents (Elt F) arg5.view.ty) (G : BufTy.Contents (Elt F) arg6.view.ty) (k : Fin k0_t1_loop.trips) :
    st1 arg5 arg6 v1 v31 v32 X G (k.val + 1) = arg6.view.writes (Elt F) (st1 arg5 arg6 v1 v31 v32 X G k.val) [piece1 arg5 v1 v31 v32 X k] := by
  rw [st1, dif_pos k.isLt]

set_option warn.classDefReducibility false in
/-- The loop by its invariant: `h` at `X`, `gh` after the stores of the trips before `k`. -/
@[sl_loop] def loopInv1 (c : Dev nD) (E : Set ℕ) (arg0 : Memref sig .tc .vmem S248x256 .f32) (harg0 : arg0.IsWhole) (arg1 : Memref sig .tc .vmem S248x256 .f32) (harg1 : arg1.IsWhole) (arg2 : Memref sig .tc .vmem S1x256 .f32) (harg2 : arg2.IsWhole) (arg3 : Memref sig .tc .smem S1x1 .f32) (harg3 : arg3.IsWhole)
    (arg4 : Memref sig .tc .vmem S248x256 .f32) (harg4 : arg4.IsWhole) (arg5 : Memref sig .tc .vmem S248x256 .f32) (harg5 : arg5.IsWhole) (arg6 : Memref sig .tc .vmem S248x256 .f32) (harg6 : arg6.IsWhole) (arg7 : Memref sig .tc .vmem S248x256 .f32) (harg7 : arg7.IsWhole)
    (arg8 : Memref sig .tc .vmem S248x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole)
    (v1 : FVec F S248x256 .f32) (v4 : IVec S248x256 1) (v31 : IVec S8x248x1 32) (v32 : IVec S8x248x1 32) (X : BufTy.Contents (Elt F) arg5.view.ty) (G : BufTy.Contents (Elt F) arg6.view.ty) :
    LoopInvTy_k0_t1 (F := F) Unit ℕ (UR sig nD τ) ℕ 𝒱₀ c none E arg0 harg0 arg1 harg1 arg2 harg2 arg3 harg3 arg4 harg4 arg5 harg5 arg6 harg6 arg7 harg7 arg8 harg8 arg9 harg9 arg10 harg10 arg11 harg11 v1 v4 v31 v32 where
  inv k _ := iprop((arg5.view.loc (c : Thread nD τ) ↦[arg5.view.set]{fullShare} X)
    ∗ (arg6.view.loc (c : Thread nD τ) ↦[arg6.view.set]{fullShare} st1 arg5 arg6 v1 v31 v32 X G k))
  step k acc := by
    have hk : k.val < 31 := Nat.lt_of_lt_of_le k.isLt k0_t1_abs.2.1
    rw [body1_eq]
    unfold flat1
    iintro ⟨H5, H6⟩
    sl_exec
    sl_step
    isplitl [H5]; · iexact H5
    rw [st1_succ]
    iexact H6

/-- What the loop leaves in `gh`: row `i` is row `i % 8` of what trip `i / 8` stores, `h` being `hv`. -/
def gh1 (v1 : FVec F S248x256 .f32) (v31 : IVec S8x248x1 32) (v32 : IVec S8x248x1 32) (hv : Vec F S248x256 .f32) : Vec F S248x256 .f32 := fun y =>
  k0_pay47 (trip1 v1 v31 v32 ⟨(y 0).val / 8, by
      have h : (y 0).val < 248 := (y 0).isLt
      rw [trips1]; omega⟩ (rows8 hv ((y 0).val / 8) (by have h : (y 0).val < 248 := (y 0).isLt; omega)))
    (ValueIdx.ix2 (n0 := 8) (n1 := 256) ⟨(y 0).val % 8, Nat.mod_lt _ (by decide)⟩ (y 1))

theorem readAt1 (arg5 : Memref sig .tc .vmem S248x256 .f32) (X : BufTy.Contents (Elt F) arg5.view.ty) (k : Fin k0_t1_loop.trips) (hk : k.val < 31) :
    arg5.view.readAt (Elt F) (Rect.unit (s := S248x256) (k0_off1 k) S8x256.size (k0_off1_inb k)).toLoadRect X
      = rows8 (arg5.view.read (Elt F) X) k.val hk :=
  View.readAt_unit arg5.view X (k0_off1_inb k) (k0_off1_eq k) (rows8_inb hk)

/-- Before trip `k` the rows below `8 k` are what the loop leaves there. -/
theorem read_st1 (arg5 : Memref sig .tc .vmem S248x256 .f32) (arg6 : Memref sig .tc .vmem S248x256 .f32)
    (v1 : FVec F S248x256 .f32) (v31 : IVec S8x248x1 32) (v32 : IVec S8x248x1 32) (X : BufTy.Contents (Elt F) arg5.view.ty) (G : BufTy.Contents (Elt F) arg6.view.ty) (k : ℕ) (hk : k ≤ 31)
    (y : S248x256.Idx) (hy : (y 0).val < 8 * k) :
    arg6.view.read (Elt F) (st1 arg5 arg6 v1 v31 v32 X G k) y = gh1 v1 v31 v32 (arg5.view.read (Elt F) X) y := by
  induction k with
  | zero => omega
  | succ k ih =>
    have hlt : k < k0_t1_loop.trips := by rw [trips1]; omega
    rw [st1_succ arg5 arg6 v1 v31 v32 X G ⟨k, hlt⟩]
    unfold piece1
    by_cases h : (y 0).val < 8 * k
    · rw [View.read_writes_cons_rows_of_not_mem arg6.view _ _ _ [] y (k0_off2_eq _) (W := 8) rfl (Or.inl h)]
      exact ih (by omega) h
    · have e : (y 0).val / 8 = k := by omega
      refine (View.read_writes_cons_rows_of_mem arg6.view _ (size := S8x256.size) (o := 8 * k) (k0_off2_inb ⟨k, hlt⟩) _ [] y
        (ValueIdx.ix2 (n0 := 8) (n1 := 256) ⟨(y 0).val % 8, Nat.mod_lt _ (by decide)⟩ (y 1)) (k0_off2_eq ⟨k, hlt⟩)
        (by show (y 0).val = 8 * k + (y 0).val % 8; omega) rfl).trans ?_
      rw [readAt1 arg5 X ⟨k, hlt⟩ (by show k < 31; omega)]
      subst e; rfl

/-- After the loop the run holds `h` as it was and `gh` at what the loop leaves in it. -/
instance loopExit1 (c : Dev nD) (E : Set ℕ) (arg0 : Memref sig .tc .vmem S248x256 .f32) (harg0 : arg0.IsWhole) (arg1 : Memref sig .tc .vmem S248x256 .f32) (harg1 : arg1.IsWhole) (arg2 : Memref sig .tc .vmem S1x256 .f32) (harg2 : arg2.IsWhole) (arg3 : Memref sig .tc .smem S1x1 .f32) (harg3 : arg3.IsWhole)
    (arg4 : Memref sig .tc .vmem S248x256 .f32) (harg4 : arg4.IsWhole) (arg5 : Memref sig .tc .vmem S248x256 .f32) (harg5 : arg5.IsWhole) (arg6 : Memref sig .tc .vmem S248x256 .f32) (harg6 : arg6.IsWhole) (arg7 : Memref sig .tc .vmem S248x256 .f32) (harg7 : arg7.IsWhole)
    (arg8 : Memref sig .tc .vmem S248x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole)
    (v1 : FVec F S248x256 .f32) (v4 : IVec S248x256 1) (v31 : IVec S8x248x1 32) (v32 : IVec S8x248x1 32) (X : BufTy.Contents (Elt F) arg5.view.ty) (G : BufTy.Contents (Elt F) arg6.view.ty) :
    LoopExit (loopInv1 c E arg0 harg0 arg1 harg1 arg2 harg2 arg3 harg3 arg4 harg4 arg5 harg5 arg6 harg6 arg7 harg7 arg8 harg8 arg9 harg9 arg10 harg10 arg11 harg11 v1 v4 v31 v32 X G) where
  post _ := iprop((arg5.view.loc (c : Thread nD τ) ↦[arg5.view.set]{fullShare} X)
    ∗ (arg6.view.loc (c : Thread nD τ) ↦[arg6.view.set]{fullShare} harg6.unread (gh1 v1 v31 v32 (arg5.view.read (Elt F) X))))
  exit acc := by
    show iprop((arg5.view.loc (c : Thread nD τ) ↦[arg5.view.set]{fullShare} X)
      ∗ (arg6.view.loc (c : Thread nD τ) ↦[arg6.view.set]{fullShare} st1 arg5 arg6 v1 v31 v32 X G k0_t1_loop.trips)) ⊢ _
    rw [harg6.eq_unread (funext fun y => read_st1 arg5 arg6 v1 v31 v32 X G k0_t1_loop.trips (le_of_eq trips1) y
      (by rw [trips1]; exact (y 0).isLt))]

/-! ## Loop 2 -/

/-- The rows trip `k` stores: by the branch its conditional takes on whether the smallest product is zero. -/
def trip2 (v1 : FVec F S248x256 .f32) (v31 : IVec S8x248x1 32) (v32 : IVec S8x248x1 32) (k : Fin k0_t2_loop.trips) (x : Vec F S8x256 .f32) : FVec F S8x256 .f32 :=
  if Scalar.cmpi .ne (Scalar.extui (Scalar.cmpf .oeq (k0_pay24 v1 x) (Scalar.ofBits .f32 0x00000000#32)) : BitVec 32) 0#32 = 1#1 then
    k0_pay66 v1 (k0_pay23 v1 v31 v32 0#32 1#32 k x) (k0_pay14 (k0_pay20 v1 x)) (k0_pay17 (k0_pay20 v1 x)) (k0_pay18 (k0_pay20 v1 x)) (k0_pay19 (k0_pay20 v1 x))
  else k0_pay67 v1 (k0_pay20 v1 x) (k0_pay22 v1 x) (k0_pay23 v1 v31 v32 0#32 1#32 k x)

/-- A trip with its conditional folded into the value it stores. -/
def flat2 (arg0 : Memref sig .tc .vmem S248x256 .f32) (harg0 : arg0.IsWhole) (arg1 : Memref sig .tc .vmem S248x256 .f32) (harg1 : arg1.IsWhole) (arg2 : Memref sig .tc .vmem S1x256 .f32) (harg2 : arg2.IsWhole) (arg3 : Memref sig .tc .smem S1x1 .f32) (harg3 : arg3.IsWhole)
    (arg4 : Memref sig .tc .vmem S248x256 .f32) (harg4 : arg4.IsWhole) (arg5 : Memref sig .tc .vmem S248x256 .f32) (harg5 : arg5.IsWhole) (arg6 : Memref sig .tc .vmem S248x256 .f32) (harg6 : arg6.IsWhole) (arg7 : Memref sig .tc .vmem S248x256 .f32) (harg7 : arg7.IsWhole)
    (arg8 : Memref sig .tc .vmem S248x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole)
    (v1 : FVec F S248x256 .f32) (v31 : IVec S8x248x1 32) (v32 : IVec S8x248x1 32) (k : Fin k0_t2_loop.trips) : Prog (TpuEff nD τ sig (Elt F) Λ₀ .tc) Unit := do
  let v385 : Vec F S8x256 .f32 ← Prog.lift (.load arg5 (Rect.unit (s := S248x256) (k0_off3 k) S8x256.size (k0_off3_inb k)).toLoadRect (View.loadsAt_vmem h_S8x256))
  let v430 : Vec F S8x256 .f32 ← Prog.lift (.load arg6 (Rect.unit (s := S248x256) (k0_off4 k) S8x256.size (k0_off4_inb k)).toLoadRect (View.loadsAt_vmem h_S8x256))
  Prog.lift (.store arg6 (Rect.unit (s := S248x256) (k0_off4 k) S8x256.size (k0_off4_inb k)) (k0_pay68 (trip2 v1 v31 v32 k v385)) Finset.univ (View.stores_vmem_bits_univ h_S8x256 rfl) (.inl rfl))
  pure ⟨⟩

theorem body2_eq (arg0 : Memref sig .tc .vmem S248x256 .f32) (harg0 : arg0.IsWhole) (arg1 : Memref sig .tc .vmem S248x256 .f32) (harg1 : arg1.IsWhole) (arg2 : Memref sig .tc .vmem S1x256 .f32) (harg2 : arg2.IsWhole) (arg3 : Memref sig .tc .smem S1x1 .f32) (harg3 : arg3.IsWhole)
    (arg4 : Memref sig .tc .vmem S248x256 .f32) (harg4 : arg4.IsWhole) (arg5 : Memref sig .tc .vmem S248x256 .f32) (harg5 : arg5.IsWhole) (arg6 : Memref sig .tc .vmem S248x256 .f32) (harg6 : arg6.IsWhole) (arg7 : Memref sig .tc .vmem S248x256 .f32) (harg7 : arg7.IsWhole)
    (arg8 : Memref sig .tc .vmem S248x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole)
    (v1 : FVec F S248x256 .f32) (v4 : IVec S248x256 1) (v31 : IVec S8x248x1 32) (v32 : IVec S8x248x1 32) (v140 : Vec F S248x256 .f32) (k : Fin k0_t2_loop.trips) (acc : Unit) :
    k0_t2_body (F := F) arg0 harg0 arg1 harg1 arg2 harg2 arg3 harg3 arg4 harg4 arg5 harg5 arg6 harg6 arg7 harg7 arg8 harg8 arg9 harg9 arg10 harg10 arg11 harg11 v1 v4 v31 v32 v140 k acc
      = flat2 arg0 harg0 arg1 harg1 arg2 harg2 arg3 harg3 arg4 harg4 arg5 harg5 arg6 harg6 arg7 harg7 arg8 harg8 arg9 harg9 arg10 harg10 arg11 harg11 v1 v31 v32 k := by
  unfold k0_t2_body flat2
  rw [k0_part4_eq_skeleton, k0_part3_eq_skeleton]
  unfold k0_part4_skel k0_part3_skel trip2
  simp only [bind_assoc, pure_bind]
  congr 1
  funext x
  split <;> rfl

theorem trips2 : k0_t2_loop.trips = 31 := by decide

/-- The piece trip `k` stores, `h` at the contents `X`. -/
def piece2 (arg5 : Memref sig .tc .vmem S248x256 .f32)
    (v1 : FVec F S248x256 .f32) (v31 : IVec S8x248x1 32) (v32 : IVec S8x248x1 32) (X : BufTy.Contents (Elt F) arg5.view.ty) (k : Fin k0_t2_loop.trips) : View.Piece (Elt F) S248x256 .f32 :=
  ⟨Rect.unit (s := S248x256) (k0_off4 k) S8x256.size (k0_off4_inb k),
    k0_pay68 (trip2 v1 v31 v32 k (arg5.view.readAt (Elt F) (Rect.unit (s := S248x256) (k0_off3 k) S8x256.size (k0_off3_inb k)).toLoadRect X))⟩

/-- `gh` before trip `k`, from its contents `G` before the loop: the stores of the trips before `k`. -/
def st2 (arg5 : Memref sig .tc .vmem S248x256 .f32) (arg6 : Memref sig .tc .vmem S248x256 .f32)
    (v1 : FVec F S248x256 .f32) (v31 : IVec S8x248x1 32) (v32 : IVec S8x248x1 32) (X : BufTy.Contents (Elt F) arg5.view.ty) (G : BufTy.Contents (Elt F) arg6.view.ty) : ℕ → BufTy.Contents (Elt F) arg6.view.ty
  | 0 => G
  | k + 1 => if h : k < k0_t2_loop.trips then
      arg6.view.writes (Elt F) (st2 arg5 arg6 v1 v31 v32 X G k) [piece2 arg5 v1 v31 v32 X ⟨k, h⟩]
    else st2 arg5 arg6 v1 v31 v32 X G k

theorem st2_succ (arg5 : Memref sig .tc .vmem S248x256 .f32) (arg6 : Memref sig .tc .vmem S248x256 .f32)
    (v1 : FVec F S248x256 .f32) (v31 : IVec S8x248x1 32) (v32 : IVec S8x248x1 32) (X : BufTy.Contents (Elt F) arg5.view.ty) (G : BufTy.Contents (Elt F) arg6.view.ty) (k : Fin k0_t2_loop.trips) :
    st2 arg5 arg6 v1 v31 v32 X G (k.val + 1) = arg6.view.writes (Elt F) (st2 arg5 arg6 v1 v31 v32 X G k.val) [piece2 arg5 v1 v31 v32 X k] := by
  rw [st2, dif_pos k.isLt]

set_option warn.classDefReducibility false in
/-- The loop by its invariant: `h` at `X`, `gh` after the stores of the trips before `k`. -/
@[sl_loop] def loopInv2 (c : Dev nD) (E : Set ℕ) (arg0 : Memref sig .tc .vmem S248x256 .f32) (harg0 : arg0.IsWhole) (arg1 : Memref sig .tc .vmem S248x256 .f32) (harg1 : arg1.IsWhole) (arg2 : Memref sig .tc .vmem S1x256 .f32) (harg2 : arg2.IsWhole) (arg3 : Memref sig .tc .smem S1x1 .f32) (harg3 : arg3.IsWhole)
    (arg4 : Memref sig .tc .vmem S248x256 .f32) (harg4 : arg4.IsWhole) (arg5 : Memref sig .tc .vmem S248x256 .f32) (harg5 : arg5.IsWhole) (arg6 : Memref sig .tc .vmem S248x256 .f32) (harg6 : arg6.IsWhole) (arg7 : Memref sig .tc .vmem S248x256 .f32) (harg7 : arg7.IsWhole)
    (arg8 : Memref sig .tc .vmem S248x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole)
    (v1 : FVec F S248x256 .f32) (v4 : IVec S248x256 1) (v31 : IVec S8x248x1 32) (v32 : IVec S8x248x1 32) (v140 : Vec F S248x256 .f32) (X : BufTy.Contents (Elt F) arg5.view.ty) (G : BufTy.Contents (Elt F) arg6.view.ty) :
    LoopInvTy_k0_t2 (F := F) Unit ℕ (UR sig nD τ) ℕ 𝒱₀ c none E arg0 harg0 arg1 harg1 arg2 harg2 arg3 harg3 arg4 harg4 arg5 harg5 arg6 harg6 arg7 harg7 arg8 harg8 arg9 harg9 arg10 harg10 arg11 harg11 v1 v4 v31 v32 v140 where
  inv k _ := iprop((arg5.view.loc (c : Thread nD τ) ↦[arg5.view.set]{fullShare} X)
    ∗ (arg6.view.loc (c : Thread nD τ) ↦[arg6.view.set]{fullShare} st2 arg5 arg6 v1 v31 v32 X G k))
  step k acc := by
    have hk : k.val < 31 := Nat.lt_of_lt_of_le k.isLt k0_t2_abs.2.1
    rw [body2_eq]
    unfold flat2
    iintro ⟨H5, H6⟩
    sl_exec
    sl_step
    isplitl [H5]; · iexact H5
    rw [st2_succ]
    iexact H6

/-- What the loop leaves in `gh`: row `i` is row `i % 8` of what trip `i / 8` stores, `h` being `hv`. -/
def gh2 (v1 : FVec F S248x256 .f32) (v31 : IVec S8x248x1 32) (v32 : IVec S8x248x1 32) (hv : Vec F S248x256 .f32) : Vec F S248x256 .f32 := fun y =>
  k0_pay68 (trip2 v1 v31 v32 ⟨(y 0).val / 8, by
      have h : (y 0).val < 248 := (y 0).isLt
      rw [trips2]; omega⟩ (rows8 hv ((y 0).val / 8) (by have h : (y 0).val < 248 := (y 0).isLt; omega)))
    (ValueIdx.ix2 (n0 := 8) (n1 := 256) ⟨(y 0).val % 8, Nat.mod_lt _ (by decide)⟩ (y 1))

theorem readAt2 (arg5 : Memref sig .tc .vmem S248x256 .f32) (X : BufTy.Contents (Elt F) arg5.view.ty) (k : Fin k0_t2_loop.trips) (hk : k.val < 31) :
    arg5.view.readAt (Elt F) (Rect.unit (s := S248x256) (k0_off3 k) S8x256.size (k0_off3_inb k)).toLoadRect X
      = rows8 (arg5.view.read (Elt F) X) k.val hk :=
  View.readAt_unit arg5.view X (k0_off3_inb k) (k0_off3_eq k) (rows8_inb hk)

/-- Before trip `k` the rows below `8 k` are what the loop leaves there. -/
theorem read_st2 (arg5 : Memref sig .tc .vmem S248x256 .f32) (arg6 : Memref sig .tc .vmem S248x256 .f32)
    (v1 : FVec F S248x256 .f32) (v31 : IVec S8x248x1 32) (v32 : IVec S8x248x1 32) (X : BufTy.Contents (Elt F) arg5.view.ty) (G : BufTy.Contents (Elt F) arg6.view.ty) (k : ℕ) (hk : k ≤ 31)
    (y : S248x256.Idx) (hy : (y 0).val < 8 * k) :
    arg6.view.read (Elt F) (st2 arg5 arg6 v1 v31 v32 X G k) y = gh2 v1 v31 v32 (arg5.view.read (Elt F) X) y := by
  induction k with
  | zero => omega
  | succ k ih =>
    have hlt : k < k0_t2_loop.trips := by rw [trips2]; omega
    rw [st2_succ arg5 arg6 v1 v31 v32 X G ⟨k, hlt⟩]
    unfold piece2
    by_cases h : (y 0).val < 8 * k
    · rw [View.read_writes_cons_rows_of_not_mem arg6.view _ _ _ [] y (k0_off4_eq _) (W := 8) rfl (Or.inl h)]
      exact ih (by omega) h
    · have e : (y 0).val / 8 = k := by omega
      refine (View.read_writes_cons_rows_of_mem arg6.view _ (size := S8x256.size) (o := 8 * k) (k0_off4_inb ⟨k, hlt⟩) _ [] y
        (ValueIdx.ix2 (n0 := 8) (n1 := 256) ⟨(y 0).val % 8, Nat.mod_lt _ (by decide)⟩ (y 1)) (k0_off4_eq ⟨k, hlt⟩)
        (by show (y 0).val = 8 * k + (y 0).val % 8; omega) rfl).trans ?_
      rw [readAt2 arg5 X ⟨k, hlt⟩ (by show k < 31; omega)]
      subst e; rfl

/-- After the loop the run holds `h` as it was and `gh` at what the loop leaves in it. -/
instance loopExit2 (c : Dev nD) (E : Set ℕ) (arg0 : Memref sig .tc .vmem S248x256 .f32) (harg0 : arg0.IsWhole) (arg1 : Memref sig .tc .vmem S248x256 .f32) (harg1 : arg1.IsWhole) (arg2 : Memref sig .tc .vmem S1x256 .f32) (harg2 : arg2.IsWhole) (arg3 : Memref sig .tc .smem S1x1 .f32) (harg3 : arg3.IsWhole)
    (arg4 : Memref sig .tc .vmem S248x256 .f32) (harg4 : arg4.IsWhole) (arg5 : Memref sig .tc .vmem S248x256 .f32) (harg5 : arg5.IsWhole) (arg6 : Memref sig .tc .vmem S248x256 .f32) (harg6 : arg6.IsWhole) (arg7 : Memref sig .tc .vmem S248x256 .f32) (harg7 : arg7.IsWhole)
    (arg8 : Memref sig .tc .vmem S248x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole)
    (v1 : FVec F S248x256 .f32) (v4 : IVec S248x256 1) (v31 : IVec S8x248x1 32) (v32 : IVec S8x248x1 32) (v140 : Vec F S248x256 .f32) (X : BufTy.Contents (Elt F) arg5.view.ty) (G : BufTy.Contents (Elt F) arg6.view.ty) :
    LoopExit (loopInv2 c E arg0 harg0 arg1 harg1 arg2 harg2 arg3 harg3 arg4 harg4 arg5 harg5 arg6 harg6 arg7 harg7 arg8 harg8 arg9 harg9 arg10 harg10 arg11 harg11 v1 v4 v31 v32 v140 X G) where
  post _ := iprop((arg5.view.loc (c : Thread nD τ) ↦[arg5.view.set]{fullShare} X)
    ∗ (arg6.view.loc (c : Thread nD τ) ↦[arg6.view.set]{fullShare} harg6.unread (gh2 v1 v31 v32 (arg5.view.read (Elt F) X))))
  exit acc := by
    show iprop((arg5.view.loc (c : Thread nD τ) ↦[arg5.view.set]{fullShare} X)
      ∗ (arg6.view.loc (c : Thread nD τ) ↦[arg6.view.set]{fullShare} st2 arg5 arg6 v1 v31 v32 X G k0_t2_loop.trips)) ⊢ _
    rw [harg6.eq_unread (funext fun y => read_st2 arg5 arg6 v1 v31 v32 X G k0_t2_loop.trips (le_of_eq trips2) y
      (by rw [trips2]; exact (y 0).isLt))]

/-! ## Loop 3 -/

/-- The rows trip `k` stores: by the branch its conditional takes on whether the smallest product is zero. -/
def trip3 (v1 : FVec F S248x256 .f32) (v31 : IVec S8x248x1 32) (v32 : IVec S8x248x1 32) (k : Fin k0_t3_loop.trips) (x : Vec F S8x256 .f32) : FVec F S8x256 .f32 :=
  if Scalar.cmpi .ne (Scalar.extui (Scalar.cmpf .oeq (k0_pay35 v1 x) (Scalar.ofBits .f32 0x00000000#32)) : BitVec 32) 0#32 = 1#1 then
    k0_pay87 v1 (k0_pay34 v1 v31 v32 0#32 1#32 k x) (k0_pay25 (k0_pay31 v1 x)) (k0_pay28 (k0_pay31 v1 x)) (k0_pay29 (k0_pay31 v1 x)) (k0_pay30 (k0_pay31 v1 x))
  else k0_pay88 v1 (k0_pay31 v1 x) (k0_pay33 v1 x) (k0_pay34 v1 v31 v32 0#32 1#32 k x)

/-- A trip with its conditional folded into the value it stores. -/
def flat3 (arg0 : Memref sig .tc .vmem S248x256 .f32) (harg0 : arg0.IsWhole) (arg1 : Memref sig .tc .vmem S248x256 .f32) (harg1 : arg1.IsWhole) (arg2 : Memref sig .tc .vmem S1x256 .f32) (harg2 : arg2.IsWhole) (arg3 : Memref sig .tc .smem S1x1 .f32) (harg3 : arg3.IsWhole)
    (arg4 : Memref sig .tc .vmem S248x256 .f32) (harg4 : arg4.IsWhole) (arg5 : Memref sig .tc .vmem S248x256 .f32) (harg5 : arg5.IsWhole) (arg6 : Memref sig .tc .vmem S248x256 .f32) (harg6 : arg6.IsWhole) (arg7 : Memref sig .tc .vmem S248x256 .f32) (harg7 : arg7.IsWhole)
    (arg8 : Memref sig .tc .vmem S248x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole)
    (v1 : FVec F S248x256 .f32) (v31 : IVec S8x248x1 32) (v32 : IVec S8x248x1 32) (k : Fin k0_t3_loop.trips) : Prog (TpuEff nD τ sig (Elt F) Λ₀ .tc) Unit := do
  let v385 : Vec F S8x256 .f32 ← Prog.lift (.load arg5 (Rect.unit (s := S248x256) (k0_off5 k) S8x256.size (k0_off5_inb k)).toLoadRect (View.loadsAt_vmem h_S8x256))
  let v430 : Vec F S8x256 .f32 ← Prog.lift (.load arg6 (Rect.unit (s := S248x256) (k0_off6 k) S8x256.size (k0_off6_inb k)).toLoadRect (View.loadsAt_vmem h_S8x256))
  Prog.lift (.store arg6 (Rect.unit (s := S248x256) (k0_off6 k) S8x256.size (k0_off6_inb k)) (k0_pay89 (trip3 v1 v31 v32 k v385)) Finset.univ (View.stores_vmem_bits_univ h_S8x256 rfl) (.inl rfl))
  pure ⟨⟩

theorem body3_eq (arg0 : Memref sig .tc .vmem S248x256 .f32) (harg0 : arg0.IsWhole) (arg1 : Memref sig .tc .vmem S248x256 .f32) (harg1 : arg1.IsWhole) (arg2 : Memref sig .tc .vmem S1x256 .f32) (harg2 : arg2.IsWhole) (arg3 : Memref sig .tc .smem S1x1 .f32) (harg3 : arg3.IsWhole)
    (arg4 : Memref sig .tc .vmem S248x256 .f32) (harg4 : arg4.IsWhole) (arg5 : Memref sig .tc .vmem S248x256 .f32) (harg5 : arg5.IsWhole) (arg6 : Memref sig .tc .vmem S248x256 .f32) (harg6 : arg6.IsWhole) (arg7 : Memref sig .tc .vmem S248x256 .f32) (harg7 : arg7.IsWhole)
    (arg8 : Memref sig .tc .vmem S248x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole)
    (v1 : FVec F S248x256 .f32) (v31 : IVec S8x248x1 32) (v32 : IVec S8x248x1 32) (v250 : FVec F S248x256 .f32) (k : Fin k0_t3_loop.trips) (acc : Unit) :
    k0_t3_body (F := F) arg0 harg0 arg1 harg1 arg2 harg2 arg3 harg3 arg4 harg4 arg5 harg5 arg6 harg6 arg7 harg7 arg8 harg8 arg9 harg9 arg10 harg10 arg11 harg11 v1 v31 v32 v250 k acc
      = flat3 arg0 harg0 arg1 harg1 arg2 harg2 arg3 harg3 arg4 harg4 arg5 harg5 arg6 harg6 arg7 harg7 arg8 harg8 arg9 harg9 arg10 harg10 arg11 harg11 v1 v31 v32 k := by
  unfold k0_t3_body flat3
  rw [k0_part6_eq_skeleton, k0_part5_eq_skeleton]
  unfold k0_part6_skel k0_part5_skel trip3
  simp only [bind_assoc, pure_bind]
  congr 1
  funext x
  split <;> rfl

theorem trips3 : k0_t3_loop.trips = 31 := by decide

/-- The piece trip `k` stores, `h` at the contents `X`. -/
def piece3 (arg5 : Memref sig .tc .vmem S248x256 .f32)
    (v1 : FVec F S248x256 .f32) (v31 : IVec S8x248x1 32) (v32 : IVec S8x248x1 32) (X : BufTy.Contents (Elt F) arg5.view.ty) (k : Fin k0_t3_loop.trips) : View.Piece (Elt F) S248x256 .f32 :=
  ⟨Rect.unit (s := S248x256) (k0_off6 k) S8x256.size (k0_off6_inb k),
    k0_pay89 (trip3 v1 v31 v32 k (arg5.view.readAt (Elt F) (Rect.unit (s := S248x256) (k0_off5 k) S8x256.size (k0_off5_inb k)).toLoadRect X))⟩

/-- `gh` before trip `k`, from its contents `G` before the loop: the stores of the trips before `k`. -/
def st3 (arg5 : Memref sig .tc .vmem S248x256 .f32) (arg6 : Memref sig .tc .vmem S248x256 .f32)
    (v1 : FVec F S248x256 .f32) (v31 : IVec S8x248x1 32) (v32 : IVec S8x248x1 32) (X : BufTy.Contents (Elt F) arg5.view.ty) (G : BufTy.Contents (Elt F) arg6.view.ty) : ℕ → BufTy.Contents (Elt F) arg6.view.ty
  | 0 => G
  | k + 1 => if h : k < k0_t3_loop.trips then
      arg6.view.writes (Elt F) (st3 arg5 arg6 v1 v31 v32 X G k) [piece3 arg5 v1 v31 v32 X ⟨k, h⟩]
    else st3 arg5 arg6 v1 v31 v32 X G k

theorem st3_succ (arg5 : Memref sig .tc .vmem S248x256 .f32) (arg6 : Memref sig .tc .vmem S248x256 .f32)
    (v1 : FVec F S248x256 .f32) (v31 : IVec S8x248x1 32) (v32 : IVec S8x248x1 32) (X : BufTy.Contents (Elt F) arg5.view.ty) (G : BufTy.Contents (Elt F) arg6.view.ty) (k : Fin k0_t3_loop.trips) :
    st3 arg5 arg6 v1 v31 v32 X G (k.val + 1) = arg6.view.writes (Elt F) (st3 arg5 arg6 v1 v31 v32 X G k.val) [piece3 arg5 v1 v31 v32 X k] := by
  rw [st3, dif_pos k.isLt]

set_option warn.classDefReducibility false in
/-- The loop by its invariant: `h` at `X`, `gh` after the stores of the trips before `k`. -/
@[sl_loop] def loopInv3 (c : Dev nD) (E : Set ℕ) (arg0 : Memref sig .tc .vmem S248x256 .f32) (harg0 : arg0.IsWhole) (arg1 : Memref sig .tc .vmem S248x256 .f32) (harg1 : arg1.IsWhole) (arg2 : Memref sig .tc .vmem S1x256 .f32) (harg2 : arg2.IsWhole) (arg3 : Memref sig .tc .smem S1x1 .f32) (harg3 : arg3.IsWhole)
    (arg4 : Memref sig .tc .vmem S248x256 .f32) (harg4 : arg4.IsWhole) (arg5 : Memref sig .tc .vmem S248x256 .f32) (harg5 : arg5.IsWhole) (arg6 : Memref sig .tc .vmem S248x256 .f32) (harg6 : arg6.IsWhole) (arg7 : Memref sig .tc .vmem S248x256 .f32) (harg7 : arg7.IsWhole)
    (arg8 : Memref sig .tc .vmem S248x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole)
    (v1 : FVec F S248x256 .f32) (v31 : IVec S8x248x1 32) (v32 : IVec S8x248x1 32) (v250 : FVec F S248x256 .f32) (X : BufTy.Contents (Elt F) arg5.view.ty) (G : BufTy.Contents (Elt F) arg6.view.ty) :
    LoopInvTy_k0_t3 (F := F) Unit ℕ (UR sig nD τ) ℕ 𝒱₀ c none E arg0 harg0 arg1 harg1 arg2 harg2 arg3 harg3 arg4 harg4 arg5 harg5 arg6 harg6 arg7 harg7 arg8 harg8 arg9 harg9 arg10 harg10 arg11 harg11 v1 v31 v32 v250 where
  inv k _ := iprop((arg5.view.loc (c : Thread nD τ) ↦[arg5.view.set]{fullShare} X)
    ∗ (arg6.view.loc (c : Thread nD τ) ↦[arg6.view.set]{fullShare} st3 arg5 arg6 v1 v31 v32 X G k))
  step k acc := by
    have hk : k.val < 31 := Nat.lt_of_lt_of_le k.isLt k0_t3_abs.2.1
    rw [body3_eq]
    unfold flat3
    iintro ⟨H5, H6⟩
    sl_exec
    sl_step
    isplitl [H5]; · iexact H5
    rw [st3_succ]
    iexact H6

/-- What the loop leaves in `gh`: row `i` is row `i % 8` of what trip `i / 8` stores, `h` being `hv`. -/
def gh3 (v1 : FVec F S248x256 .f32) (v31 : IVec S8x248x1 32) (v32 : IVec S8x248x1 32) (hv : Vec F S248x256 .f32) : Vec F S248x256 .f32 := fun y =>
  k0_pay89 (trip3 v1 v31 v32 ⟨(y 0).val / 8, by
      have h : (y 0).val < 248 := (y 0).isLt
      rw [trips3]; omega⟩ (rows8 hv ((y 0).val / 8) (by have h : (y 0).val < 248 := (y 0).isLt; omega)))
    (ValueIdx.ix2 (n0 := 8) (n1 := 256) ⟨(y 0).val % 8, Nat.mod_lt _ (by decide)⟩ (y 1))

theorem readAt3 (arg5 : Memref sig .tc .vmem S248x256 .f32) (X : BufTy.Contents (Elt F) arg5.view.ty) (k : Fin k0_t3_loop.trips) (hk : k.val < 31) :
    arg5.view.readAt (Elt F) (Rect.unit (s := S248x256) (k0_off5 k) S8x256.size (k0_off5_inb k)).toLoadRect X
      = rows8 (arg5.view.read (Elt F) X) k.val hk :=
  View.readAt_unit arg5.view X (k0_off5_inb k) (k0_off5_eq k) (rows8_inb hk)

/-- Before trip `k` the rows below `8 k` are what the loop leaves there. -/
theorem read_st3 (arg5 : Memref sig .tc .vmem S248x256 .f32) (arg6 : Memref sig .tc .vmem S248x256 .f32)
    (v1 : FVec F S248x256 .f32) (v31 : IVec S8x248x1 32) (v32 : IVec S8x248x1 32) (X : BufTy.Contents (Elt F) arg5.view.ty) (G : BufTy.Contents (Elt F) arg6.view.ty) (k : ℕ) (hk : k ≤ 31)
    (y : S248x256.Idx) (hy : (y 0).val < 8 * k) :
    arg6.view.read (Elt F) (st3 arg5 arg6 v1 v31 v32 X G k) y = gh3 v1 v31 v32 (arg5.view.read (Elt F) X) y := by
  induction k with
  | zero => omega
  | succ k ih =>
    have hlt : k < k0_t3_loop.trips := by rw [trips3]; omega
    rw [st3_succ arg5 arg6 v1 v31 v32 X G ⟨k, hlt⟩]
    unfold piece3
    by_cases h : (y 0).val < 8 * k
    · rw [View.read_writes_cons_rows_of_not_mem arg6.view _ _ _ [] y (k0_off6_eq _) (W := 8) rfl (Or.inl h)]
      exact ih (by omega) h
    · have e : (y 0).val / 8 = k := by omega
      refine (View.read_writes_cons_rows_of_mem arg6.view _ (size := S8x256.size) (o := 8 * k) (k0_off6_inb ⟨k, hlt⟩) _ [] y
        (ValueIdx.ix2 (n0 := 8) (n1 := 256) ⟨(y 0).val % 8, Nat.mod_lt _ (by decide)⟩ (y 1)) (k0_off6_eq ⟨k, hlt⟩)
        (by show (y 0).val = 8 * k + (y 0).val % 8; omega) rfl).trans ?_
      rw [readAt3 arg5 X ⟨k, hlt⟩ (by show k < 31; omega)]
      subst e; rfl

/-- After the loop the run holds `h` as it was and `gh` at what the loop leaves in it. -/
instance loopExit3 (c : Dev nD) (E : Set ℕ) (arg0 : Memref sig .tc .vmem S248x256 .f32) (harg0 : arg0.IsWhole) (arg1 : Memref sig .tc .vmem S248x256 .f32) (harg1 : arg1.IsWhole) (arg2 : Memref sig .tc .vmem S1x256 .f32) (harg2 : arg2.IsWhole) (arg3 : Memref sig .tc .smem S1x1 .f32) (harg3 : arg3.IsWhole)
    (arg4 : Memref sig .tc .vmem S248x256 .f32) (harg4 : arg4.IsWhole) (arg5 : Memref sig .tc .vmem S248x256 .f32) (harg5 : arg5.IsWhole) (arg6 : Memref sig .tc .vmem S248x256 .f32) (harg6 : arg6.IsWhole) (arg7 : Memref sig .tc .vmem S248x256 .f32) (harg7 : arg7.IsWhole)
    (arg8 : Memref sig .tc .vmem S248x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole)
    (v1 : FVec F S248x256 .f32) (v31 : IVec S8x248x1 32) (v32 : IVec S8x248x1 32) (v250 : FVec F S248x256 .f32) (X : BufTy.Contents (Elt F) arg5.view.ty) (G : BufTy.Contents (Elt F) arg6.view.ty) :
    LoopExit (loopInv3 c E arg0 harg0 arg1 harg1 arg2 harg2 arg3 harg3 arg4 harg4 arg5 harg5 arg6 harg6 arg7 harg7 arg8 harg8 arg9 harg9 arg10 harg10 arg11 harg11 v1 v31 v32 v250 X G) where
  post _ := iprop((arg5.view.loc (c : Thread nD τ) ↦[arg5.view.set]{fullShare} X)
    ∗ (arg6.view.loc (c : Thread nD τ) ↦[arg6.view.set]{fullShare} harg6.unread (gh3 v1 v31 v32 (arg5.view.read (Elt F) X))))
  exit acc := by
    show iprop((arg5.view.loc (c : Thread nD τ) ↦[arg5.view.set]{fullShare} X)
      ∗ (arg6.view.loc (c : Thread nD τ) ↦[arg6.view.set]{fullShare} st3 arg5 arg6 v1 v31 v32 X G k0_t3_loop.trips)) ⊢ _
    rw [harg6.eq_unread (funext fun y => read_st3 arg5 arg6 v1 v31 v32 X G k0_t3_loop.trips (le_of_eq trips3) y
      (by rw [trips3]; exact (y 0).isLt))]

end Cert.Proof.KernelIdeal

end
-- ==== Proof.KernelIdeal.Run.lean ====
/-
  `KernelIdeal`: the whole kernel body run on its staging buffers and scratch buffers, the pipeline's proof data, the run of
  @main, and the frame: the program always terminates, leaves its three arguments unchanged and every counter at zero.
-/
module

public import proofs.«01_k».proof.Proof.KernelIdeal.Loops
public import Idealize.ShloMosaic.PureOps.BitExact

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves in the result's staging buffer, a value the run finds, with the proof that from the three inputs'
    blocks, whatever the result's buffer and the scratch buffers hold, the body runs to the continuation holding the inputs
    as they were and the result at that value. -/
noncomputable def kernelRun (c : Dev nD) (M0 : Memref sig .tc .vmem S248x256 .f32) (h0 : M0.IsWhole)
    (M1 : Memref sig .tc .vmem S248x256 .f32) (h1 : M1.IsWhole)
    (M2 : Memref sig .tc .vmem S1x256 .f32) (h2 : M2.IsWhole)
    (M3 : Memref sig .tc .smem S1x1 .f32) (h3 : M3.IsWhole)
    (M4 : Memref sig .tc .vmem S248x256 .f32) (h4 : M4.IsWhole)
    (M5 : Memref sig .tc .vmem S248x256 .f32) (h5 : M5.IsWhole)
    (M6 : Memref sig .tc .vmem S248x256 .f32) (h6 : M6.IsWhole)
    (M7 : Memref sig .tc .vmem S248x256 .f32) (h7 : M7.IsWhole)
    (M8 : Memref sig .tc .vmem S248x256 .f32) (h8 : M8.IsWhole)
    (M9 : Memref sig .tc .vmem S1x256 .f32) (h9 : M9.IsWhole)
    (M10 : Memref sig .tc .vmem S1x256 .f32) (h10 : M10.IsWhole)
    (M11 : Memref sig .tc .vmem S1x256 .f32) (h11 : M11.IsWhole)
    (x0 : Vec F S248x256 .f32) (x1 : Vec F S248x256 .f32) (x2 : Vec F S1x256 .f32) :
    { Y : Vec F S1x1 .f32 //
      ∀ (E : Set ℕ) (K : PUnit → sProp 𝕄),
        iprop(owns (c : Thread nD τ) M0 fullShare x0 ∗ owns (c : Thread nD τ) M1 fullShare x1 ∗ owns (c : Thread nD τ) M2 fullShare x2 ∗ (∃ d, owns (c : Thread nD τ) M3 fullShare d) ∗ (∃ d, owns (c : Thread nD τ) M4 fullShare d) ∗ (∃ d, owns (c : Thread nD τ) M5 fullShare d) ∗ (∃ d, owns (c : Thread nD τ) M6 fullShare d) ∗ (∃ d, owns (c : Thread nD τ) M7 fullShare d) ∗ (∃ d, owns (c : Thread nD τ) M8 fullShare d) ∗ (∃ d, owns (c : Thread nD τ) M9 fullShare d) ∗ (∃ d, owns (c : Thread nD τ) M10 fullShare d) ∗ (∃ d, owns (c : Thread nD τ) M11 fullShare d)
            ∗ (iprop(owns (c : Thread nD τ) M0 fullShare x0 ∗ owns (c : Thread nD τ) M1 fullShare x1 ∗ owns (c : Thread nD τ) M2 fullShare x2 ∗ owns (c : Thread nD τ) M3 fullShare Y ∗ (∃ d, owns (c : Thread nD τ) M4 fullShare d) ∗ (∃ d, owns (c : Thread nD τ) M5 fullShare d) ∗ (∃ d, owns (c : Thread nD τ) M6 fullShare d) ∗ (∃ d, owns (c : Thread nD τ) M7 fullShare d) ∗ (∃ d, owns (c : Thread nD τ) M8 fullShare d) ∗ (∃ d, owns (c : Thread nD τ) M9 fullShare d) ∗ (∃ d, owns (c : Thread nD τ) M10 fullShare d) ∗ (∃ d, owns (c : Thread nD τ) M11 fullShare d)) -∗ K ⟨⟩))
          ⊢ wp frame (wpE (defs₀ (F := F)) 𝒱₀ c none) E (cc0__body M0 h0 M1 h1 M2 h2 M3 h3 M4 h4 M5 h5 M6 h6 M7 h7 M8 h8 M9 h9 M10 h10 M11 h11) K } := by
  refine ⟨?_, fun E K => ?run⟩
  case run =>
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
    obtain rfl := h0.eq_unread hf0; obtain rfl := h1.eq_unread hf1; obtain rfl := h2.eq_unread hf2
    clear hf0 hf1 hf2
    sl_unfold [cc0__body]
    sl_exec!
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

abbrev ms0 (t : Fin cfg0.N) : Memref sig .tc .vmem S248x256 .f32 := win0_0.stage (cfg0.slots t 0)
abbrev hs0 (t : Fin cfg0.N) : (ms0 t).IsWhole := hstage0_0 0
abbrev ms1 (t : Fin cfg0.N) : Memref sig .tc .vmem S248x256 .f32 := win0_1.stage (cfg0.slots t 1)
abbrev hs1 (t : Fin cfg0.N) : (ms1 t).IsWhole := hstage0_1 0
abbrev ms2 (t : Fin cfg0.N) : Memref sig .tc .vmem S1x256 .f32 := win0_2.stage (cfg0.slots t 2)
abbrev hs2 (t : Fin cfg0.N) : (ms2 t).IsWhole := hstage0_2 0
abbrev ms3 (t : Fin cfg0.N) : Memref sig .tc .smem S1x1 .f32 := win0_3.stage (cfg0.slots t 3)
abbrev hs3 (t : Fin cfg0.N) : (ms3 t).IsWhole := hstage0_3 0

/-- The value the body leaves in the result's staging buffer at a point. -/
def outsAt (c : Dev nD) (t : Fin cfg0.N) : Vec F S1x1 .f32 :=
  (kernelRun c (ms0 t) (hs0 t) (ms1 t) (hs1 t) (ms2 t) (hs2 t) (ms3 t) (hs3 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t)).1

/-- The pipeline's proof data: the arrays as the region finds them, each input's buffer at its block after the body, the
    result's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The body at a point meets its obligation: the inputs' buffers hold their blocks, the scratch buffers come out of the
    invariant and go back into it. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3]
  unfold outsAt Pipeline.ΦA
  rw [scopedRest0_eq]
  iintro ⟨⟨⟨HS0, HS1, HS2, HS3, HS4, HS5, HS6, HS7⟩, HP⟩, Ho, ⟨%d0, H0⟩, ⟨%d1, H1⟩, ⟨%d2, H2⟩, ⟨%d3, H3⟩⟩
  iapply ((kernelRun c _ _ _ _ _ _ _ _ _ _ _ _ _ _ _ _ _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  isplitl [HS0]; · icases HS0 with ⟨%f, HS0⟩; iexists f; iapply (Entails.of_eq (owns_whole (c : Thread nD τ) cc0_scratch0 fullShare f).symm); iexact HS0
  isplitl [HS1]; · icases HS1 with ⟨%f, HS1⟩; iexists f; iapply (Entails.of_eq (owns_whole (c : Thread nD τ) cc0_scratch1 fullShare f).symm); iexact HS1
  isplitl [HS2]; · icases HS2 with ⟨%f, HS2⟩; iexists f; iapply (Entails.of_eq (owns_whole (c : Thread nD τ) cc0_scratch2 fullShare f).symm); iexact HS2
  isplitl [HS3]; · icases HS3 with ⟨%f, HS3⟩; iexists f; iapply (Entails.of_eq (owns_whole (c : Thread nD τ) cc0_scratch3 fullShare f).symm); iexact HS3
  isplitl [HS4]; · icases HS4 with ⟨%f, HS4⟩; iexists f; iapply (Entails.of_eq (owns_whole (c : Thread nD τ) cc0_scratch4 fullShare f).symm); iexact HS4
  isplitl [HS5]; · icases HS5 with ⟨%f, HS5⟩; iexists f; iapply (Entails.of_eq (owns_whole (c : Thread nD τ) cc0_scratch5 fullShare f).symm); iexact HS5
  isplitl [HS6]; · icases HS6 with ⟨%f, HS6⟩; iexists f; iapply (Entails.of_eq (owns_whole (c : Thread nD τ) cc0_scratch6 fullShare f).symm); iexact HS6
  isplitl [HS7]; · icases HS7 with ⟨%f, HS7⟩; iexists f; iapply (Entails.of_eq (owns_whole (c : Thread nD τ) cc0_scratch7 fullShare f).symm); iexact HS7
  iintro ⟨H0, H1, H2, H3, HS0, HS1, HS2, HS3, HS4, HS5, HS6, HS7⟩
  isplitl [HP HS0 HS1 HS2 HS3 HS4 HS5 HS6 HS7]
  · isplitr [HP]; swap; · iexact HP
    isplitl [HS0]; · icases HS0 with ⟨%f, HS0⟩; iexists f; iapply (Entails.of_eq (owns_whole (c : Thread nD τ) cc0_scratch0 fullShare f)); iexact HS0
    isplitl [HS1]; · icases HS1 with ⟨%f, HS1⟩; iexists f; iapply (Entails.of_eq (owns_whole (c : Thread nD τ) cc0_scratch1 fullShare f)); iexact HS1
    isplitl [HS2]; · icases HS2 with ⟨%f, HS2⟩; iexists f; iapply (Entails.of_eq (owns_whole (c : Thread nD τ) cc0_scratch2 fullShare f)); iexact HS2
    isplitl [HS3]; · icases HS3 with ⟨%f, HS3⟩; iexists f; iapply (Entails.of_eq (owns_whole (c : Thread nD τ) cc0_scratch3 fullShare f)); iexact HS3
    isplitl [HS4]; · icases HS4 with ⟨%f, HS4⟩; iexists f; iapply (Entails.of_eq (owns_whole (c : Thread nD τ) cc0_scratch4 fullShare f)); iexact HS4
    isplitl [HS5]; · icases HS5 with ⟨%f, HS5⟩; iexists f; iapply (Entails.of_eq (owns_whole (c : Thread nD τ) cc0_scratch5 fullShare f)); iexact HS5
    isplitl [HS6]; · icases HS6 with ⟨%f, HS6⟩; iexists f; iapply (Entails.of_eq (owns_whole (c : Thread nD τ) cc0_scratch6 fullShare f)); iexact HS6
    · icases HS7 with ⟨%f, HS7⟩; iexists f; iapply (Entails.of_eq (owns_whole (c : Thread nD τ) cc0_scratch7 fullShare f)); iexact HS7
  isplitl [Ho]; · iexact Ho
  isplitl [H0]; · iexact H0
  isplitl [H1]; · iexact H1
  isplitl [H2]; · iexact H2
  iexact H3

set_option backward.isDefEq.respectTransparency.types false in
/-- From any memory with zero counters every weakly fair execution of @main terminates; the arrays of the pipeline and the
    results of the host operations after it are at what the proof data say, and every counter is at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- The frame: the arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main (F := F) m ρ)

end Cert.Proof.KernelIdeal

end
-- ==== Proof.Frames.lean ====
/-
  The claims of the certificate that are not about values: each program terminates with its arguments unchanged and every
  counter at zero, and the two named constants are the rationals they were rounded from.
-/
module

public import proofs.«01_k».proof.Defs
public import proofs.«01_k».proof.Proof.Kernel.Run
public import proofs.«01_k».proof.Proof.KernelIdeal.Run
public import proofs.«01_k».proof.Proof.Gen.Reference.Run
public import proofs.«01_k».proof.Proof.Gen.ReferenceIdeal.Run

@[expose] public section

noncomputable section

namespace Cert.Proof

open Idealize.ShloMosaic Idealize.SL.Sem

theorem frame_k : Cert.quiescent_Kernel := fun m ρ _ => Cert.Proof.Kernel.frame m ρ

theorem frame_i : Cert.quiescent_KernelIdeal := fun m ρ _ => Cert.Proof.KernelIdeal.frame m ρ

theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ref : Cert.quiescent_Reference := fun m ρ _ =>
  (θ_run Cert.Reference.defs _ _).mono (fun r h => ⟨fun c => (h c).2, sem_eq_zero_of_no_sems (by decide) r.2⟩)
    (Cert.Reference.Value.run (F := Bits) m ρ)

theorem preserves : Cert.preserves_Kernel_KernelIdeal :=
  ⟨IdealRules.named_const.statement Cert.KernelIdeal.κ "inv_2nm" .f32 0x3B042108#32 ((1 / 496 : ℝ) : EReal) rfl,
    IdealRules.named_const.statement Cert.KernelIdeal.κ "inv_mean" .f32 0x37842108#32 ((1 / 63488 : ℝ) : EReal) rfl⟩

theorem preserves_ref : Cert.preserves_Reference_ReferenceIdeal := trivial

end Cert.Proof

end
-- ==== Proof.KernelIdeal.Read.lean ====
/-
  `KernelIdeal`: what the run of the kernel body found in the result's buffer, read as a function of the three inputs' blocks:
  three steps of the optimiser, each from the gradients at the current parameters, then the loss.
-/
module

public import proofs.«01_k».proof.Proof.KernelIdeal.Run
public import Idealize.ShloMosaic.Lib.VecWindow
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F] [Named F]

/-- The memberships: the logistic of the logits, zero on the masked columns. -/
def hOf (G : Vec F S248x256 .f32) : Vec F S248x256 .f32 := k0_pay44 k0_pay37 G

/-- The row number of a block's point among the 248 rows. -/
def i31 : IVec S8x248x1 32 := iota .tc S8x248x1 32 [1] iota_S8x248x1_d1_w32

/-- The row number of a block's point inside its block. -/
def i32 : IVec S8x248x1 32 := iota .tc S8x248x1 32 [0] iota_S8x248x1_d0_w32

/-- The gradient of the data part of the loss in the memberships. -/
def ghOf (x0 : Vec F S248x256 .f32) (h : Vec F S248x256 .f32) : Vec F S248x256 .f32 := gh1 x0 i31 i32 h

/-- The gradient of the loss in the logits. -/
def glat (x0 : Vec F S248x256 .f32) (G : Vec F S248x256 .f32) (t : Vec F S1x256 .f32) : Vec F S248x256 .f32 :=
  k0_pay49 t (hOf G) (ghOf x0 (hOf G))

/-- The gradient of the loss in the ordering parameter. -/
def gt (G : Vec F S248x256 .f32) (t : Vec F S1x256 .f32) : Vec F S1x256 .f32 :=
  k0_pay53 (k0_pay50 t (hOf G)) (k0_pay51 t (hOf G)) k0_pay52

/-- The first moment of the logits after the first step. -/
def MO1 (x0 x1 : Vec F S248x256 .f32) (x2 : Vec F S1x256 .f32) : Vec F S248x256 .f32 := k0_pay56 (glat x0 x1 x2) k0_pay40
/-- The second moment of the logits after the first step. -/
def V1 (x0 x1 : Vec F S248x256 .f32) (x2 : Vec F S1x256 .f32) : Vec F S248x256 .f32 := k0_pay57 (glat x0 x1 x2) k0_pay41
/-- The logits after the first step. -/
def G1 (x0 x1 : Vec F S248x256 .f32) (x2 : Vec F S1x256 .f32) : Vec F S248x256 .f32 := k0_pay58 x1 (glat x0 x1 x2) k0_pay40 k0_pay41
/-- The first moment of the ordering parameter after the first step. -/
def MT1 (x1 : Vec F S248x256 .f32) (x2 : Vec F S1x256 .f32) : Vec F S1x256 .f32 := k0_pay62 (gt x1 x2) k0_pay42
/-- The second moment of the ordering parameter after the first step. -/
def VT1 (x1 : Vec F S248x256 .f32) (x2 : Vec F S1x256 .f32) : Vec F S1x256 .f32 := k0_pay63 (gt x1 x2) k0_pay43
/-- The ordering parameter after the first step. -/
def T1 (x1 : Vec F S248x256 .f32) (x2 : Vec F S1x256 .f32) : Vec F S1x256 .f32 := k0_pay64 x2 (gt x1 x2) k0_pay42 k0_pay43

/-- The first moment of the logits after the second step. -/
def MO2 (x0 x1 : Vec F S248x256 .f32) (x2 : Vec F S1x256 .f32) : Vec F S248x256 .f32 :=
  k0_pay56 (glat x0 (G1 x0 x1 x2) (T1 x1 x2)) (MO1 x0 x1 x2)
/-- The second moment of the logits after the second step. -/
def V2 (x0 x1 : Vec F S248x256 .f32) (x2 : Vec F S1x256 .f32) : Vec F S248x256 .f32 :=
  k0_pay57 (glat x0 (G1 x0 x1 x2) (T1 x1 x2)) (V1 x0 x1 x2)
/-- The logits after the second step. -/
def G2 (x0 x1 : Vec F S248x256 .f32) (x2 : Vec F S1x256 .f32) : Vec F S248x256 .f32 :=
  k0_pay79 (G1 x0 x1 x2) (glat x0 (G1 x0 x1 x2) (T1 x1 x2)) (MO1 x0 x1 x2) (V1 x0 x1 x2)
/-- The first moment of the ordering parameter after the second step. -/
def MT2 (x0 x1 : Vec F S248x256 .f32) (x2 : Vec F S1x256 .f32) : Vec F S1x256 .f32 :=
  k0_pay62 (gt (G1 x0 x1 x2) (T1 x1 x2)) (MT1 x1 x2)
/-- The second moment of the ordering parameter after the second step. -/
def VT2 (x0 x1 : Vec F S248x256 .f32) (x2 : Vec F S1x256 .f32) : Vec F S1x256 .f32 :=
  k0_pay63 (gt (G1 x0 x1 x2) (T1 x1 x2)) (VT1 x1 x2)
/-- The ordering parameter after the second step. -/
def T2 (x0 x1 : Vec F S248x256 .f32) (x2 : Vec F S1x256 .f32) : Vec F S1x256 .f32 :=
  k0_pay84 (T1 x1 x2) (gt (G1 x0 x1 x2) (T1 x1 x2)) (MT1 x1 x2) (VT1 x1 x2)

/-- The logits after the third step. -/
def G3 (x0 x1 : Vec F S248x256 .f32) (x2 : Vec F S1x256 .f32) : Vec F S248x256 .f32 :=
  k0_pay97 (G2 x0 x1 x2) (glat x0 (G2 x0 x1 x2) (T2 x0 x1 x2)) (MO2 x0 x1 x2) (V2 x0 x1 x2)
/-- The ordering parameter after the third step. -/
def T3 (x0 x1 : Vec F S248x256 .f32) (x2 : Vec F S1x256 .f32) : Vec F S1x256 .f32 :=
  k0_pay103 (T2 x0 x1 x2) (gt (G2 x0 x1 x2) (T2 x0 x1 x2)) (k0_pay98 (MT2 x0 x1 x2)) (FloatOps.ofBits .f32 0x3DCCCCCD#32) (VT2 x0 x1 x2)

theorem trips4 : k0_t4_loop.trips = 31 := by decide

/-- The sum of squares over the first `n` blocks of rows. -/
def acc (x0 h : Vec F S248x256 .f32) : ℕ → F .f32
  | 0 => FloatOps.ofBits .f32 0x00000000#32
  | n + 1 => if hn : n < 31 then k0_pay1 x0 i31 i32 ⟨n, lt_of_lt_of_eq hn trips4.symm⟩ (acc x0 h n) (rows8 h n hn) else acc x0 h n

theorem L_v1 (c : Dev nD) (M0 : Memref sig .tc .vmem S248x256 .f32) (h0 : M0.IsWhole) (x0 : Vec F S248x256 .f32) :
    kernelRun.sl.v1 c M0 h0 x0 = x0 := by
  refine (shapeCast_self _ _).trans ?_
  exact (View.readAt_full _ _ _).trans (h0.read_unread _)

theorem L_v9 (c : Dev nD) (M1 : Memref sig .tc .vmem S248x256 .f32) (h1 : M1.IsWhole) (x1 : Vec F S248x256 .f32) :
    kernelRun.sl.v9 c M1 h1 x1 = x1 := by
  refine (shapeCast_self _ _).trans ?_
  refine (shapeCast_self _ _).trans ?_
  exact (View.readAt_full _ _ _).trans (h1.read_unread _)

theorem L_v14 (c : Dev nD) (M2 : Memref sig .tc .vmem S1x256 .f32) (h2 : M2.IsWhole) (x2 : Vec F S1x256 .f32) :
    kernelRun.sl.v14 c M2 h2 x2 = x2 := by
  refine (shapeCast_self _ _).trans ?_
  refine (shapeCast_self _ _).trans ?_
  exact (View.readAt_full _ _ _).trans (h2.read_unread _)

theorem L_v33 (c : Dev nD) (M1 : Memref sig .tc .vmem S248x256 .f32) (h1 : M1.IsWhole) (M4 : Memref sig .tc .vmem S248x256 .f32) (x1 : Vec F S248x256 .f32) :
    kernelRun.sl.v33 c M1 h1 M4 x1 = x1 := by
  refine (View.readCov_full _ _ _ _ _).trans ?_
  show (kernelRun.sl.v9 c M1 h1 x1) = _
  rw [L_v9]
  try rfl

theorem L_v41 (c : Dev nD) (M2 : Memref sig .tc .vmem S1x256 .f32) (h2 : M2.IsWhole) (M9 : Memref sig .tc .vmem S1x256 .f32) (x2 : Vec F S1x256 .f32) :
    kernelRun.sl.v41 c M2 h2 M9 x2 = x2 := by
  refine (View.readCov_full _ _ _ _ _).trans ?_
  show (kernelRun.sl.v14 c M2 h2 x2) = _
  rw [L_v14]
  try rfl

theorem L_v51 (c : Dev nD) (M1 : Memref sig .tc .vmem S248x256 .f32) (h1 : M1.IsWhole) (M4 : Memref sig .tc .vmem S248x256 .f32) (M5 : Memref sig .tc .vmem S248x256 .f32) (x1 : Vec F S248x256 .f32) :
    kernelRun.sl.v51 c M1 h1 M4 M5 x1 = hOf x1 := by
  refine (View.readCov_full _ _ _ _ _).trans ?_
  show k0_pay44 k0_pay37 (kernelRun.sl.v33 c M1 h1 M4 x1) = _
  rw [L_v33]
  try rfl

theorem L_v52 (c : Dev nD) (M0 : Memref sig .tc .vmem S248x256 .f32) (h0 : M0.IsWhole) (M1 : Memref sig .tc .vmem S248x256 .f32) (h1 : M1.IsWhole) (M4 : Memref sig .tc .vmem S248x256 .f32) (M5 : Memref sig .tc .vmem S248x256 .f32) (M6 : Memref sig .tc .vmem S248x256 .f32) (h6 : M6.IsWhole) (x0 : Vec F S248x256 .f32) (x1 : Vec F S248x256 .f32) :
    kernelRun.sl.v52 c M0 h0 M1 h1 M4 M5 M6 h6 x0 x1 = ghOf x0 (hOf x1) := by
  refine (View.readAt_full _ _ _).trans ((h6.read_unread _).trans ?_)
  rw [L_v1]
  refine (congrArg (gh1 x0 i31 i32) ((View.read_writes_full _ _ _ _ _).trans ?_ : _ = (hOf x1))).trans rfl
  show k0_pay44 k0_pay37 (kernelRun.sl.v33 c M1 h1 M4 x1) = _
  rw [L_v33]
  try rfl

theorem L_v74 (c : Dev nD) (M7 : Memref sig .tc .vmem S248x256 .f32) :
    kernelRun.sl.v74 (F := F) c M7 = k0_pay40 := by
  refine (View.readCov_full _ _ _ _ _).trans ?_
  show kernelRun.sl.v18 (F := F) = _
  try rfl

theorem L_v80 (c : Dev nD) (M8 : Memref sig .tc .vmem S248x256 .f32) :
    kernelRun.sl.v80 (F := F) c M8 = k0_pay41 := by
  refine (View.readCov_full _ _ _ _ _).trans ?_
  show kernelRun.sl.v18 (F := F) = _
  try rfl

theorem L_v107 (c : Dev nD) (M10 : Memref sig .tc .vmem S1x256 .f32) :
    kernelRun.sl.v107 (F := F) c M10 = k0_pay42 := by
  refine (View.readCov_full _ _ _ _ _).trans ?_
  show kernelRun.sl.v26 (F := F) = _
  try rfl

theorem L_v113 (c : Dev nD) (M11 : Memref sig .tc .vmem S1x256 .f32) :
    kernelRun.sl.v113 (F := F) c M11 = k0_pay43 := by
  refine (View.readCov_full _ _ _ _ _).trans ?_
  show kernelRun.sl.v26 (F := F) = _
  try rfl

theorem L_r (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M9 : Memref sig .tc .vmem S1x256 .f32) (x0 : Vec F S248x256 .f32) (x1 : Vec F S248x256 .f32) (x2 : Vec F S1x256 .f32) :
    kernelRun.sl.r c M0 h0 M1 h1 M2 h2 M4 M5 M6 h6 M9 x0 x1 x2 = glat x0 x1 x2 := by
  show k0_pay49 (kernelRun.sl.v41 c M2 h2 M9 x2) (kernelRun.sl.v51 c M1 h1 M4 M5 x1) (kernelRun.sl.v52 c M0 h0 M1 h1 M4 M5 M6 h6 x0 x1) = _
  rw [L_v41, L_v51, L_v52]
  try rfl

theorem L_r_3 (c : Dev nD) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M9 : Memref sig .tc .vmem S1x256 .f32) (x1 : Vec F S248x256 .f32) (x2 : Vec F S1x256 .f32) :
    kernelRun.sl.r_3 c M1 h1 M2 h2 M4 M5 M9 x1 x2 = gt x1 x2 := by
  show k0_pay53 (k0_pay50 (kernelRun.sl.v41 c M2 h2 M9 x2) (kernelRun.sl.v51 c M1 h1 M4 M5 x1)) (k0_pay51 (kernelRun.sl.v41 c M2 h2 M9 x2) (kernelRun.sl.v51 c M1 h1 M4 M5 x1)) k0_pay52 = _
  rw [L_v41, L_v51]
  try rfl

theorem L_r_4 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (x0 : Vec F S248x256 .f32) (x1 : Vec F S248x256 .f32) (x2 : Vec F S1x256 .f32) :
    kernelRun.sl.r_4 c M0 h0 M1 h1 M2 h2 M4 M5 M6 h6 M7 M8 M9 x0 x1 x2 = G1 x0 x1 x2 := by
  show k0_pay58 (kernelRun.sl.v33 c M1 h1 M4 x1) (kernelRun.sl.r c M0 h0 M1 h1 M2 h2 M4 M5 M6 h6 M9 x0 x1 x2) (kernelRun.sl.v74 c M7) (kernelRun.sl.v80 c M8) = _
  rw [L_v33, L_r, L_v74, L_v80]
  try rfl

theorem L_v (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (x0 : Vec F S248x256 .f32) (x1 : Vec F S248x256 .f32) (x2 : Vec F S1x256 .f32) :
    kernelRun.sl.v c M0 h0 M1 h1 M2 h2 M4 M5 M6 h6 M7 M8 M9 x0 x1 x2 = G1 x0 x1 x2 := by
  refine (View.readCov_full _ _ _ _ _).trans ?_
  refine (shapeCast_self _ _).trans ?_
  exact L_r_4 c M0 h0 M1 h1 M2 h2 M4 M5 M6 h6 M7 M8 M9 x0 x1 x2

theorem L_v122 (c : Dev nD) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M9 : Memref sig .tc .vmem S1x256 .f32) (M10 : Memref sig .tc .vmem S1x256 .f32) (x1 : Vec F S248x256 .f32) (x2 : Vec F S1x256 .f32) :
    kernelRun.sl.v122 c M1 h1 M2 h2 M4 M5 M9 M10 x1 x2 = MT1 x1 x2 := by
  show k0_pay62 (kernelRun.sl.r_3 c M1 h1 M2 h2 M4 M5 M9 x1 x2) (kernelRun.sl.v107 c M10) = _
  rw [L_r_3, L_v107]
  try rfl

theorem L_v125 (c : Dev nD) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M9 : Memref sig .tc .vmem S1x256 .f32) (M11 : Memref sig .tc .vmem S1x256 .f32) (x1 : Vec F S248x256 .f32) (x2 : Vec F S1x256 .f32) :
    kernelRun.sl.v125 c M1 h1 M2 h2 M4 M5 M9 M11 x1 x2 = VT1 x1 x2 := by
  show k0_pay63 (kernelRun.sl.r_3 c M1 h1 M2 h2 M4 M5 M9 x1 x2) (kernelRun.sl.v113 c M11) = _
  rw [L_r_3, L_v113]
  try rfl

theorem L_v139 (c : Dev nD) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M9 : Memref sig .tc .vmem S1x256 .f32) (M10 : Memref sig .tc .vmem S1x256 .f32) (M11 : Memref sig .tc .vmem S1x256 .f32) (x1 : Vec F S248x256 .f32) (x2 : Vec F S1x256 .f32) :
    kernelRun.sl.v139 c M1 h1 M2 h2 M4 M5 M9 M10 M11 x1 x2 = T1 x1 x2 := by
  show k0_pay64 (kernelRun.sl.v41 c M2 h2 M9 x2) (kernelRun.sl.r_3 c M1 h1 M2 h2 M4 M5 M9 x1 x2) (kernelRun.sl.v107 c M10) (kernelRun.sl.v113 c M11) = _
  rw [L_v41, L_r_3, L_v107, L_v113]
  try rfl

theorem L_v148 (c : Dev nD) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M9 : Memref sig .tc .vmem S1x256 .f32) (M10 : Memref sig .tc .vmem S1x256 .f32) (M11 : Memref sig .tc .vmem S1x256 .f32) (x1 : Vec F S248x256 .f32) (x2 : Vec F S1x256 .f32) :
    kernelRun.sl.v148 c M1 h1 M2 h2 M4 M5 M9 M10 M11 x1 x2 = T1 x1 x2 := by
  refine (View.readCov_full _ _ _ _ _).trans ?_
  show (kernelRun.sl.v139 c M1 h1 M2 h2 M4 M5 M9 M10 M11 x1 x2) = _
  rw [L_v139]
  try rfl

theorem L_v158 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (x0 : Vec F S248x256 .f32) (x1 : Vec F S248x256 .f32) (x2 : Vec F S1x256 .f32) :
    kernelRun.sl.v158 c M0 h0 M1 h1 M2 h2 M4 M5 M6 h6 M7 M8 M9 x0 x1 x2 = hOf (G1 x0 x1 x2) := by
  refine (View.readCov_full _ _ _ _ _).trans ?_
  show k0_pay65 k0_pay37 (kernelRun.sl.v c M0 h0 M1 h1 M2 h2 M4 M5 M6 h6 M7 M8 M9 x0 x1 x2) = _
  rw [L_v]
  try rfl

theorem L_v159 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (x0 : Vec F S248x256 .f32) (x1 : Vec F S248x256 .f32) (x2 : Vec F S1x256 .f32) :
    kernelRun.sl.v159 c M0 h0 M1 h1 M2 h2 M4 M5 M6 h6 M7 M8 M9 x0 x1 x2 = ghOf x0 (hOf (G1 x0 x1 x2)) := by
  refine (View.readAt_full _ _ _).trans ((h6.read_unread _).trans ?_)
  rw [L_v1]
  refine (congrArg (gh2 x0 i31 i32) ((View.read_writes_full _ _ _ _ _).trans ?_ : _ = (hOf (G1 x0 x1 x2)))).trans rfl
  show k0_pay65 k0_pay37 (kernelRun.sl.v c M0 h0 M1 h1 M2 h2 M4 M5 M6 h6 M7 M8 M9 x0 x1 x2) = _
  rw [L_v]
  try rfl

theorem L_v181 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M9 : Memref sig .tc .vmem S1x256 .f32) (x0 : Vec F S248x256 .f32) (x1 : Vec F S248x256 .f32) (x2 : Vec F S1x256 .f32) :
    kernelRun.sl.v181 c M0 h0 M1 h1 M2 h2 M4 M5 M6 h6 M7 M9 x0 x1 x2 = MO1 x0 x1 x2 := by
  refine (View.readCov_full _ _ _ _ _).trans ?_
  show k0_pay56 (kernelRun.sl.r c M0 h0 M1 h1 M2 h2 M4 M5 M6 h6 M9 x0 x1 x2) (kernelRun.sl.v74 c M7) = _
  rw [L_r, L_v74]
  try rfl

theorem L_v187 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M8 : Memref sig .tc .vmem S248x256 .f32) (M9 : Memref sig .tc .vmem S1x256 .f32) (x0 : Vec F S248x256 .f32) (x1 : Vec F S248x256 .f32) (x2 : Vec F S1x256 .f32) :
    kernelRun.sl.v187 c M0 h0 M1 h1 M2 h2 M4 M5 M6 h6 M8 M9 x0 x1 x2 = V1 x0 x1 x2 := by
  refine (View.readCov_full _ _ _ _ _).trans ?_
  show k0_pay57 (kernelRun.sl.r c M0 h0 M1 h1 M2 h2 M4 M5 M6 h6 M9 x0 x1 x2) (kernelRun.sl.v80 c M8) = _
  rw [L_r, L_v80]
  try rfl

theorem L_r_5 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (M10 : Memref sig .tc .vmem S1x256 .f32) (M11 : Memref sig .tc .vmem S1x256 .f32) (x0 : Vec F S248x256 .f32) (x1 : Vec F S248x256 .f32) (x2 : Vec F S1x256 .f32) :
    kernelRun.sl.r_5 c M0 h0 M1 h1 M2 h2 M4 M5 M6 h6 M7 M8 M9 M10 M11 x0 x1 x2 = glat x0 (G1 x0 x1 x2) (T1 x1 x2) := by
  show k0_pay70 (kernelRun.sl.v148 c M1 h1 M2 h2 M4 M5 M9 M10 M11 x1 x2) (kernelRun.sl.v158 c M0 h0 M1 h1 M2 h2 M4 M5 M6 h6 M7 M8 M9 x0 x1 x2) (kernelRun.sl.v159 c M0 h0 M1 h1 M2 h2 M4 M5 M6 h6 M7 M8 M9 x0 x1 x2) = _
  rw [L_v148, L_v158, L_v159]
  try rfl

theorem L_r_8 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (M10 : Memref sig .tc .vmem S1x256 .f32) (M11 : Memref sig .tc .vmem S1x256 .f32) (x0 : Vec F S248x256 .f32) (x1 : Vec F S248x256 .f32) (x2 : Vec F S1x256 .f32) :
    kernelRun.sl.r_8 c M0 h0 M1 h1 M2 h2 M4 M5 M6 h6 M7 M8 M9 M10 M11 x0 x1 x2 = gt (G1 x0 x1 x2) (T1 x1 x2) := by
  show k0_pay74 (k0_pay72 (kernelRun.sl.v148 c M1 h1 M2 h2 M4 M5 M9 M10 M11 x1 x2) (kernelRun.sl.v158 c M0 h0 M1 h1 M2 h2 M4 M5 M6 h6 M7 M8 M9 x0 x1 x2)) (k0_pay73 (kernelRun.sl.v148 c M1 h1 M2 h2 M4 M5 M9 M10 M11 x1 x2) (kernelRun.sl.v158 c M0 h0 M1 h1 M2 h2 M4 M5 M6 h6 M7 M8 M9 x0 x1 x2)) = _
  rw [L_v148, L_v158]
  try rfl

theorem L_v214 (c : Dev nD) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M9 : Memref sig .tc .vmem S1x256 .f32) (M10 : Memref sig .tc .vmem S1x256 .f32) (x1 : Vec F S248x256 .f32) (x2 : Vec F S1x256 .f32) :
    kernelRun.sl.v214 c M1 h1 M2 h2 M4 M5 M9 M10 x1 x2 = MT1 x1 x2 := by
  refine (View.readCov_full _ _ _ _ _).trans ?_
  show (kernelRun.sl.v122 c M1 h1 M2 h2 M4 M5 M9 M10 x1 x2) = _
  rw [L_v122]
  try rfl

theorem L_v220 (c : Dev nD) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M9 : Memref sig .tc .vmem S1x256 .f32) (M11 : Memref sig .tc .vmem S1x256 .f32) (x1 : Vec F S248x256 .f32) (x2 : Vec F S1x256 .f32) :
    kernelRun.sl.v220 c M1 h1 M2 h2 M4 M5 M9 M11 x1 x2 = VT1 x1 x2 := by
  refine (View.readCov_full _ _ _ _ _).trans ?_
  show (kernelRun.sl.v125 c M1 h1 M2 h2 M4 M5 M9 M11 x1 x2) = _
  rw [L_v125]
  try rfl

theorem L_v229 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (M10 : Memref sig .tc .vmem S1x256 .f32) (M11 : Memref sig .tc .vmem S1x256 .f32) (x0 : Vec F S248x256 .f32) (x1 : Vec F S248x256 .f32) (x2 : Vec F S1x256 .f32) :
    kernelRun.sl.v229 c M0 h0 M1 h1 M2 h2 M4 M5 M6 h6 M7 M8 M9 M10 M11 x0 x1 x2 = MT2 x0 x1 x2 := by
  show k0_pay82 (kernelRun.sl.r_8 c M0 h0 M1 h1 M2 h2 M4 M5 M6 h6 M7 M8 M9 M10 M11 x0 x1 x2) (kernelRun.sl.v214 c M1 h1 M2 h2 M4 M5 M9 M10 x1 x2) = _
  rw [L_r_8, L_v214]
  try rfl

theorem L_v232 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (M10 : Memref sig .tc .vmem S1x256 .f32) (M11 : Memref sig .tc .vmem S1x256 .f32) (x0 : Vec F S248x256 .f32) (x1 : Vec F S248x256 .f32) (x2 : Vec F S1x256 .f32) :
    kernelRun.sl.v232 c M0 h0 M1 h1 M2 h2 M4 M5 M6 h6 M7 M8 M9 M10 M11 x0 x1 x2 = VT2 x0 x1 x2 := by
  show k0_pay83 (kernelRun.sl.r_8 c M0 h0 M1 h1 M2 h2 M4 M5 M6 h6 M7 M8 M9 M10 M11 x0 x1 x2) (kernelRun.sl.v220 c M1 h1 M2 h2 M4 M5 M9 M11 x1 x2) = _
  rw [L_r_8, L_v220]
  try rfl

theorem L_v246 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (M10 : Memref sig .tc .vmem S1x256 .f32) (M11 : Memref sig .tc .vmem S1x256 .f32) (x0 : Vec F S248x256 .f32) (x1 : Vec F S248x256 .f32) (x2 : Vec F S1x256 .f32) :
    kernelRun.sl.v246 c M0 h0 M1 h1 M2 h2 M4 M5 M6 h6 M7 M8 M9 M10 M11 x0 x1 x2 = T2 x0 x1 x2 := by
  show k0_pay84 (kernelRun.sl.v148 c M1 h1 M2 h2 M4 M5 M9 M10 M11 x1 x2) (kernelRun.sl.r_8 c M0 h0 M1 h1 M2 h2 M4 M5 M6 h6 M7 M8 M9 M10 M11 x0 x1 x2) (kernelRun.sl.v214 c M1 h1 M2 h2 M4 M5 M9 M10 x1 x2) (kernelRun.sl.v220 c M1 h1 M2 h2 M4 M5 M9 M11 x1 x2) = _
  rw [L_v148, L_r_8, L_v214, L_v220]
  try rfl

theorem L_v247 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (M10 : Memref sig .tc .vmem S1x256 .f32) (M11 : Memref sig .tc .vmem S1x256 .f32) (x0 : Vec F S248x256 .f32) (x1 : Vec F S248x256 .f32) (x2 : Vec F S1x256 .f32) :
    kernelRun.sl.v247 c M0 h0 M1 h1 M2 h2 M4 M5 M6 h6 M7 M8 M9 M10 M11 x0 x1 x2 = G2 x0 x1 x2 := by
  refine (View.readCov_full _ _ _ _ _).trans ?_
  show k0_pay79 (kernelRun.sl.v c M0 h0 M1 h1 M2 h2 M4 M5 M6 h6 M7 M8 M9 x0 x1 x2) (kernelRun.sl.r_5 c M0 h0 M1 h1 M2 h2 M4 M5 M6 h6 M7 M8 M9 M10 M11 x0 x1 x2) (kernelRun.sl.v181 c M0 h0 M1 h1 M2 h2 M4 M5 M6 h6 M7 M9 x0 x1 x2) (kernelRun.sl.v187 c M0 h0 M1 h1 M2 h2 M4 M5 M6 h6 M8 M9 x0 x1 x2) = _
  rw [L_v, L_r_5, L_v181, L_v187]
  try rfl

theorem L_v255 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (M10 : Memref sig .tc .vmem S1x256 .f32) (M11 : Memref sig .tc .vmem S1x256 .f32) (x0 : Vec F S248x256 .f32) (x1 : Vec F S248x256 .f32) (x2 : Vec F S1x256 .f32) :
    kernelRun.sl.v255 c M0 h0 M1 h1 M2 h2 M4 M5 M6 h6 M7 M8 M9 M10 M11 x0 x1 x2 = T2 x0 x1 x2 := by
  refine (View.readCov_full _ _ _ _ _).trans ?_
  show (kernelRun.sl.v246 c M0 h0 M1 h1 M2 h2 M4 M5 M6 h6 M7 M8 M9 M10 M11 x0 x1 x2) = _
  rw [L_v246]
  try rfl

theorem L_v250 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (M10 : Memref sig .tc .vmem S1x256 .f32) (M11 : Memref sig .tc .vmem S1x256 .f32) (x0 : Vec F S248x256 .f32) (x1 : Vec F S248x256 .f32) (x2 : Vec F S1x256 .f32) :
    kernelRun.sl.v250 c M0 h0 M1 h1 M2 h2 M4 M5 M6 h6 M7 M8 M9 M10 M11 x0 x1 x2 = hOf (G2 x0 x1 x2) := by
  show k0_pay85 k0_pay37 (kernelRun.sl.v247 c M0 h0 M1 h1 M2 h2 M4 M5 M6 h6 M7 M8 M9 M10 M11 x0 x1 x2) = _
  rw [L_v247]
  exact (shapeCast_self _ shapeCasts_S248x256_S248x256).symm

theorem L_v265 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (M10 : Memref sig .tc .vmem S1x256 .f32) (M11 : Memref sig .tc .vmem S1x256 .f32) (x0 : Vec F S248x256 .f32) (x1 : Vec F S248x256 .f32) (x2 : Vec F S1x256 .f32) :
    kernelRun.sl.v265 c M0 h0 M1 h1 M2 h2 M4 M5 M6 h6 M7 M8 M9 M10 M11 x0 x1 x2 = hOf (G2 x0 x1 x2) := by
  refine (View.readCov_full _ _ _ _ _).trans ?_
  show k0_pay86 (kernelRun.sl.v250 c M0 h0 M1 h1 M2 h2 M4 M5 M6 h6 M7 M8 M9 M10 M11 x0 x1 x2) = _
  rw [L_v250]
  exact shapeCast_self _ shapeCasts_S248x256_S248x256

theorem L_v266 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (M10 : Memref sig .tc .vmem S1x256 .f32) (M11 : Memref sig .tc .vmem S1x256 .f32) (x0 : Vec F S248x256 .f32) (x1 : Vec F S248x256 .f32) (x2 : Vec F S1x256 .f32) :
    kernelRun.sl.v266 c M0 h0 M1 h1 M2 h2 M4 M5 M6 h6 M7 M8 M9 M10 M11 x0 x1 x2 = ghOf x0 (hOf (G2 x0 x1 x2)) := by
  refine (View.readAt_full _ _ _).trans ((h6.read_unread _).trans ?_)
  rw [L_v1]
  refine (congrArg (gh3 x0 i31 i32) ((View.read_writes_full _ _ _ _ _).trans ?_ : _ = (hOf (G2 x0 x1 x2)))).trans rfl
  show k0_pay86 (kernelRun.sl.v250 c M0 h0 M1 h1 M2 h2 M4 M5 M6 h6 M7 M8 M9 M10 M11 x0 x1 x2) = _
  rw [L_v250]
  exact shapeCast_self _ shapeCasts_S248x256_S248x256

theorem L_v288 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (M10 : Memref sig .tc .vmem S1x256 .f32) (M11 : Memref sig .tc .vmem S1x256 .f32) (x0 : Vec F S248x256 .f32) (x1 : Vec F S248x256 .f32) (x2 : Vec F S1x256 .f32) :
    kernelRun.sl.v288 c M0 h0 M1 h1 M2 h2 M4 M5 M6 h6 M7 M8 M9 M10 M11 x0 x1 x2 = MO2 x0 x1 x2 := by
  refine (View.readCov_full _ _ _ _ _).trans ?_
  show k0_pay77 (kernelRun.sl.r_5 c M0 h0 M1 h1 M2 h2 M4 M5 M6 h6 M7 M8 M9 M10 M11 x0 x1 x2) (kernelRun.sl.v181 c M0 h0 M1 h1 M2 h2 M4 M5 M6 h6 M7 M9 x0 x1 x2) = _
  rw [L_r_5, L_v181]
  try rfl

theorem L_v294 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (M10 : Memref sig .tc .vmem S1x256 .f32) (M11 : Memref sig .tc .vmem S1x256 .f32) (x0 : Vec F S248x256 .f32) (x1 : Vec F S248x256 .f32) (x2 : Vec F S1x256 .f32) :
    kernelRun.sl.v294 c M0 h0 M1 h1 M2 h2 M4 M5 M6 h6 M7 M8 M9 M10 M11 x0 x1 x2 = V2 x0 x1 x2 := by
  refine (View.readCov_full _ _ _ _ _).trans ?_
  show k0_pay78 (kernelRun.sl.r_5 c M0 h0 M1 h1 M2 h2 M4 M5 M6 h6 M7 M8 M9 M10 M11 x0 x1 x2) (kernelRun.sl.v187 c M0 h0 M1 h1 M2 h2 M4 M5 M6 h6 M8 M9 x0 x1 x2) = _
  rw [L_r_5, L_v187]
  try rfl

theorem L_r_9 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (M10 : Memref sig .tc .vmem S1x256 .f32) (M11 : Memref sig .tc .vmem S1x256 .f32) (x0 : Vec F S248x256 .f32) (x1 : Vec F S248x256 .f32) (x2 : Vec F S1x256 .f32) :
    kernelRun.sl.r_9 c M0 h0 M1 h1 M2 h2 M4 M5 M6 h6 M7 M8 M9 M10 M11 x0 x1 x2 = glat x0 (G2 x0 x1 x2) (T2 x0 x1 x2) := by
  show k0_pay91 (kernelRun.sl.v255 c M0 h0 M1 h1 M2 h2 M4 M5 M6 h6 M7 M8 M9 M10 M11 x0 x1 x2) (kernelRun.sl.v265 c M0 h0 M1 h1 M2 h2 M4 M5 M6 h6 M7 M8 M9 M10 M11 x0 x1 x2) (kernelRun.sl.v266 c M0 h0 M1 h1 M2 h2 M4 M5 M6 h6 M7 M8 M9 M10 M11 x0 x1 x2) = _
  rw [L_v255, L_v265, L_v266]
  try rfl

theorem L_r_10 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (M10 : Memref sig .tc .vmem S1x256 .f32) (M11 : Memref sig .tc .vmem S1x256 .f32) (x0 : Vec F S248x256 .f32) (x1 : Vec F S248x256 .f32) (x2 : Vec F S1x256 .f32) :
    kernelRun.sl.r_10 c M0 h0 M1 h1 M2 h2 M4 M5 M6 h6 M7 M8 M9 M10 M11 x0 x1 x2 = gt (G2 x0 x1 x2) (T2 x0 x1 x2) := by
  show k0_pay92 (kernelRun.sl.v255 c M0 h0 M1 h1 M2 h2 M4 M5 M6 h6 M7 M8 M9 M10 M11 x0 x1 x2) (kernelRun.sl.v265 c M0 h0 M1 h1 M2 h2 M4 M5 M6 h6 M7 M8 M9 M10 M11 x0 x1 x2) = _
  rw [L_v255, L_v265]
  try rfl

theorem L_v320 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (M10 : Memref sig .tc .vmem S1x256 .f32) (M11 : Memref sig .tc .vmem S1x256 .f32) (x0 : Vec F S248x256 .f32) (x1 : Vec F S248x256 .f32) (x2 : Vec F S1x256 .f32) :
    kernelRun.sl.v320 c M0 h0 M1 h1 M2 h2 M4 M5 M6 h6 M7 M8 M9 M10 M11 x0 x1 x2 = G3 x0 x1 x2 := by
  show k0_pay97 (kernelRun.sl.v247 c M0 h0 M1 h1 M2 h2 M4 M5 M6 h6 M7 M8 M9 M10 M11 x0 x1 x2) (kernelRun.sl.r_9 c M0 h0 M1 h1 M2 h2 M4 M5 M6 h6 M7 M8 M9 M10 M11 x0 x1 x2) (kernelRun.sl.v288 c M0 h0 M1 h1 M2 h2 M4 M5 M6 h6 M7 M8 M9 M10 M11 x0 x1 x2) (kernelRun.sl.v294 c M0 h0 M1 h1 M2 h2 M4 M5 M6 h6 M7 M8 M9 M10 M11 x0 x1 x2) = _
  rw [L_v247, L_r_9, L_v288, L_v294]
  try rfl

theorem L_v321 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (M10 : Memref sig .tc .vmem S1x256 .f32) (M11 : Memref sig .tc .vmem S1x256 .f32) (x0 : Vec F S248x256 .f32) (x1 : Vec F S248x256 .f32) (x2 : Vec F S1x256 .f32) :
    kernelRun.sl.v321 c M0 h0 M1 h1 M2 h2 M4 M5 M6 h6 M7 M8 M9 M10 M11 x0 x1 x2 = MT2 x0 x1 x2 := by
  refine (View.readCov_full _ _ _ _ _).trans ?_
  show (kernelRun.sl.v229 c M0 h0 M1 h1 M2 h2 M4 M5 M6 h6 M7 M8 M9 M10 M11 x0 x1 x2) = _
  rw [L_v229]
  try rfl

theorem L_v327 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (M10 : Memref sig .tc .vmem S1x256 .f32) (M11 : Memref sig .tc .vmem S1x256 .f32) (x0 : Vec F S248x256 .f32) (x1 : Vec F S248x256 .f32) (x2 : Vec F S1x256 .f32) :
    kernelRun.sl.v327 c M0 h0 M1 h1 M2 h2 M4 M5 M6 h6 M7 M8 M9 M10 M11 x0 x1 x2 = VT2 x0 x1 x2 := by
  refine (View.readCov_full _ _ _ _ _).trans ?_
  show (kernelRun.sl.v232 c M0 h0 M1 h1 M2 h2 M4 M5 M6 h6 M7 M8 M9 M10 M11 x0 x1 x2) = _
  rw [L_v232]
  try rfl

theorem L_v353 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (M10 : Memref sig .tc .vmem S1x256 .f32) (M11 : Memref sig .tc .vmem S1x256 .f32) (x0 : Vec F S248x256 .f32) (x1 : Vec F S248x256 .f32) (x2 : Vec F S1x256 .f32) :
    kernelRun.sl.v353 c M0 h0 M1 h1 M2 h2 M4 M5 M6 h6 M7 M8 M9 M10 M11 x0 x1 x2 = T3 x0 x1 x2 := by
  show k0_pay103 (kernelRun.sl.v255 c M0 h0 M1 h1 M2 h2 M4 M5 M6 h6 M7 M8 M9 M10 M11 x0 x1 x2) (kernelRun.sl.r_10 c M0 h0 M1 h1 M2 h2 M4 M5 M6 h6 M7 M8 M9 M10 M11 x0 x1 x2) (k0_pay98 (kernelRun.sl.v321 c M0 h0 M1 h1 M2 h2 M4 M5 M6 h6 M7 M8 M9 M10 M11 x0 x1 x2)) (kernelRun.sl.cst_164 (F := F)) (kernelRun.sl.v327 c M0 h0 M1 h1 M2 h2 M4 M5 M6 h6 M7 M8 M9 M10 M11 x0 x1 x2) = _
  rw [L_v255, L_r_10, L_v321, L_v327]
  try rfl

theorem L_v354 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (M10 : Memref sig .tc .vmem S1x256 .f32) (M11 : Memref sig .tc .vmem S1x256 .f32) (x0 : Vec F S248x256 .f32) (x1 : Vec F S248x256 .f32) (x2 : Vec F S1x256 .f32) :
    kernelRun.sl.v354 c M0 h0 M1 h1 M2 h2 M4 M5 M6 h6 M7 M8 M9 M10 M11 x0 x1 x2 = G3 x0 x1 x2 := by
  refine (View.readCov_full _ _ _ _ _).trans ?_
  show (kernelRun.sl.v320 c M0 h0 M1 h1 M2 h2 M4 M5 M6 h6 M7 M8 M9 M10 M11 x0 x1 x2) = _
  rw [L_v320]
  try rfl

theorem L_v357 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (M10 : Memref sig .tc .vmem S1x256 .f32) (M11 : Memref sig .tc .vmem S1x256 .f32) (x0 : Vec F S248x256 .f32) (x1 : Vec F S248x256 .f32) (x2 : Vec F S1x256 .f32) :
    kernelRun.sl.v357 c M0 h0 M1 h1 M2 h2 M4 M5 M6 h6 M7 M8 M9 M10 M11 x0 x1 x2 = hOf (G3 x0 x1 x2) := by
  show k0_pay104 k0_pay37 (kernelRun.sl.v354 c M0 h0 M1 h1 M2 h2 M4 M5 M6 h6 M7 M8 M9 M10 M11 x0 x1 x2) = _
  rw [L_v354]
  exact (shapeCast_self _ shapeCasts_S248x256_S248x256).symm

theorem L_v360 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (M10 : Memref sig .tc .vmem S1x256 .f32) (M11 : Memref sig .tc .vmem S1x256 .f32) (x0 : Vec F S248x256 .f32) (x1 : Vec F S248x256 .f32) (x2 : Vec F S1x256 .f32) :
    kernelRun.sl.v360 c M0 h0 M1 h1 M2 h2 M4 M5 M6 h6 M7 M8 M9 M10 M11 x0 x1 x2 = hOf (G3 x0 x1 x2) := by
  exact (shapeCast_self _ _).trans (L_v357 c M0 h0 M1 h1 M2 h2 M4 M5 M6 h6 M7 M8 M9 M10 M11 x0 x1 x2)

theorem L_v364 (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M4 : Memref sig .tc .vmem S248x256 .f32) (M5 : Memref sig .tc .vmem S248x256 .f32) (M6 : Memref sig .tc .vmem S248x256 .f32) (h6 : M6.IsWhole) (M7 : Memref sig .tc .vmem S248x256 .f32) (M8 : Memref sig .tc .vmem S248x256 .f32) (M9 : Memref sig .tc .vmem S1x256 .f32) (M10 : Memref sig .tc .vmem S1x256 .f32) (M11 : Memref sig .tc .vmem S1x256 .f32) (x0 : Vec F S248x256 .f32) (x1 : Vec F S248x256 .f32) (x2 : Vec F S1x256 .f32) :
    kernelRun.sl.v364 c M0 h0 M1 h1 M2 h2 M4 M5 M6 h6 M7 M8 M9 M10 M11 x0 x1 x2 = T3 x0 x1 x2 := by
  refine (View.readCov_full _ _ _ _ _).trans ?_
  show (kernelRun.sl.v353 c M0 h0 M1 h1 M2 h2 M4 M5 M6 h6 M7 M8 M9 M10 M11 x0 x1 x2) = _
  rw [L_v353]
  try rfl

theorem trip4_eq (𝒱 : Variants) (c : Dev nD) (bd : Option 𝒱.V) (arg0 : Memref sig .tc .vmem S248x256 .f32) (harg0 : arg0.IsWhole) (arg1 : Memref sig .tc .vmem S248x256 .f32) (harg1 : arg1.IsWhole) (arg2 : Memref sig .tc .vmem S1x256 .f32) (harg2 : arg2.IsWhole) (arg3 : Memref sig .tc .smem S1x1 .f32) (harg3 : arg3.IsWhole) (arg4 : Memref sig .tc .vmem S248x256 .f32) (harg4 : arg4.IsWhole) (arg5 : Memref sig .tc .vmem S248x256 .f32) (harg5 : arg5.IsWhole) (arg6 : Memref sig .tc .vmem S248x256 .f32) (harg6 : arg6.IsWhole) (arg7 : Memref sig .tc .vmem S248x256 .f32) (harg7 : arg7.IsWhole) (arg8 : Memref sig .tc .vmem S248x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (v1 : FVec F S248x256 .f32) (v31 : IVec S8x248x1 32) (v32 : IVec S8x248x1 32) (X : BufTy.Contents (Elt F) arg5.view.ty) (k : Fin k0_t4_loop.trips) (a : F .f32) (hk : k.val < 31) :
    tripR_k0_t4 (F := F) 𝒱 c bd arg0 harg0 arg1 harg1 arg2 harg2 arg3 harg3 arg4 harg4 arg5 harg5 arg6 harg6 arg7 harg7 arg8 harg8 arg9 harg9 arg10 harg10 arg11 harg11 v1 v31 v32 X k a
      = k0_pay1 v1 v31 v32 k a (rows8 (arg5.view.read (Elt F) X) k hk) := by
  unfold tripR_k0_t4
  unfold trip_k0_t4
  refine congrArg (k0_pay1 v1 v31 v32 k a) ?_
  exact readAt1 arg5 X ⟨k.val, lt_of_lt_of_eq hk trips1.symm⟩ hk

theorem st4_eq (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M3 : Memref sig .tc .smem S1x1 .f32) (h3 : M3.IsWhole) (M4 : Memref sig .tc .vmem S248x256 .f32) (h4 : M4.IsWhole) (M5 : Memref sig .tc .vmem S248x256 .f32) (h5 : M5.IsWhole) (M6 : Memref sig .tc .vmem S248x256 .f32) (h6 : M6.IsWhole) (M7 : Memref sig .tc .vmem S248x256 .f32) (h7 : M7.IsWhole) (M8 : Memref sig .tc .vmem S248x256 .f32) (h8 : M8.IsWhole) (M9 : Memref sig .tc .vmem S1x256 .f32) (h9 : M9.IsWhole) (M10 : Memref sig .tc .vmem S1x256 .f32) (h10 : M10.IsWhole) (M11 : Memref sig .tc .vmem S1x256 .f32) (h11 : M11.IsWhole)
    (x0 h : Vec F S248x256 .f32) (X : BufTy.Contents (Elt F) M5.view.ty) (hX : M5.view.read (Elt F) X = h) (n : ℕ) (hn : n ≤ 31) :
    st_k0_t4 (F := F) 𝒱₀ c none M0 h0 M1 h1 M2 h2 M3 h3 M4 h4 M5 h5 M6 h6 M7 h7 M8 h8 M9 h9 M10 h10 M11 h11 x0 i31 i32 X (FloatOps.ofBits .f32 0x00000000#32) n = acc x0 h n := by
  induction n with
  | zero => exact st_k0_t4_zero ..
  | succ n ih =>
    have e := st_k0_t4_succ (F := F) 𝒱₀ c none M0 h0 M1 h1 M2 h2 M3 h3 M4 h4 M5 h5 M6 h6 M7 h7 M8 h8 M9 h9 M10 h10 M11 h11 x0 i31 i32 X (FloatOps.ofBits .f32 0x00000000#32) ⟨n, lt_of_lt_of_eq hn trips4.symm⟩
    refine e.trans ?_
    rw [trip4_eq (k := ⟨n, lt_of_lt_of_eq hn trips4.symm⟩) (hk := hn)]
    rw [ih (by omega), hX]
    rw [acc, dif_pos (show n < 31 from hn)]

/-- The value the run of the body found: the loss at the memberships and the ordering parameter after three steps. -/
theorem kernelRun_fst (c : Dev nD) (M0 : Memref sig .tc .vmem S248x256 .f32) (h0 : M0.IsWhole) (M1 : Memref sig .tc .vmem S248x256 .f32) (h1 : M1.IsWhole) (M2 : Memref sig .tc .vmem S1x256 .f32) (h2 : M2.IsWhole) (M3 : Memref sig .tc .smem S1x1 .f32) (h3 : M3.IsWhole) (M4 : Memref sig .tc .vmem S248x256 .f32) (h4 : M4.IsWhole) (M5 : Memref sig .tc .vmem S248x256 .f32) (h5 : M5.IsWhole) (M6 : Memref sig .tc .vmem S248x256 .f32) (h6 : M6.IsWhole) (M7 : Memref sig .tc .vmem S248x256 .f32) (h7 : M7.IsWhole) (M8 : Memref sig .tc .vmem S248x256 .f32) (h8 : M8.IsWhole) (M9 : Memref sig .tc .vmem S1x256 .f32) (h9 : M9.IsWhole) (M10 : Memref sig .tc .vmem S1x256 .f32) (h10 : M10.IsWhole) (M11 : Memref sig .tc .vmem S1x256 .f32) (h11 : M11.IsWhole)
    (x0 x1 : Vec F S248x256 .f32) (x2 : Vec F S1x256 .f32) :
    (kernelRun (F := F) c M0 h0 M1 h1 M2 h2 M3 h3 M4 h4 M5 h5 M6 h6 M7 h7 M8 h8 M9 h9 M10 h10 M11 h11 x0 x1 x2).1
      = fun _ => k0_pay2 (hOf (G3 x0 x1 x2)) (acc x0 (hOf (G3 x0 x1 x2)) 31) (T3 x0 x1 x2) := by
  delta kernelRun
  dsimp only
  refine (View.read_writes_full _ _ _ _ _).trans ?_
  rw [L_v357, L_v364, L_v1]
  funext _
  refine congrArg (fun a => k0_pay2 (hOf (G3 x0 x1 x2)) a (T3 x0 x1 x2)) ?_
  refine st4_eq c M0 h0 M1 h1 M2 h2 M3 h3 M4 h4 M5 h5 M6 h6 M7 h7 M8 h8 M9 h9 M10 h10 M11 h11 x0 (hOf (G3 x0 x1 x2)) _ ?_ 31 le_rfl
  exact (View.read_writes_full _ _ _ _ _).trans (L_v360 c M0 h0 M1 h1 M2 h2 M4 M5 M6 h6 M7 M8 M9 M10 M11 x0 x1 x2)

end Cert.Proof.KernelIdeal
-- ==== Proof.Products.lean ====
/-
  Products over the lanes: the product by seven rotations and halvings, the product of all factors but one, its tree
  of products, and the count of zero factors.
-/
module

public import Idealize.ShloMosaic.Lib.Pointwise
public import Mathlib.Algebra.BigOperators.Fin
public import Mathlib.Tactic.Ring
public import Mathlib.Tactic.Abel

@[expose] public section

noncomputable section

namespace Cert.Proof.Products

open Finset

variable {M : Type*} [CommMonoid M]

/-- The product of `n` entries of `g`, walking down from `l` in steps of `s`. -/
def walk (g : Fin 128 → M) (s : Fin 128) (n : ℕ) (l : Fin 128) : M := ∏ j ∈ range n, g (l - j • s)

theorem walk_step (g : Fin 128 → M) (s : Fin 128) (n : ℕ) (l : Fin 128) :
    walk g (2 • s) n l * walk g (2 • s) n (l - s) = walk g s (2 * n) l := by
  unfold walk
  induction n with
  | zero => simp
  | succ n ih =>
    rw [show 2 * (n + 1) = 2 * n + 1 + 1 by ring, prod_range_succ, prod_range_succ, prod_range_succ, prod_range_succ, ← ih]
    have e1 : l - n • (2 • s) = l - (2 * n) • s := by rw [smul_smul, mul_comm]
    have e2 : l - s - n • (2 • s) = l - (2 * n + 1) • s := by
      rw [smul_smul, mul_comm n 2, add_smul, one_smul, sub_sub, add_comm s]
    rw [e1, e2]
    exact mul_mul_mul_comm _ _ _ _ |>.trans (mul_assoc _ _ _).symm

/-- Seven products with the lanes rotated by 64, 32, 16, 8, 4, 2 and 1 leave in lane 0 the product of all 128 lanes. -/
theorem rotations (g0 g1 g2 g3 g4 g5 g6 g7 : Fin 128 → M)
    (h1 : ∀ l, g1 l = g0 l * g0 (l - 64)) (h2 : ∀ l, g2 l = g1 l * g1 (l - 32)) (h3 : ∀ l, g3 l = g2 l * g2 (l - 16))
    (h4 : ∀ l, g4 l = g3 l * g3 (l - 8)) (h5 : ∀ l, g5 l = g4 l * g4 (l - 4)) (h6 : ∀ l, g6 l = g5 l * g5 (l - 2))
    (h7 : ∀ l, g7 l = g6 l * g6 (l - 1)) : g7 0 = ∏ l, g0 l := by
  have w0 : ∀ l, g0 l = walk g0 (2 • 64) 1 l := fun l => by simp [walk]
  have w1 : ∀ l, g1 l = walk g0 (2 • 32) 2 l := fun l => by
    rw [h1, w0 l, w0 (l - 64), walk_step]; rfl
  have w2 : ∀ l, g2 l = walk g0 (2 • 16) 4 l := fun l => by
    rw [h2, w1 l, w1 (l - 32), walk_step]; rfl
  have w3 : ∀ l, g3 l = walk g0 (2 • 8) 8 l := fun l => by
    rw [h3, w2 l, w2 (l - 16), walk_step]; rfl
  have w4 : ∀ l, g4 l = walk g0 (2 • 4) 16 l := fun l => by
    rw [h4, w3 l, w3 (l - 8), walk_step]; rfl
  have w5 : ∀ l, g5 l = walk g0 (2 • 2) 32 l := fun l => by
    rw [h5, w4 l, w4 (l - 4), walk_step]; rfl
  have w6 : ∀ l, g6 l = walk g0 (2 • 1) 64 l := fun l => by
    rw [h6, w5 l, w5 (l - 2), walk_step]; rfl
  have w7 : g7 0 = walk g0 1 128 0 := by
    rw [h7, w6 0, w6 (0 - 1), walk_step]
  rw [w7]
  unfold walk
  rw [← Fin.prod_univ_eq_prod_range (fun j => g0 (0 - j • 1)) 128]
  refine Fintype.prod_equiv (Equiv.neg _) _ _ fun j => ?_
  have : ∀ j : Fin 128, (0 : Fin 128) - (j : ℕ) • (1 : Fin 128) = -j := by decide
  rw [this]; rfl

/-- One halving: the products of the entries of the two halves. -/
def half {m : ℕ} (g : Fin (m + m) → M) : Fin m → M := fun i => g (Fin.castAdd m i) * g (Fin.natAdd m i)

theorem prod_half {m : ℕ} (g : Fin (m + m) → M) : ∏ i, half g i = ∏ k, g k := by
  unfold half
  rw [Fin.prod_univ_add, prod_mul_distrib]

/-- The product of all entries but entry `k`. -/
def others {n : ℕ} (g : Fin n → M) (k : Fin n) : M := ∏ i, if i = k then 1 else g i

theorem others_mul {n : ℕ} (g : Fin n → M) (k : Fin n) : others g k * g k = ∏ i, g i := by
  unfold others
  have e : (∏ i, if i = k then 1 else g i) = ∏ i ∈ univ.erase k, g i := by
    rw [← mul_prod_erase univ _ (mem_univ k), if_pos rfl, one_mul]
    exact prod_congr rfl fun i hi => if_neg (ne_of_mem_erase hi)
  rw [e, prod_erase_mul univ _ (mem_univ k)]

theorem others_castAdd {m : ℕ} (g : Fin (m + m) → M) (i : Fin m) :
    others (half g) i * g (Fin.natAdd m i) = others g (Fin.castAdd m i) := by
  have e : others g (Fin.castAdd m i) = others (fun j => g (Fin.castAdd m j)) i * ∏ j, g (Fin.natAdd m j) := by
    unfold others
    rw [Fin.prod_univ_add]
    congr 1
    · refine prod_congr rfl fun j _ => ?_
      simp only [Fin.ext_iff, Fin.val_castAdd]
    · refine prod_congr rfl fun j _ => if_neg fun h => ?_
      have := congrArg Fin.val h
      simp at this; omega
  rw [e, ← others_mul (fun j => g (Fin.natAdd m j)) i, ← mul_assoc]
  congr 1
  unfold others half
  rw [← prod_mul_distrib]
  exact prod_congr rfl fun j _ => by split <;> simp

theorem others_natAdd {m : ℕ} (g : Fin (m + m) → M) (i : Fin m) :
    g (Fin.castAdd m i) * others (half g) i = others g (Fin.natAdd m i) := by
  have e : others g (Fin.natAdd m i) = (∏ j, g (Fin.castAdd m j)) * others (fun j => g (Fin.natAdd m j)) i := by
    unfold others
    rw [Fin.prod_univ_add]
    congr 1
    · refine prod_congr rfl fun j _ => if_neg fun h => ?_
      have := congrArg Fin.val h
      simp at this; omega
    · refine prod_congr rfl fun j _ => ?_
      simp only [Fin.ext_iff, Fin.val_natAdd, Nat.add_left_cancel_iff]
  rw [e, ← others_mul (fun j => g (Fin.castAdd m j)) i, mul_comm (others _ i) (g _), mul_assoc]
  congr 1
  unfold others half
  rw [← prod_mul_distrib]
  exact prod_congr rfl fun j _ => by split <;> simp

/-- One level of the tree going down: from the cotangents of the products of two halves to those of the entries. -/
theorem others_step {m : ℕ} (g : Fin (m + m) → M) (c : M) (ct' : Fin m → M) (ct : Fin (m + m) → M)
    (h' : ∀ i, ct' i = c * others (half g) i) (h1 : ∀ i, ct (Fin.castAdd m i) = ct' i * g (Fin.natAdd m i))
    (h2 : ∀ i, ct (Fin.natAdd m i) = g (Fin.castAdd m i) * ct' i) (k : Fin (m + m)) : ct k = c * others g k := by
  refine Fin.addCases (fun i => ?_) (fun i => ?_) k
  · rw [h1, h', mul_assoc, others_castAdd]
  · rw [h2, h', mul_left_comm, others_natAdd]

/-! ### Zero factors -/

section Zeros
variable {M0 : Type*} [CommMonoidWithZero M0] [DecidableEq M0]

theorem others_eq_zero {n : ℕ} (g : Fin n → M0) {k i : Fin n} (hki : i ≠ k) (h : g i = 0) : others g k = 0 :=
  prod_eq_zero (mem_univ i) (by rw [if_neg hki, h])

/-- The product of the entries that are not zero. -/
def nonzeros {n : ℕ} (g : Fin n → M0) : M0 := ∏ i, if g i = 0 then 1 else g i

/-- The product of the nonzero entries, kept where entry `k` is the only zero, is the product of the other entries. -/
theorem nonzeros_of_zero {n : ℕ} (g : Fin n → M0) (k : Fin n) (h : g k = 0) :
    nonzeros g * (if (univ.filter fun i => g i = 0).card = 1 then 1 else 0) = others g k := by
  by_cases hz : (univ.filter fun i => g i = 0).card = 1
  · rw [if_pos hz, mul_one]
    obtain ⟨a, ha⟩ := card_eq_one.mp hz
    have hk : k = a := by
      have : k ∈ univ.filter fun i => g i = 0 := by simp [h]
      rw [ha] at this; exact mem_singleton.mp this
    subst hk
    unfold nonzeros others
    refine prod_congr rfl fun i _ => ?_
    have : g i = 0 ↔ i = k := by
      have : i ∈ (univ.filter fun i => g i = 0) ↔ i ∈ ({k} : Finset (Fin n)) := by rw [ha]
      simpa using this
    simp only [this]
  · rw [if_neg hz, mul_zero]
    have : ∃ i, g i = 0 ∧ i ≠ k := by
      by_contra hne
      push Not at hne
      apply hz
      have : (univ.filter fun i => g i = 0) = {k} := by
        ext i; simp only [mem_filter, mem_univ, true_and, mem_singleton]
        exact ⟨hne i, fun e => e ▸ h⟩
      rw [this]; simp
    obtain ⟨i, hi, hik⟩ := this
    rw [others_eq_zero g hik hi]

theorem nonzeros_of_ne {n : ℕ} (g : Fin n → M0) (h : ∀ i, g i ≠ 0) : nonzeros g = ∏ i, g i :=
  prod_congr rfl fun i _ => if_neg (h i)

end Zeros

end Cert.Proof.Products

end
-- ==== Proof.Math.lean ====
/-
  Mathematics of the two programs at the extended reals: sums of real entries stay real,
  and the two ways of writing each gradient agree.
-/
module

public import proofs.«01_k».proof.Proof.Products
public import Idealize.ShloMosaic.PureOps.Ideal

@[expose] public section

noncomputable section

namespace Cert.Proof.Math

open Idealize.ShloMosaic Cert.Proof.Products

theorem coe_sum {ι : Type*} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-! ## Sums of nonnegative entries -/

theorem sum_nonneg' {ι : Type*} (s : Finset ι) (f : ι → EReal) (h : ∀ i ∈ s, 0 ≤ f i) : 0 ≤ ∑ i ∈ s, f i := by
  classical
  induction s using Finset.induction with
  | empty => simp
  | insert a s ha ih =>
    rw [Finset.sum_insert ha]
    exact add_nonneg (h a (by simp)) (ih fun i hi => h i (by simp [hi]))

theorem ne_bot_of_nonneg {x : EReal} (h : 0 ≤ x) : x ≠ ⊥ := fun e => by simp [e] at h

theorem sum_neg {ι : Type*} (s : Finset ι) (f : ι → EReal) (h : ∀ i ∈ s, 0 ≤ f i) : ∑ i ∈ s, -f i = -∑ i ∈ s, f i := by
  classical
  induction s using Finset.induction with
  | empty => simp
  | insert a s ha ih =>
    have hs := sum_nonneg' s f fun i hi => h i (by simp [hi])
    rw [Finset.sum_insert ha, Finset.sum_insert ha, ih fun i hi => h i (by simp [hi]),
      EReal.neg_add (.inl (ne_bot_of_nonneg (h a (by simp)))) (.inr (ne_bot_of_nonneg hs)), sub_eq_add_neg]

theorem sum_mul {ι : Type*} (s : Finset ι) (f : ι → EReal) (c : ℝ) (hc : 0 ≤ c) :
    ∑ i ∈ s, f i * (c : EReal) = (∑ i ∈ s, f i) * (c : EReal) := by
  classical
  have hc' : (0 : EReal) ≤ (c : EReal) := by exact_mod_cast hc
  induction s using Finset.induction with
  | empty => simp
  | insert a s ha ih =>
    rw [Finset.sum_insert ha, Finset.sum_insert ha, ih, EReal.right_distrib_of_nonneg_of_ne_top hc' (EReal.coe_ne_top c)]

/-- The two ways of scaling the difference of two sums. -/
theorem scale_sub (p q : EReal) (c : ℝ) (hc : 0 ≤ c) :
    (p - q) * (c : EReal) = -(q * (c : EReal)) + p * (c : EReal) := by
  have hc' : (0 : EReal) ≤ (c : EReal) := by exact_mod_cast hc
  rw [sub_eq_add_neg, EReal.right_distrib_of_nonneg_of_ne_top hc' (EReal.coe_ne_top c), EReal.neg_mul, add_comm]

/-! ## The constants -/

theorem c_two : Ideal.ofBits .f32 1073741824#32 = ((2 : ℝ) : EReal) := by
  simp [Ideal.ofBits, Ideal.ieee, -EReal.coe_mul]; norm_num
theorem c_neg : Ideal.ofBits .f32 3212836864#32 = ((-1 : ℝ) : EReal) := by
  simp [Ideal.ofBits, Ideal.ieee, -EReal.coe_mul]; norm_num
theorem c_992 : Ideal.ofBits .f32 1148715008#32 = ((992 : ℝ) : EReal) := by
  simp [Ideal.ofBits, Ideal.ieee, -EReal.coe_mul]; norm_num
theorem c_63488 : Ideal.ofBits .f32 1199046656#32 = ((63488 : ℝ) : EReal) := by
  simp [Ideal.ofBits, Ideal.ieee, -EReal.coe_mul]; norm_num
theorem c_top : Ideal.ofBits .f32 2139095040#32 = ⊤ := by
  simp [Ideal.ofBits, Ideal.ieee, -EReal.coe_mul]
theorem c_one : Ideal.ofBits .f32 1065353216#32 = 1 := by
  simp [Ideal.ofBits, Ideal.ieee, -EReal.coe_mul]; norm_num
theorem c_zero : Ideal.ofBits .f32 0#32 = 0 := by
  simp [Ideal.ofBits, Ideal.ieee, -EReal.coe_mul]

/-- The logistic at an extended real, which is a real number between zero and one. -/
def sig (x : EReal) : ℝ := (Ideal.logistic x).toReal

theorem coe_sig (x : EReal) : ((sig x : ℝ) : EReal) = Ideal.logistic x := by
  unfold sig
  induction x using EReal.rec with
  | bot => simp
  | top => simp
  | coe r => simp

theorem sig_nonneg (x : EReal) : 0 ≤ Ideal.logistic x := by
  induction x using EReal.rec with
  | bot => simp
  | top => simp
  | coe r =>
    rw [Ideal.logistic_coe]
    have : (0 : ℝ) ≤ (1 + Real.exp (-r))⁻¹ := by positivity
    exact_mod_cast this

/-! ## The computation itself, on plain functions -/

/-- A row of the matrix among its first 248. -/
theorem lt256 (w : Fin 248) : w.val < 256 := by omega

/-- A point's sign: minus one on the diagonal. -/
def sgn (u w : Fin 248) : ℝ := if u = w then -1 else 1

/-- A point's squared difference of its product and its sign. -/
def dsq (f : Fin 256 → EReal) (t : ℝ) : EReal := (∏ k, f k - (t : EReal)) * (∏ k, f k - (t : EReal))

/-- A membership as a real number: none in the first eight columns. -/
def hrow (G : Fin 248 → Fin 248 → EReal) (u : Fin 248) (k : Fin 256) : ℝ := if h : 8 ≤ k.val then sig (G u ⟨k.val - 8, by omega⟩) else 0

/-- The positive part of a difference of the ordering parameter plus the margin. -/
def hinge (T : Fin 256 → EReal) (u : Fin 248) (k : Fin 256) : EReal := max (T ⟨u.val, by omega⟩ - T k + Ideal.ofBits .f32 1036831949#32) 0

/-- A factor of a point; `a` is twice the given matrix. -/
def fac (a : Fin 248 → Fin 256 → EReal) (G : Fin 248 → Fin 248 → EReal) (u w : Fin 248) (k : Fin 256) : EReal :=
  1 - a w k * ((hrow G u k : ℝ) : EReal)

/-- The gradient of the loss in a logit; `D` is the data part's gradient in the memberships. -/
def gl (D : (Fin 248 → Fin 248 → EReal) → Fin 248 → Fin 256 → EReal) (G : Fin 248 → Fin 248 → EReal) (T : Fin 256 → EReal) (u j : Fin 248) : EReal :=
  (D G u ⟨8 + j.val, by omega⟩
      + hinge T u ⟨8 + j.val, by omega⟩ * hinge T u ⟨8 + j.val, by omega⟩ * ((1 / 63488 : ℝ) : EReal))
    * (((hrow G u ⟨8 + j.val, by omega⟩ : ℝ) : EReal) * (1 - ((hrow G u ⟨8 + j.val, by omega⟩ : ℝ) : EReal)))

/-- The gradient of the loss in an entry of the ordering parameter. -/
def gtau (G : Fin 248 → Fin 248 → EReal) (T : Fin 256 → EReal) (k : Fin 256) : EReal :=
  ((if hk : k.val < 248 then ∑ x : Fin 256, ((hrow G ⟨k.val, hk⟩ x : ℝ) : EReal) * (((2 : ℝ) : EReal) * hinge T ⟨k.val, hk⟩ x) else 0)
      - ∑ u : Fin 248, ((hrow G u k : ℝ) : EReal) * (((2 : ℝ) : EReal) * hinge T u k)) * ((1 / 63488 : ℝ) : EReal)

/-- The loss. -/
def loss (a : Fin 248 → Fin 256 → EReal) (G : Fin 248 → Fin 248 → EReal) (T : Fin 256 → EReal) : EReal :=
  Ideal.div (∑ u : Fin 248, ∑ w : Fin 248, dsq (fac a G u w) (sgn u w)) ((992 : ℝ) : EReal)
    + (∑ u : Fin 248, ∑ k : Fin 256, ((hrow G u k : ℝ) : EReal) * (hinge T u k * hinge T u k)) * ((1 / 63488 : ℝ) : EReal)

/-- The first moment's update. -/
def mo (m g : EReal) : EReal := Ideal.ofBits .f32 0x3F666666#32 * m + Ideal.ofBits .f32 0x3DCCCCCD#32 * g
/-- The second moment's update. -/
def vo (v g : EReal) : EReal := Ideal.ofBits .f32 0x3F7FBE77#32 * v + Ideal.ofBits .f32 0x3A83126F#32 * (g * g)
/-- The parameter's update, the moments divided by their corrections. -/
def upd (c1 c2 : BitVec 32) (x m v : EReal) : EReal :=
  x - Ideal.div (Ideal.ofBits .f32 0x3DCCCCCD#32 * Ideal.div m (Ideal.ofBits .f32 c1))
    (Ideal.sqrt (Ideal.div v (Ideal.ofBits .f32 c2)) + Ideal.ofBits .f32 0x322BCC77#32)

section Steps
variable (D : (Fin 248 → Fin 248 → EReal) → Fin 248 → Fin 256 → EReal) (G : Fin 248 → Fin 248 → EReal) (T : Fin 256 → EReal)

/-- The logits' first moment after one step. -/
def m1 (u j : Fin 248) : EReal := mo (Ideal.ofBits .f32 0#32) (gl D G T u j)
/-- The logits' second moment after one step. -/
def v1 (u j : Fin 248) : EReal := vo (Ideal.ofBits .f32 0#32) (gl D G T u j)
/-- The logits after one step. -/
def g1 (u j : Fin 248) : EReal := upd 0x3DCCCCCD#32 0x3A83126F#32 (G u j) (m1 D G T u j) (v1 D G T u j)
/-- The ordering parameter's first moment after one step. -/
def mt1 (k : Fin 256) : EReal := mo (Ideal.ofBits .f32 0#32) (gtau G T k)
/-- The ordering parameter's second moment after one step. -/
def vt1 (k : Fin 256) : EReal := vo (Ideal.ofBits .f32 0#32) (gtau G T k)
/-- The ordering parameter after one step. -/
def t1 (k : Fin 256) : EReal := upd 0x3DCCCCCD#32 0x3A83126F#32 (T k) (mt1 G T k) (vt1 G T k)

/-- The logits' first moment after two steps. -/
def m2 (u j : Fin 248) : EReal := mo (m1 D G T u j) (gl D (g1 D G T) (t1 G T) u j)
/-- The logits' second moment after two steps. -/
def v2 (u j : Fin 248) : EReal := vo (v1 D G T u j) (gl D (g1 D G T) (t1 G T) u j)
/-- The logits after two steps. -/
def g2 (u j : Fin 248) : EReal := upd 0x3E428F5C#32 0x3B0301A8#32 (g1 D G T u j) (m2 D G T u j) (v2 D G T u j)
/-- The ordering parameter's first moment after two steps. -/
def mt2 (k : Fin 256) : EReal := mo (mt1 G T k) (gtau (g1 D G T) (t1 G T) k)
/-- The ordering parameter's second moment after two steps. -/
def vt2 (k : Fin 256) : EReal := vo (vt1 G T k) (gtau (g1 D G T) (t1 G T) k)
/-- The ordering parameter after two steps. -/
def t2 (k : Fin 256) : EReal := upd 0x3E428F5C#32 0x3B0301A8#32 (t1 G T k) (mt2 D G T k) (vt2 D G T k)

/-- The logits after three steps. -/
def g3 (u j : Fin 248) : EReal := upd 0x3E8AC083#32 0x3B446955#32 (g2 D G T u j) (mo (m2 D G T u j) (gl D (g2 D G T) (t2 D G T) u j))
  (vo (v2 D G T u j) (gl D (g2 D G T) (t2 D G T) u j))
/-- The ordering parameter after three steps. -/
def t3 (k : Fin 256) : EReal := upd 0x3E8AC083#32 0x3B446955#32 (t2 D G T k) (mo (mt2 D G T k) (gtau (g2 D G T) (t2 D G T) k))
  (vo (vt2 D G T k) (gtau (g2 D G T) (t2 D G T) k))

/-- The loss after three steps. -/
def final (a : Fin 248 → Fin 256 → EReal) : EReal := loss a (g3 D G T) (t3 D G T)

end Steps

end Cert.Proof.Math
-- ==== Proof.Infinite.lean ====
/-
  The two programs over the extended reals, infinite entries of the matrix included. Where a point's product is infinite, it
  stays so through every step of either program, and both losses are infinite; elsewhere the two gradients are equal or both
  infinite, and an infinite gradient moves no parameter.
-/
module

public import proofs.«01_k».proof.Proof.Math

@[expose] public section

noncomputable section

namespace Cert.Proof.Math

open Idealize.ShloMosaic Cert.Proof.Products

/-! ## Infinite values -/

/-- An infinite extended real. -/
def Inf (x : EReal) : Prop := x = ⊤ ∨ x = ⊥

theorem real_or_inf (x : EReal) : (∃ r : ℝ, x = (r : EReal)) ∨ Inf x := by
  induction x using EReal.rec with
  | bot => exact .inr (.inr rfl)
  | coe r => exact .inl ⟨r, rfl⟩
  | top => exact .inr (.inl rfl)

theorem not_inf_coe (r : ℝ) : ¬Inf (r : EReal) := fun h => h.elim (EReal.coe_ne_top r) (EReal.coe_ne_bot r)

theorem Inf.ne_zero {x : EReal} (h : Inf x) : x ≠ 0 := by rintro rfl; exact not_inf_coe 0 h

theorem Inf.neg {x : EReal} (h : Inf x) : Inf (-x) := by
  rcases h with rfl | rfl
  · exact .inr EReal.neg_top
  · exact .inl EReal.neg_bot

theorem Inf.add {x : EReal} (h : Inf x) (y : EReal) : Inf (x + y) := by
  rcases h with rfl | rfl
  · by_cases hy : y = ⊥
    · exact .inr (by rw [hy, EReal.add_bot])
    · exact .inl (EReal.top_add_of_ne_bot hy)
  · exact .inr (EReal.bot_add y)

theorem Inf.sub {x : EReal} (h : Inf x) (y : EReal) : Inf (x - y) := by rw [sub_eq_add_neg]; exact h.add _

theorem Inf.const_sub {x : EReal} (h : Inf x) (y : EReal) : Inf (y - x) := by
  rw [sub_eq_add_neg, add_comm]; exact h.neg.add _

theorem Inf.mul {x y : EReal} (h : Inf x) (hy : y ≠ 0) : Inf (x * y) := by
  rcases lt_or_gt_of_ne hy with hy | hy <;> rcases h with rfl | rfl
  · exact .inr (EReal.top_mul_of_neg hy)
  · exact .inl (EReal.bot_mul_of_neg hy)
  · exact .inl (EReal.top_mul_of_pos hy)
  · exact .inr (EReal.bot_mul_of_pos hy)

theorem Inf.const_mul {x y : EReal} (h : Inf x) (hy : y ≠ 0) : Inf (y * x) := by rw [mul_comm]; exact h.mul hy

theorem Inf.sq {x : EReal} (h : Inf x) : x * x = ⊤ := by rcases h with rfl | rfl <;> simp

theorem inf_sum {n : ℕ} (f : Fin n → EReal) (i : Fin n) (h : Inf (f i)) : Inf (∑ i, f i) := by
  rw [← Finset.add_sum_erase _ _ (Finset.mem_univ i)]; exact h.add _

theorem inf_prod {n : ℕ} (f : Fin n → EReal) (h0 : ∀ i, f i ≠ 0) (i : Fin n) (h : Inf (f i)) : Inf (∏ i, f i) := by
  rw [← Finset.mul_prod_erase _ _ (Finset.mem_univ i)]
  exact h.mul (Finset.prod_ne_zero_iff.mpr fun i _ => h0 i)

theorem inf_others {n : ℕ} (f : Fin n → EReal) (h0 : ∀ i, f i ≠ 0) (i k : Fin n) (hik : i ≠ k) (h : Inf (f i)) : Inf (others f k) := by
  refine inf_prod _ (fun j => ?_) i (by rw [if_neg hik]; exact h)
  split
  · exact one_ne_zero
  · exact h0 j

theorem sq_nonneg' (x : EReal) : 0 ≤ x * x := by
  rcases le_total 0 x with h | h
  · exact mul_nonneg h h
  · exact EReal.mul_nonneg_iff.mpr (.inr ⟨h, h⟩)

/-- Equal, or both infinite. -/
def Same (x y : EReal) : Prop := x = y ∨ (Inf x ∧ Inf y)

theorem Same.add_right {x y : EReal} (h : Same x y) (z : EReal) : Same (x + z) (y + z) := by
  rcases h with rfl | ⟨hx, hy⟩
  · exact .inl rfl
  · exact .inr ⟨hx.add z, hy.add z⟩

theorem Same.mul_right {x y : EReal} (h : Same x y) (z : EReal) : Same (x * z) (y * z) := by
  rcases h with rfl | ⟨hx, hy⟩
  · exact .inl rfl
  · by_cases hz : z = 0
    · exact .inl (by rw [hz, mul_zero, mul_zero])
    · exact .inr ⟨hx.mul hz, hy.mul hz⟩

/-- Negating a sum or its terms. -/
theorem same_sum_neg {n : ℕ} (y : Fin n → EReal) : Same (0 - ∑ w, y w) (∑ w, -y w) := by
  by_cases h : ∃ w, Inf (y w)
  · obtain ⟨w, hw⟩ := h
    exact .inr ⟨(inf_sum y w hw).const_sub 0, inf_sum (fun w => -y w) w hw.neg⟩
  · push Not at h
    choose r hr using fun w => (real_or_inf (y w)).resolve_right (h w)
    refine .inl ?_
    simp only [hr, ← EReal.coe_neg]
    rw [← coe_sum, ← coe_sum, ← EReal.coe_zero, ← EReal.coe_sub, zero_sub, Finset.sum_neg_distrib]

/-! ## The terms of the data part's gradient -/

/-- A term of the gradient in a membership, from the product of the other factors. -/
def term (f : Fin 256 → EReal) (t : ℝ) (a : EReal) (k : Fin 256) : EReal :=
  (∏ i, f i - (t : EReal)) * ((1 / 496 : ℝ) : EReal) * others f k * a

/-- The number of zero factors. -/
def zeros (f : Fin 256 → EReal) : EReal := ∑ i, if f i = 0 then 1 else 0

/-- One term through the product of the nonzero factors and the number of zeros among them. -/
def slow (f : Fin 256 → EReal) (t : ℝ) (a : EReal) (k : Fin 256) : EReal :=
  (∏ i, f i - (t : EReal)) * ((1 / 496 : ℝ) : EReal) * nonzeros f
    * (if f k = 0 then (if zeros f = 1 then 1 else 0) else if zeros f = 0 then Ideal.div 1 (if f k = 0 then 1 else f k) else 0) * a

/-- One term by division. -/
def fast (f : Fin 256 → EReal) (t : ℝ) (a : EReal) (k : Fin 256) : EReal :=
  Ideal.div ((∏ i, f i - (t : EReal)) * ((1 / 496 : ℝ) : EReal) * ∏ i, f i) (f k) * a

/-- One term as the reference writes it. -/
def plain (f : Fin 256 → EReal) (t : ℝ) (a : EReal) (k : Fin 256) : EReal :=
  a * -(((1 / 992 : ℝ) : EReal) * (((2 : ℝ) : EReal) * (∏ i, f i - (t : EReal))) * others f k)

theorem zeros_eq (f : Fin 256 → EReal) : zeros f = (((Finset.univ.filter fun i => f i = 0).card : ℝ) : EReal) := by
  unfold zeros
  rw [← Finset.sum_boole, coe_sum]
  refine Finset.sum_congr rfl fun i _ => ?_
  split <;> simp

theorem plain_eq (f : Fin 256 → EReal) (t : ℝ) (a : EReal) (k : Fin 256) : plain f t a k = -term f t a k := by
  unfold plain term
  have e : ((1 / 992 : ℝ) : EReal) * ((2 : ℝ) : EReal) = ((1 / 496 : ℝ) : EReal) := by
    rw [← EReal.coe_mul]; norm_num
  rw [← mul_assoc, e, mul_comm ((1 / 496 : ℝ) : EReal), mul_comm a, EReal.neg_mul]

/-- No factor of the point is zero and one is infinite: the point's product is infinite. -/
def Bad (f : Fin 256 → EReal) : Prop := (∀ k, f k ≠ 0) ∧ ∃ k, Inf (f k)

theorem real_of_not_bad (f : Fin 256 → EReal) (hb : ¬Bad f) (hn : ∀ k, f k ≠ 0) (k : Fin 256) : ∃ r : ℝ, r ≠ 0 ∧ f k = (r : EReal) := by
  obtain ⟨r, hr⟩ := (real_or_inf (f k)).resolve_right fun h => hb ⟨hn, k, h⟩
  exact ⟨r, fun h => hn k (by rw [hr, h, EReal.coe_zero]), hr⟩

theorem prod_mul_inv (f : Fin 256 → EReal) (k : Fin 256) (r : ℝ) (h0 : r ≠ 0) (hr : f k = (r : EReal)) :
    (∏ i, f i) * ((1 / r : ℝ) : EReal) = others f k := by
  rw [← others_mul f k, hr, mul_assoc, ← EReal.coe_mul, mul_one_div_cancel h0, EReal.coe_one, mul_one]

theorem zeros_of_ne (f : Fin 256 → EReal) (hn : ∀ k, f k ≠ 0) : zeros f = 0 :=
  Finset.sum_eq_zero fun i _ => if_neg (hn i)

theorem ne_of_zeros (f : Fin 256 → EReal) (hz : zeros f = 0) (k : Fin 256) : f k ≠ 0 := by
  intro hk
  rw [zeros_eq] at hz
  have hc : (Finset.univ.filter fun i => f i = 0) = ∅ := Finset.card_eq_zero.mp (by exact_mod_cast hz)
  have : k ∈ Finset.univ.filter fun i => f i = 0 := by simp [hk]
  rw [hc] at this; simp at this

theorem nonzeros_mul (f : Fin 256 → EReal) (hb : ¬Bad f) (k : Fin 256) :
    nonzeros f * (if f k = 0 then (if zeros f = 1 then 1 else 0) else if zeros f = 0 then Ideal.div 1 (if f k = 0 then 1 else f k) else 0) = others f k := by
  by_cases hk : f k = 0
  · rw [if_pos hk, ← nonzeros_of_zero f k hk, zeros_eq]
    have e : (((Finset.univ.filter fun i => f i = 0).card : ℝ) : EReal) = 1 ↔ (Finset.univ.filter fun i => f i = 0).card = 1 := by
      exact_mod_cast Iff.rfl
    simp only [e]
  · rw [if_neg hk, if_neg hk]
    by_cases hz : zeros f = 0
    · have hn := ne_of_zeros f hz
      obtain ⟨r, h0, hr⟩ := real_of_not_bad f hb hn k
      rw [if_pos hz, nonzeros_of_ne f hn, hr, Ideal.div_coe h0, one_mul, prod_mul_inv f k r h0 hr]
    · rw [if_neg hz, mul_zero]
      rw [zeros_eq] at hz
      have : (Finset.univ.filter fun i => f i = 0).Nonempty := by
        rw [Finset.nonempty_iff_ne_empty]; intro e; apply hz; rw [e]; simp
      obtain ⟨i, hi⟩ := this
      have hi : f i = 0 := by simpa using hi
      rw [others_eq_zero f (fun e : i = k => hk (by rw [← e]; exact hi)) hi]

theorem slow_eq (f : Fin 256 → EReal) (hb : ¬Bad f) (t : ℝ) (a : EReal) (k : Fin 256) : slow f t a k = term f t a k := by
  unfold slow term
  rw [mul_assoc _ (nonzeros f), nonzeros_mul f hb k]

theorem fast_eq (f : Fin 256 → EReal) (hb : ¬Bad f) (hn : ∀ k, f k ≠ 0) (t : ℝ) (a : EReal) (k : Fin 256) : fast f t a k = term f t a k := by
  obtain ⟨r, h0, hr⟩ := real_of_not_bad f hb hn k
  unfold fast term
  rw [hr, Ideal.div_coe h0, mul_assoc _ (∏ i, f i), prod_mul_inv f k r h0 hr]

theorem Bad.inf_prod {f : Fin 256 → EReal} (hb : Bad f) : Inf (∏ i, f i) := by
  obtain ⟨hn, i, hi⟩ := hb
  exact Math.inf_prod f hn i hi

theorem c496_ne : ((1 / 496 : ℝ) : EReal) ≠ 0 := by
  intro h
  have : (1 / 496 : ℝ) = 0 := by exact_mod_cast h
  norm_num at this

theorem Bad.inf_head {f : Fin 256 → EReal} (hb : Bad f) (t : ℝ) : Inf ((∏ i, f i - (t : EReal)) * ((1 / 496 : ℝ) : EReal)) :=
  (hb.inf_prod.sub _).mul c496_ne

theorem one_div_ne {r : ℝ} (h : r ≠ 0) : ((1 / r : ℝ) : EReal) ≠ 0 := by
  intro e
  have : (1 / r : ℝ) = 0 := by exact_mod_cast e
  exact h (by simpa using this)

theorem Bad.inf_slow {f : Fin 256 → EReal} (hb : Bad f) (t : ℝ) {a : EReal} (ha : a ≠ 0) (k : Fin 256) (r : ℝ) (hr : f k = (r : EReal)) :
    Inf (slow f t a k) := by
  have h0 : r ≠ 0 := fun h => hb.1 k (by rw [hr, h, EReal.coe_zero])
  unfold slow
  rw [if_neg (hb.1 k), if_pos (zeros_of_ne f hb.1), if_neg (hb.1 k), nonzeros_of_ne f hb.1, hr, Ideal.div_coe h0, one_mul]
  exact (((hb.inf_head t).mul hb.inf_prod.ne_zero).mul (one_div_ne h0)).mul ha

theorem Bad.inf_fast {f : Fin 256 → EReal} (hb : Bad f) (t : ℝ) {a : EReal} (ha : a ≠ 0) (k : Fin 256) (r : ℝ) (hr : f k = (r : EReal)) :
    Inf (fast f t a k) := by
  have h0 : r ≠ 0 := fun h => hb.1 k (by rw [hr, h, EReal.coe_zero])
  unfold fast
  rw [hr, Ideal.div_coe h0]
  exact (((hb.inf_head t).mul hb.inf_prod.ne_zero).mul (one_div_ne h0)).mul ha

theorem Bad.inf_plain {f : Fin 256 → EReal} (hb : Bad f) (t : ℝ) {a : EReal} (ha : a ≠ 0) (k : Fin 256) (r : ℝ) (hr : f k = (r : EReal)) :
    Inf (plain f t a k) := by
  rw [plain_eq]
  refine Inf.neg (((hb.inf_head t).mul ?_).mul ha)
  obtain ⟨i, hi⟩ := hb.2
  exact (inf_others f hb.1 i k (fun e => not_inf_coe r (by rw [← hr, ← e]; exact hi)) hi).ne_zero

/-! ## The two gradients of the data part -/

section Data
variable (a : Fin 248 → Fin 256 → EReal)

/-- The data part's gradient in the memberships, as the reference writes it. -/
def odd (G : Fin 248 → Fin 248 → EReal) (u : Fin 248) (k : Fin 256) : EReal :=
  ∑ w, plain (fac a G u w) (sgn u w) (a w k) k

/-- The data part's gradient in the memberships by either of the kernel's two ways, by division where no factor is zero. -/
def TwoWays (D : (Fin 248 → Fin 248 → EReal) → Fin 248 → Fin 256 → EReal) : Prop :=
  ∀ G u k, (D G u k = 0 - ∑ w, slow (fac a G u w) (sgn u w) (a w k) k)
    ∨ ((∀ w k, fac a G u w k ≠ 0) ∧ D G u k = 0 - ∑ w, fast (fac a G u w) (sgn u w) (a w k) k)

/-- A gradient infinite at every finite factor of an infinite product that depends on the membership. -/
def Blows (D : (Fin 248 → Fin 248 → EReal) → Fin 248 → Fin 256 → EReal) : Prop :=
  ∀ G u w k, Bad (fac a G u w) → a w k ≠ 0 → (∃ r : ℝ, fac a G u w k = (r : EReal)) → Inf (D G u k)

variable {a} {D : (Fin 248 → Fin 248 → EReal) → Fin 248 → Fin 256 → EReal}

theorem TwoWays.same (hD : TwoWays a D) (G : Fin 248 → Fin 248 → EReal) (u : Fin 248) (hb : ∀ w, ¬Bad (fac a G u w)) (k : Fin 256) :
    Same (D G u k) (odd a G u k) := by
  unfold odd
  simp only [plain_eq]
  rcases hD G u k with h | ⟨hn, h⟩
  · simp only [slow_eq _ (hb _)] at h
    rw [h]; exact same_sum_neg _
  · simp only [fast_eq _ (hb _) (hn _)] at h
    rw [h]; exact same_sum_neg _

theorem TwoWays.blows (hD : TwoWays a D) : Blows a D := by
  rintro G u w k hb ha ⟨r, hr⟩
  rcases hD G u k with h | ⟨_, h⟩
  · rw [h]; exact (inf_sum _ w (hb.inf_slow _ ha k r hr)).const_sub 0
  · rw [h]; exact (inf_sum _ w (hb.inf_fast _ ha k r hr)).const_sub 0

theorem odd_blows : Blows a (odd a) := by
  rintro G u w k hb ha ⟨r, hr⟩
  exact inf_sum _ w (hb.inf_plain _ ha k r hr)

end Data

/-! ## The updates -/

/-- A positive real number. -/
def Pos (x : EReal) : Prop := ∃ r : ℝ, 0 < r ∧ x = (r : EReal)

theorem p_3f666666 : Pos (Ideal.ofBits .f32 0x3F666666#32) :=
  ⟨7549747 / 8388608, by norm_num, by simp [Ideal.ofBits, Ideal.ieee, -EReal.coe_mul]; norm_num⟩
theorem p_3dcccccd : Pos (Ideal.ofBits .f32 0x3DCCCCCD#32) :=
  ⟨13421773 / 134217728, by norm_num, by simp [Ideal.ofBits, Ideal.ieee, -EReal.coe_mul]; norm_num⟩
theorem p_3f7fbe77 : Pos (Ideal.ofBits .f32 0x3F7FBE77#32) :=
  ⟨16760439 / 16777216, by norm_num, by simp [Ideal.ofBits, Ideal.ieee, -EReal.coe_mul]; norm_num⟩
theorem p_3a83126f : Pos (Ideal.ofBits .f32 0x3A83126F#32) :=
  ⟨8589935 / 8589934592, by norm_num, by simp [Ideal.ofBits, Ideal.ieee, -EReal.coe_mul]; norm_num⟩
theorem p_3e428f5c : Pos (Ideal.ofBits .f32 0x3E428F5C#32) :=
  ⟨3187671 / 16777216, by norm_num, by simp [Ideal.ofBits, Ideal.ieee, -EReal.coe_mul]; norm_num⟩
theorem p_3b0301a8 : Pos (Ideal.ofBits .f32 0x3B0301A8#32) :=
  ⟨1073205 / 536870912, by norm_num, by simp [Ideal.ofBits, Ideal.ieee, -EReal.coe_mul]; norm_num⟩
theorem p_3e8ac083 : Pos (Ideal.ofBits .f32 0x3E8AC083#32) :=
  ⟨9093251 / 33554432, by norm_num, by simp [Ideal.ofBits, Ideal.ieee, -EReal.coe_mul]; norm_num⟩
theorem p_3b446955 : Pos (Ideal.ofBits .f32 0x3B446955#32) :=
  ⟨12872021 / 4294967296, by norm_num, by simp [Ideal.ofBits, Ideal.ieee, -EReal.coe_mul]; norm_num⟩
theorem p_322bcc77 : Pos (Ideal.ofBits .f32 0x322BCC77#32) :=
  ⟨11258999 / 1125899906842624, by norm_num, by simp [Ideal.ofBits, Ideal.ieee, -EReal.coe_mul]; norm_num⟩

theorem Pos.ne_zero {x : EReal} (h : Pos x) : x ≠ 0 := by
  obtain ⟨r, h, rfl⟩ := h
  exact_mod_cast h.ne'

theorem Pos.nonneg {x : EReal} (h : Pos x) : 0 ≤ x := by
  obtain ⟨r, h, rfl⟩ := h
  exact_mod_cast h.le

theorem Pos.mul_top {x : EReal} (h : Pos x) : x * ⊤ = ⊤ := by
  obtain ⟨r, h, rfl⟩ := h
  exact EReal.coe_mul_top_of_pos h

/-- A second moment is not negative, and infinite where the first moment is. -/
def Good (m v : EReal) : Prop := 0 ≤ v ∧ (Inf m → v = ⊤)

theorem good_zero : Good (Ideal.ofBits .f32 0#32) (Ideal.ofBits .f32 0#32) := by
  rw [c_zero]
  exact ⟨le_rfl, fun h => absurd rfl h.ne_zero⟩

theorem inf_mo (m g : EReal) (h : Inf g) : Inf (mo m g) := by
  unfold mo
  rw [add_comm]
  exact (h.const_mul p_3dcccccd.ne_zero).add _

theorem inf_of_mo (m g : EReal) (h : Inf (mo m g)) : Inf m ∨ Inf g := by
  by_contra hn
  push Not at hn
  obtain ⟨r, rfl⟩ := (real_or_inf m).resolve_right hn.1
  obtain ⟨s, rfl⟩ := (real_or_inf g).resolve_right hn.2
  obtain ⟨x, _, hx⟩ := p_3f666666
  obtain ⟨y, _, hy⟩ := p_3dcccccd
  unfold mo at h
  rw [hx, hy, ← EReal.coe_mul, ← EReal.coe_mul, ← EReal.coe_add] at h
  exact not_inf_coe _ h

theorem vo_nonneg (v g : EReal) (hv : 0 ≤ v) : 0 ≤ vo v g :=
  add_nonneg (mul_nonneg p_3f7fbe77.nonneg hv) (mul_nonneg p_3a83126f.nonneg (sq_nonneg' g))

theorem vo_top (v g : EReal) (hv : 0 ≤ v) (h : v = ⊤ ∨ Inf g) : vo v g = ⊤ := by
  unfold vo
  rcases h with rfl | h
  · rw [p_3f7fbe77.mul_top]
    exact EReal.top_add_of_ne_bot (ne_bot_of_nonneg (mul_nonneg p_3a83126f.nonneg (sq_nonneg' g)))
  · rw [h.sq, p_3a83126f.mul_top]
    exact EReal.add_top_of_ne_bot (ne_bot_of_nonneg (mul_nonneg p_3f7fbe77.nonneg hv))

theorem Good.step {m v : EReal} (h : Good m v) (g : EReal) : Good (mo m g) (vo v g) :=
  ⟨vo_nonneg v g h.1, fun hi => vo_top v g h.1 ((inf_of_mo m g hi).imp_left h.2)⟩

theorem same_mo {m m' g g' : EReal} (hm : Same m m') (hg : Same g g') : Same (mo m g) (mo m' g') := by
  rcases hg with rfl | ⟨h, h'⟩
  · unfold mo
    rw [mul_comm _ m, mul_comm _ m']
    exact (hm.mul_right _).add_right _
  · exact .inr ⟨inf_mo _ _ h, inf_mo _ _ h'⟩

theorem same_vo (v : EReal) {g g' : EReal} (hg : Same g g') : vo v g = vo v g' := by
  rcases hg with rfl | ⟨h, h'⟩
  · rfl
  · unfold vo; rw [h.sq, h'.sq]

theorem div_pos_coe {y : EReal} (hy : Pos y) (x : EReal) : ∃ r : ℝ, 0 < r ∧ Ideal.div x y = x * (r : EReal) := by
  obtain ⟨r, h, rfl⟩ := hy
  exact ⟨1 / r, by positivity, Ideal.div_coe h.ne' x⟩

theorem div_top (x : EReal) : Ideal.div x ⊤ = 0 := by
  unfold Ideal.div
  rw [if_neg (by simp), EReal.inv_top, mul_zero]

/-- Where the second moment is infinite the parameter stays. -/
theorem upd_top (c1 c2 : BitVec 32) (h2 : Pos (Ideal.ofBits .f32 c2)) (x m : EReal) : upd c1 c2 x m ⊤ = x := by
  unfold upd
  obtain ⟨r, hr, e⟩ := div_pos_coe h2 ⊤
  obtain ⟨s, hs, e'⟩ := p_322bcc77
  rw [e, EReal.top_mul_coe_of_pos hr, Ideal.sqrt_top, e', EReal.top_add_coe, div_top, sub_zero]

/-- A parameter moves by a real number. -/
theorem upd_real (c1 c2 : BitVec 32) (h1 : Pos (Ideal.ofBits .f32 c1)) (h2 : Pos (Ideal.ofBits .f32 c2)) (x : EReal) {m v : EReal} (h : Good m v) :
    ∃ y : ℝ, upd c1 c2 x m v = x - (y : EReal) := by
  by_cases hv : v = ⊤
  · refine ⟨0, ?_⟩
    rw [hv, upd_top c1 c2 h2, EReal.coe_zero, sub_zero]
  · obtain ⟨m', rfl⟩ := (real_or_inf m).resolve_right fun hi => hv (h.2 hi)
    obtain ⟨v', rfl⟩ := (real_or_inf v).resolve_right fun hi => hi.elim hv (ne_bot_of_nonneg h.1)
    have hv0 : 0 ≤ v' := by exact_mod_cast h.1
    obtain ⟨r, hr, e⟩ := div_pos_coe h2 (v' : EReal)
    obtain ⟨q, hq, e1⟩ := div_pos_coe h1 (m' : EReal)
    obtain ⟨s, hs, e2⟩ := p_322bcc77
    obtain ⟨l, hl, e3⟩ := p_3dcccccd
    have hp : 0 < Real.sqrt (v' * r) + s := by positivity
    refine ⟨l * (m' * q) * (1 / (Real.sqrt (v' * r) + s)), ?_⟩
    unfold upd
    rw [e, e1, e2, e3, ← EReal.coe_mul v' r, Ideal.sqrt_coe, if_neg (not_lt.mpr (by positivity)), ← EReal.coe_add, Ideal.div_coe hp.ne',
      ← EReal.coe_mul, ← EReal.coe_mul, ← EReal.coe_mul]

theorem same_upd (c1 c2 : BitVec 32) (h2 : Pos (Ideal.ofBits .f32 c2)) (x : EReal) {m m' v : EReal} (hg : Good m v) (hm : Same m m') :
    upd c1 c2 x m v = upd c1 c2 x m' v := by
  rcases hm with rfl | ⟨h, h'⟩
  · rfl
  · rw [hg.2 h, upd_top c1 c2 h2, upd_top c1 c2 h2]

end Cert.Proof.Math
-- ==== Proof.Agree.lean ====
/-
  Two gradients of the data part that agree up to infinite values end with the same loss.
-/
module

public import proofs.«01_k».proof.Proof.Infinite

@[expose] public section

noncomputable section

namespace Cert.Proof.Math

open Idealize.ShloMosaic Cert.Proof.Products

/-! ## The memberships -/

theorem sig_bot : sig ⊥ = 0 := by unfold sig; simp
theorem sig_top : sig ⊤ = 1 := by unfold sig; simp

theorem sig_coe (r : ℝ) : sig (r : EReal) = (1 + Real.exp (-r))⁻¹ := by
  unfold sig
  rw [Ideal.logistic_coe, EReal.toReal_coe]

theorem sig_pos (r : ℝ) : 0 < sig (r : EReal) := by
  rw [sig_coe]; positivity

theorem sig_lt_one (r : ℝ) : sig (r : EReal) < 1 := by
  rw [sig_coe]
  exact inv_lt_one_of_one_lt₀ (by linarith [Real.exp_pos (-r)])

theorem hrow_lo (G : Fin 248 → Fin 248 → EReal) (u : Fin 248) (k : Fin 256) (h : ¬8 ≤ k.val) : hrow G u k = 0 := dif_neg h

theorem hrow_col (G : Fin 248 → Fin 248 → EReal) (u j : Fin 248) : hrow G u ⟨8 + j.val, by omega⟩ = sig (G u j) := by
  unfold hrow
  rw [dif_pos (show 8 ≤ 8 + j.val by omega)]
  exact congrArg (fun z => sig (G u z)) (Fin.ext (show 8 + j.val - 8 = j.val by omega))

theorem lt_col (j : Fin 248) : 8 + j.val < 256 := by omega

theorem exists_col (k : Fin 256) (h : 8 ≤ k.val) : ∃ j : Fin 248, k = ⟨8 + j.val, lt_col j⟩ :=
  ⟨⟨k.val - 8, by omega⟩, Fin.ext (show k.val = 8 + (k.val - 8) by omega)⟩

theorem hrow_nonneg (G : Fin 248 → Fin 248 → EReal) (u : Fin 248) (k : Fin 256) : (0 : EReal) ≤ ((hrow G u k : ℝ) : EReal) := by
  unfold hrow
  split
  · rw [coe_sig]; exact sig_nonneg _
  · simp

theorem slope_ne (r : ℝ) : ((sig (r : EReal) : ℝ) : EReal) * (1 - ((sig (r : EReal) : ℝ) : EReal)) ≠ 0 := by
  have h := mul_pos (sig_pos r) (sub_pos.mpr (sig_lt_one r))
  rw [← EReal.coe_one, ← EReal.coe_sub, ← EReal.coe_mul]
  exact_mod_cast h.ne'

/-! ## An infinite product stays infinite -/

theorem Bad.congr {f f' : Fin 256 → EReal} (hb : Bad f) (h : ∀ k, Same (f k) (f' k)) : Bad f' := by
  refine ⟨fun k => ?_, ?_⟩
  · rcases h k with e | ⟨_, hi⟩
    · rw [← e]; exact hb.1 k
    · exact hi.ne_zero
  · obtain ⟨k, hk⟩ := hb.2
    rcases h k with e | ⟨_, hi⟩
    · exact ⟨k, by rw [← e]; exact hk⟩
    · exact ⟨k, hi⟩

section Run
variable (a : Fin 248 → Fin 256 → EReal) (D D' : (Fin 248 → Fin 248 → EReal) → Fin 248 → Fin 256 → EReal)
  (G : Fin 248 → Fin 248 → EReal) (T : Fin 256 → EReal)

/-- The logits after one step from the moments `m` and `v`. -/
def move (c1 c2 : BitVec 32) (m v : Fin 248 → Fin 248 → EReal) (u j : Fin 248) : EReal :=
  upd c1 c2 (G u j) (mo (m u j) (gl D G T u j)) (vo (v u j) (gl D G T u j))

variable {a D D' G T}

theorem bad_move (hD : Blows a D) {c1 c2 : BitVec 32} (h1 : Pos (Ideal.ofBits .f32 c1)) (h2 : Pos (Ideal.ofBits .f32 c2))
    {m v : Fin 248 → Fin 248 → EReal} {u w : Fin 248} (hg : ∀ j, Good (m u j) (v u j)) (hb : Bad (fac a G u w)) :
    Bad (fac a (move D G T c1 c2 m v) u w) := by
  refine hb.congr fun k => ?_
  unfold fac
  by_cases hk : 8 ≤ k.val
  · obtain ⟨j, rfl⟩ := exists_col k hk
    rw [hrow_col, hrow_col]
    obtain ⟨y, hy⟩ := upd_real c1 c2 h1 h2 (G u j) ((hg j).step (gl D G T u j))
    have hm : move D G T c1 c2 m v u j = G u j - (y : EReal) := hy
    rcases real_or_inf (G u j) with ⟨r, hr⟩ | hi
    · rcases real_or_inf (a w ⟨8 + j.val, by omega⟩) with ⟨s, hs⟩ | hai
      · by_cases hs0 : a w ⟨8 + j.val, by omega⟩ = 0
        · rw [hs0, zero_mul, zero_mul]; exact .inl rfl
        · have hI : Inf (D G u ⟨8 + j.val, by omega⟩) := by
            refine hD G u w _ hb hs0 ⟨1 - s * sig (G u j), ?_⟩
            unfold fac
            rw [hrow_col, hs]
            push_cast
            rfl
          have hgl : Inf (gl D G T u j) := by
            unfold gl
            rw [hrow_col, hr]
            exact (hI.add _).mul (slope_ne r)
          have e : move D G T c1 c2 m v u j = G u j := by
            unfold move
            rw [vo_top _ _ (hg j).1 (.inr hgl), upd_top c1 c2 h2]
          rw [e]; exact .inl rfl
      · have hne : ∀ z : ℝ, ((sig (z : EReal) : ℝ) : EReal) ≠ 0 := fun z => by exact_mod_cast (sig_pos z).ne'
        rw [hm, hr, ← EReal.coe_sub]
        exact .inr ⟨(hai.mul (hne _)).const_sub 1, (hai.mul (hne _)).const_sub 1⟩
    · have e : move D G T c1 c2 m v u j = G u j := by
        rw [hm]
        rcases hi with h | h
        · rw [h, EReal.top_sub_coe]
        · rw [h, EReal.bot_sub]
      rw [e]; exact .inl rfl
  · rw [hrow_lo _ _ _ hk, hrow_lo _ _ _ hk]; exact .inl rfl

theorem dsq_nonneg (f : Fin 256 → EReal) (t : ℝ) : 0 ≤ dsq f t := sq_nonneg' _

theorem hinge_nonneg (u : Fin 248) (k : Fin 256) : 0 ≤ hinge T u k := le_max_right _ _

/-- An infinite product makes the loss infinite. -/
theorem loss_top {u w : Fin 248} (hb : Bad (fac a G u w)) : loss a G T = ⊤ := by
  have hin : ∀ x : Fin 248, 0 ≤ ∑ w : Fin 248, dsq (fac a G x w) (sgn x w) := fun x => sum_nonneg' _ _ fun _ _ => dsq_nonneg _ _
  have top_of : ∀ f : Fin 248 → EReal, (∀ i, 0 ≤ f i) → ∀ i, f i = ⊤ → ∑ i, f i = ⊤ := by
    intro f hf i hi
    rw [← Finset.add_sum_erase _ _ (Finset.mem_univ i), hi]
    exact EReal.top_add_of_ne_bot (ne_bot_of_nonneg (sum_nonneg' _ _ fun _ _ => hf _))
  have hd : dsq (fac a G u w) (sgn u w) = ⊤ := (hb.inf_prod.sub _).sq
  have h1 : ∑ u : Fin 248, ∑ w : Fin 248, dsq (fac a G u w) (sgn u w) = ⊤ :=
    top_of _ hin u (top_of _ (fun _ => dsq_nonneg _ _) w hd)
  have hc : (0 : EReal) ≤ ((1 / 63488 : ℝ) : EReal) := by exact_mod_cast (by norm_num : (0 : ℝ) ≤ 1 / 63488)
  unfold loss
  rw [h1, Ideal.div_coe (by norm_num), EReal.top_mul_coe_of_pos (by norm_num)]
  refine EReal.top_add_of_ne_bot (ne_bot_of_nonneg (mul_nonneg (sum_nonneg' _ _ fun u _ => sum_nonneg' _ _ fun k _ => ?_) hc))
  exact mul_nonneg (hrow_nonneg G u k) (sq_nonneg' _)

theorem good1 (u j : Fin 248) : Good (m1 D G T u j) (v1 D G T u j) := good_zero.step _
theorem good2 (u j : Fin 248) : Good (m2 D G T u j) (v2 D G T u j) := (good1 u j).step _

theorem bad1 (hD : Blows a D) {u w : Fin 248} (hb : Bad (fac a G u w)) : Bad (fac a (g1 D G T) u w) :=
  bad_move (T := T) hD p_3dcccccd p_3a83126f (m := fun _ _ => Ideal.ofBits .f32 0#32) (v := fun _ _ => Ideal.ofBits .f32 0#32)
    (fun _ => good_zero) hb
theorem bad2 (hD : Blows a D) {u w : Fin 248} (hb : Bad (fac a (g1 D G T) u w)) : Bad (fac a (g2 D G T) u w) :=
  bad_move (T := t1 G T) hD p_3e428f5c p_3b0301a8 (m := m1 D G T) (v := v1 D G T) (good1 u) hb
theorem bad3 (hD : Blows a D) {u w : Fin 248} (hb : Bad (fac a (g2 D G T) u w)) : Bad (fac a (g3 D G T) u w) :=
  bad_move (T := t2 D G T) hD p_3e8ac083 p_3b446955 (m := m2 D G T) (v := v2 D G T) (good2 u) hb

theorem gl_same (h : ∀ u k, Same (D G u k) (D' G u k)) (u j : Fin 248) : Same (gl D G T u j) (gl D' G T u j) :=
  ((h u _).add_right _).mul_right _

/-- Two gradients that agree wherever no point's product is infinite, each infinite where one is, end with the same loss. -/
theorem final_eq (hD : Blows a D) (hD' : Blows a D')
    (hs : ∀ G u, (∀ w, ¬Bad (fac a G u w)) → ∀ k, Same (D G u k) (D' G u k)) : final D G T a = final D' G T a := by
  by_cases b0 : ∃ u w, Bad (fac a G u w)
  · obtain ⟨u, w, hb⟩ := b0
    unfold final
    rw [loss_top (bad3 hD (bad2 hD (bad1 hD hb))), loss_top (bad3 hD' (bad2 hD' (bad1 hD' hb)))]
  push Not at b0
  have s1 := gl_same (T := T) fun u k => hs G u (b0 u) k
  have em1 : ∀ u j, Same (m1 D G T u j) (m1 D' G T u j) := fun u j => same_mo (.inl rfl) (s1 u j)
  have ev1 : ∀ u j, v1 D G T u j = v1 D' G T u j := fun u j => same_vo _ (s1 u j)
  have eg1 : g1 D G T = g1 D' G T := by
    funext u j
    unfold g1
    rw [← ev1]
    exact same_upd _ _ p_3a83126f _ (good1 u j) (em1 u j)
  by_cases b1 : ∃ u w, Bad (fac a (g1 D G T) u w)
  · obtain ⟨u, w, hb⟩ := b1
    unfold final
    rw [loss_top (bad3 hD (bad2 hD hb)), loss_top (bad3 hD' (bad2 hD' (eg1 ▸ hb)))]
  push Not at b1
  have s2 : ∀ u j, Same (gl D (g1 D G T) (t1 G T) u j) (gl D' (g1 D' G T) (t1 G T) u j) := by
    rw [← eg1]
    exact gl_same fun u k => hs _ u (b1 u) k
  have em2 : ∀ u j, Same (m2 D G T u j) (m2 D' G T u j) := fun u j => same_mo (em1 u j) (s2 u j)
  have ev2 : ∀ u j, v2 D G T u j = v2 D' G T u j := fun u j => by
    unfold v2; rw [← ev1]; exact same_vo _ (s2 u j)
  have eg2 : g2 D G T = g2 D' G T := by
    funext u j
    unfold g2
    rw [← ev2, ← eg1]
    exact same_upd _ _ p_3b0301a8 _ (good2 u j) (em2 u j)
  have emt : mt2 D G T = mt2 D' G T := by funext k; unfold mt2; rw [eg1]
  have evt : vt2 D G T = vt2 D' G T := by funext k; unfold vt2; rw [eg1]
  have et2 : t2 D G T = t2 D' G T := by funext k; unfold t2; rw [emt, evt]
  by_cases b2 : ∃ u w, Bad (fac a (g2 D G T) u w)
  · obtain ⟨u, w, hb⟩ := b2
    unfold final
    rw [loss_top (bad3 hD hb), loss_top (bad3 hD' (eg2 ▸ hb))]
  push Not at b2
  have s3 : ∀ u j, Same (gl D (g2 D G T) (t2 D G T) u j) (gl D' (g2 D' G T) (t2 D' G T) u j) := by
    rw [← eg2, ← et2]
    exact gl_same fun u k => hs _ u (b2 u) k
  have eg3 : g3 D G T = g3 D' G T := by
    funext u j
    have e : g2 D' G T u j = g2 D G T u j := by rw [eg2]
    unfold g3
    rw [← ev2, ← same_vo _ (s3 u j), e]
    exact same_upd _ _ p_3b446955 _ ((good2 u j).step _) (same_mo (em2 u j) (s3 u j))
  have et3 : t3 D G T = t3 D' G T := by funext k; unfold t3; rw [emt, evt, et2, eg2]
  unfold final
  rw [eg3, et3]

/-- The kernel's two ways and the reference's one end with the same loss. -/
theorem final_odd (hD : TwoWays a D) : final D G T a = final (odd a) G T a :=
  final_eq hD.blows odd_blows fun G u hb k => hD.same G u hb k

end Run

end Cert.Proof.Math
-- ==== Proof.KernelIdeal.Entries.lean ====
/-
  `KernelIdeal`: the entries of the kernel's values over the extended reals.
-/
module

public import proofs.«01_k».proof.Proof.KernelIdeal.Read
public import proofs.«01_k».proof.Proof.Agree
public import Idealize.ShloMosaic.Lib.Pointwise
public import Idealize.ShloMosaic.PureOps.IdealRules

@[expose] public section

set_option maxRecDepth 16384

noncomputable section

namespace Cert.Proof.KernelIdeal

open Cert.KernelIdeal Cert.KernelIdeal.Gen Cert.Proof.Products Cert.Proof.Math
open Idealize.ShloMosaic Idealize.ShloMosaic.TcCoe

/-- The product of a point's two halves. -/
def y0 (z : FVec Ideal S8x248x256 .f32) : FVec Ideal S8x248x128 .f32 :=
  mulf (extractStridedSlice S8x248x128 ![0, 0, 0] z slices_S8x248x256_o0_0_0_S8x248x128)
    (extractStridedSlice S8x248x128 ![0, 0, 128] z slices_S8x248x256_o0_0_128_S8x248x128)
/-- A product with the lanes 64 places back. -/
def y1 (z : FVec Ideal S8x248x256 .f32) : FVec Ideal S8x248x128 .f32 := mulf (y0 z) (dynamicRotate 2 64#32 none (y0 z) rotates_S8x248x128_d2)
/-- A product with the lanes 32 places back. -/
def y2 (z : FVec Ideal S8x248x256 .f32) : FVec Ideal S8x248x128 .f32 := mulf (y1 z) (dynamicRotate 2 32#32 none (y1 z) rotates_S8x248x128_d2)
/-- A product with the lanes 16 places back. -/
def y3 (z : FVec Ideal S8x248x256 .f32) : FVec Ideal S8x248x128 .f32 := mulf (y2 z) (dynamicRotate 2 16#32 none (y2 z) rotates_S8x248x128_d2)
/-- A product with the lanes 8 places back. -/
def y4 (z : FVec Ideal S8x248x256 .f32) : FVec Ideal S8x248x128 .f32 := mulf (y3 z) (dynamicRotate 2 8#32 none (y3 z) rotates_S8x248x128_d2)
/-- A product with the lanes 4 places back. -/
def y5 (z : FVec Ideal S8x248x256 .f32) : FVec Ideal S8x248x128 .f32 := mulf (y4 z) (dynamicRotate 2 4#32 none (y4 z) rotates_S8x248x128_d2)
/-- A product with the lanes 2 places back. -/
def y6 (z : FVec Ideal S8x248x256 .f32) : FVec Ideal S8x248x128 .f32 := mulf (y5 z) (dynamicRotate 2 2#32 none (y5 z) rotates_S8x248x128_d2)
/-- A product with the lanes 1 places back. -/
def y7 (z : FVec Ideal S8x248x256 .f32) : FVec Ideal S8x248x128 .f32 := mulf (y6 z) (dynamicRotate 2 1#32 none (y6 z) rotates_S8x248x128_d2)

/-- The product of all the lanes, by one halving and seven rotations. -/
def tower (z : FVec Ideal S8x248x256 .f32) : FVec Ideal S8x248x1 .f32 :=
  extractStridedSlice S8x248x1 ![0, 0, 0] (y7 z) slices_S8x248x128_o0_0_0_S8x248x1

theorem pay11_tower (v1 : FVec Ideal S248x256 .f32) (x : Vec Ideal S8x256 .f32) : k0_pay11 v1 x = tower (k0_pay9 v1 x) := rfl
theorem pay6_tower (z : FVec Ideal S8x248x256 .f32) : k0_pay6 z = tower (k0_pay5 z) := rfl

theorem y0_apply (z : FVec Ideal S8x248x256 .f32) (r : Fin 8) (w : Fin 248) (l : Fin 128) :
    y0 z (ix3 r w l) = half (m := 128) (fun k : Fin 256 => z (ix3 r w k)) l := by
  pointwise [y0]
  rfl
theorem y1_apply (z : FVec Ideal S8x248x256 .f32) (r : Fin 8) (w : Fin 248) (l : Fin 128) :
    y1 z (ix3 r w l) = y0 z (ix3 r w l) * y0 z (ix3 r w (l - 64)) := by
  have e : l - 64 = ⟨(l.val + 128 - 64) % 128, Nat.mod_lt _ (by decide)⟩ := by
    ext; rw [Fin.sub_def]; show (128 - 64 + l.val) % 128 = (l.val + 128 - 64) % 128; omega
  rw [e]
  pointwise [y1]
theorem y2_apply (z : FVec Ideal S8x248x256 .f32) (r : Fin 8) (w : Fin 248) (l : Fin 128) :
    y2 z (ix3 r w l) = y1 z (ix3 r w l) * y1 z (ix3 r w (l - 32)) := by
  have e : l - 32 = ⟨(l.val + 128 - 32) % 128, Nat.mod_lt _ (by decide)⟩ := by
    ext; rw [Fin.sub_def]; show (128 - 32 + l.val) % 128 = (l.val + 128 - 32) % 128; omega
  rw [e]
  pointwise [y2]
theorem y3_apply (z : FVec Ideal S8x248x256 .f32) (r : Fin 8) (w : Fin 248) (l : Fin 128) :
    y3 z (ix3 r w l) = y2 z (ix3 r w l) * y2 z (ix3 r w (l - 16)) := by
  have e : l - 16 = ⟨(l.val + 128 - 16) % 128, Nat.mod_lt _ (by decide)⟩ := by
    ext; rw [Fin.sub_def]; show (128 - 16 + l.val) % 128 = (l.val + 128 - 16) % 128; omega
  rw [e]
  pointwise [y3]
theorem y4_apply (z : FVec Ideal S8x248x256 .f32) (r : Fin 8) (w : Fin 248) (l : Fin 128) :
    y4 z (ix3 r w l) = y3 z (ix3 r w l) * y3 z (ix3 r w (l - 8)) := by
  have e : l - 8 = ⟨(l.val + 128 - 8) % 128, Nat.mod_lt _ (by decide)⟩ := by
    ext; rw [Fin.sub_def]; show (128 - 8 + l.val) % 128 = (l.val + 128 - 8) % 128; omega
  rw [e]
  pointwise [y4]
theorem y5_apply (z : FVec Ideal S8x248x256 .f32) (r : Fin 8) (w : Fin 248) (l : Fin 128) :
    y5 z (ix3 r w l) = y4 z (ix3 r w l) * y4 z (ix3 r w (l - 4)) := by
  have e : l - 4 = ⟨(l.val + 128 - 4) % 128, Nat.mod_lt _ (by decide)⟩ := by
    ext; rw [Fin.sub_def]; show (128 - 4 + l.val) % 128 = (l.val + 128 - 4) % 128; omega
  rw [e]
  pointwise [y5]
theorem y6_apply (z : FVec Ideal S8x248x256 .f32) (r : Fin 8) (w : Fin 248) (l : Fin 128) :
    y6 z (ix3 r w l) = y5 z (ix3 r w l) * y5 z (ix3 r w (l - 2)) := by
  have e : l - 2 = ⟨(l.val + 128 - 2) % 128, Nat.mod_lt _ (by decide)⟩ := by
    ext; rw [Fin.sub_def]; show (128 - 2 + l.val) % 128 = (l.val + 128 - 2) % 128; omega
  rw [e]
  pointwise [y6]
theorem y7_apply (z : FVec Ideal S8x248x256 .f32) (r : Fin 8) (w : Fin 248) (l : Fin 128) :
    y7 z (ix3 r w l) = y6 z (ix3 r w l) * y6 z (ix3 r w (l - 1)) := by
  have e : l - 1 = ⟨(l.val + 128 - 1) % 128, Nat.mod_lt _ (by decide)⟩ := by
    ext; rw [Fin.sub_def]; show (128 - 1 + l.val) % 128 = (l.val + 128 - 1) % 128; omega
  rw [e]
  pointwise [y7]

theorem tower_apply (z : FVec Ideal S8x248x256 .f32) (r : Fin 8) (w : Fin 248) :
    tower z (ix3 r w 0) = ∏ k : Fin 256, z (ix3 r w k) := by
  rw [← prod_half (m := 128) fun k : Fin 256 => z (ix3 r w k)]
  refine Eq.trans ?_ (rotations (fun l => half (m := 128) (fun k : Fin 256 => z (ix3 r w k)) l) (fun l => y1 z (ix3 r w l)) (fun l => y2 z (ix3 r w l))
    (fun l => y3 z (ix3 r w l)) (fun l => y4 z (ix3 r w l)) (fun l => y5 z (ix3 r w l)) (fun l => y6 z (ix3 r w l)) (fun l => y7 z (ix3 r w l))
    (fun l => by simp only [← y0_apply]; exact y1_apply z r w l) (y2_apply z r w) (y3_apply z r w) (y4_apply z r w) (y5_apply z r w) (y6_apply z r w)
    (y7_apply z r w))
  pointwise [tower]

theorem pay9_apply (v1 : FVec Ideal S248x256 .f32) (x : Vec Ideal S8x256 .f32) (r : Fin 8) (w : Fin 248) (k : Fin 256) :
    k0_pay9 v1 x (ix3 r w k) = 1 - v1 (ix2 w k) * x (ix2 r k) := by
  pointwise [k0_pay9]

theorem pay4_apply (z : FVec Ideal S8x248x256 .f32) (r : Fin 8) (w : Fin 248) :
    k0_pay4 z (ix3 r w 0) = ∑ k : Fin 256, if z (ix3 r w k) = 0 then 1 else 0 := by
  pointwise [k0_pay4, k0_pay3]

theorem pay5_apply (z : FVec Ideal S8x248x256 .f32) (r : Fin 8) (w : Fin 248) (k : Fin 256) :
    k0_pay5 z (ix3 r w k) = if z (ix3 r w k) = 0 then 1 else z (ix3 r w k) := by
  pointwise [k0_pay5, k0_pay3]

theorem pay7_apply (z : FVec Ideal S8x248x256 .f32) (r : Fin 8) (w : Fin 248) (k : Fin 256) :
    k0_pay7 z (ix3 r w k) = if k0_pay4 z (ix3 r w 0) = 0 then Ideal.div 1 (k0_pay5 z (ix3 r w k)) else 0 := by
  pointwise [k0_pay7]

theorem pay8_apply (z : FVec Ideal S8x248x256 .f32) (r : Fin 8) (w : Fin 248) (k : Fin 256) :
    k0_pay8 z (ix3 r w k) = if k0_pay4 z (ix3 r w 0) = 1 then 1 else 0 := by
  pointwise [k0_pay8]

theorem pay45_apply (v1 : FVec Ideal S248x256 .f32) (a c : FVec Ideal S8x248x1 .f32) (z d e : FVec Ideal S8x248x256 .f32) (r : Fin 8) (k : Fin 256) :
    k0_pay45 v1 a (k0_pay3 z) c d e (ix2 r k)
      = 0 - ∑ w : Fin 248, a (ix3 r w 0) * c (ix3 r w 0) * (if z (ix3 r w k) = 0 then e (ix3 r w k) else d (ix3 r w k)) * v1 (ix2 w k) := by
  pointwise [k0_pay45, k0_pay3]

theorem pay46_apply (v1 : FVec Ideal S248x256 .f32) (z : FVec Ideal S8x248x256 .f32) (b c : FVec Ideal S8x248x1 .f32) (r : Fin 8) (k : Fin 256) :
    k0_pay46 v1 z b c (ix2 r k)
      = 0 - ∑ w : Fin 248, Ideal.div (c (ix3 r w 0) * b (ix3 r w 0)) (z (ix3 r w k)) * v1 (ix2 w k) := by
  pointwise [k0_pay46]

theorem k_2nm : Named.named (F := Ideal) (φ := .f32) κ "inv_2nm" 0x3B042108#32 = (((1 / 496 : ℝ) : ℝ) : EReal) :=
  IdealRules.named_const.ideal_named_scalar _ _ _ _ rfl
theorem k_mean : Named.named (F := Ideal) (φ := .f32) κ "inv_mean" 0x37842108#32 = (((1 / 63488 : ℝ) : ℝ) : EReal) :=
  IdealRules.named_const.ideal_named_scalar _ _ _ _ rfl

theorem sgn_select (b : Fin k0_t1_loop.trips) (hb : b.val < 31) (r : Fin 8) (w u : Fin 248) (hu : u.val = 8 * b.val + r.val) :
    Scalar.select (IntOp.cmpi CmpIPredicate.eq (BitVec.ofNat 32 w.val)
      (IntOp.addi (BitVec.ofNat 32 r.val) (Scalar.muli (Scf.iv 0#32 1#32 b) 8#32))) (Ideal.ofBits FTy.f32 3212836864#32) 1 = ((sgn u w : ℝ) : EReal) := by
  have e : IntOp.addi (BitVec.ofNat 32 r.val) (Scalar.muli (Scf.iv 0#32 1#32 b) 8#32) = BitVec.ofNat 32 u.val := by
    apply BitVec.eq_of_toNat_eq
    simp [IntOp.addi, Scalar.muli, IntOp.muli, Scf.iv]
    omega
  have e2 : (BitVec.ofNat 32 w.val = BitVec.ofNat 32 u.val) ↔ w.val = u.val := WordCmp.ofNat_eq_ofNat_iff (by omega) (by omega)
  rw [e, WordCmp.cmpi_eq_eq, c_neg]
  simp only [e2]
  unfold sgn Scalar.select
  by_cases h : u = w
  · simp [h]
  · have h' : w.val ≠ u.val := fun e => h (Fin.ext e.symm)
    simp [h, h']

theorem pay12_apply (v1 : FVec Ideal S248x256 .f32) (x : Vec Ideal S8x256 .f32) (b : Fin k0_t1_loop.trips) (r : Fin 8) (w : Fin 248)
    (u : Fin 248) (hu : u.val = 8 * b.val + r.val) :
    k0_pay12 v1 i31 i32 0#32 1#32 b x (ix3 r w 0)
      = (k0_pay11 v1 x (ix3 r w 0) - ((sgn u w : ℝ) : EReal)) * ((1 / 496 : ℝ) : EReal) := by
  have hb : b.val < 31 := lt_of_lt_of_eq b.isLt trips1
  rw [← k_2nm]
  pointwise [k0_pay12, i31, i32]
  rw [sgn_select b hb r w u hu]

theorem pay13_ne (v1 : FVec Ideal S248x256 .f32) (x : Vec Ideal S8x256 .f32)
    (hn : k0_pay13 v1 x ≠ 0) (r : Fin 8) (w : Fin 248) (l : Fin 128) :
    k0_pay10 v1 x (ix3 r w l) ≠ 0 := by
  unfold k0_pay13 at hn
  pointwise [] at hn
  intro h0
  refine hn (le_antisymm ?_ ?_)
  · rw [Finset.fold_min_le]
    refine .inr ⟨ix4 0 r w l, ?_, ?_⟩
    · rw [Finset.mem_filter]
      refine ⟨Finset.mem_univ _, funext fun a => ?_⟩
      exact Fin.ext (by have h1 := (reduces_S1x8x248x128_S1.drop (ix4 0 r w l) a).isLt; have h2 := (ix1 (0 : Fin 1) a).isLt; fin_cases a; simp at h1 h2 ⊢; omega)
    · show FloatOps.absf (k0_pay10 v1 x (ix3 r w l)) ≤ 0
      rw [h0]
      simp [Ideal.absf_def]
  · rw [Finset.le_fold_min]
    refine ⟨by rw [c_top]; exact le_top, fun i _ => ?_⟩
    show 0 ≤ max (k0_pay10 v1 x (ix3 (i 1) (i 2) (i 3))) (-k0_pay10 v1 x (ix3 (i 1) (i 2) (i 3)))
    rcases le_total 0 (k0_pay10 v1 x (ix3 (i 1) (i 2) (i 3))) with h | h
    · exact le_max_of_le_left h
    · exact le_max_of_le_right (EReal.neg_nonneg.mpr h)

theorem zero_taken (p : Ideal .f32) (h : p = 0) :
    Scalar.cmpi .ne (Scalar.extui (Scalar.cmpf .oeq p (Scalar.ofBits .f32 0x00000000#32)) : BitVec 32) 0#32 = 1#1 := by
  have e : Scalar.cmpf .oeq p (Scalar.ofBits .f32 0x00000000#32) = 1#1 := by
    subst h
    show Ideal.cmp .oeq (0 : EReal) (Ideal.ofBits .f32 0#32) = 1#1
    rw [c_zero]
    simp [Ideal.cmp]
  rw [e]
  decide

theorem pay10_apply (v1 : FVec Ideal S248x256 .f32) (x : Vec Ideal S8x256 .f32) (r : Fin 8) (w : Fin 248) (l : Fin 128) :
    k0_pay10 v1 x (ix3 r w l) = k0_pay9 v1 x (ix3 r w (Fin.castAdd (n := 128) 128 l)) * k0_pay9 v1 x (ix3 r w (Fin.natAdd (m := 128) 128 l)) :=
  y0_apply (k0_pay9 v1 x) r w l

/-- The rows a trip stores are the gradient's rows by one of the two ways. -/
theorem trip1_apply (v1 : FVec Ideal S248x256 .f32) (x : Vec Ideal S8x256 .f32) (b : Fin k0_t1_loop.trips) (r : Fin 8) (u : Fin 248)
    (hu : u.val = 8 * b.val + r.val) (k : Fin 256) :
    (trip1 v1 i31 i32 b x (ix2 r k) = 0 - ∑ w : Fin 248, slow (fun k => 1 - v1 (ix2 w k) * x (ix2 r k)) (sgn u w) (v1 (ix2 w k)) k)
      ∨ ((∀ w k, 1 - v1 (ix2 w k) * x (ix2 r k) ≠ 0)
        ∧ trip1 v1 i31 i32 b x (ix2 r k) = 0 - ∑ w : Fin 248, fast (fun k => 1 - v1 (ix2 w k) * x (ix2 r k)) (sgn u w) (v1 (ix2 w k)) k) := by
  have h11 : ∀ w, k0_pay11 v1 x (ix3 r w 0) = ∏ k, (1 - v1 (ix2 w k) * x (ix2 r k)) := by
    intro w
    rw [pay11_tower, tower_apply]
    exact Finset.prod_congr rfl fun k _ => pay9_apply v1 x r w k
  unfold trip1
  split
  · left
    rw [pay45_apply]
    refine congrArg (fun z : EReal => 0 - z) ?_
    refine Finset.sum_congr rfl fun w _ => ?_
    have h4 : k0_pay4 (k0_pay9 v1 x) (ix3 r w 0) = zeros (fun k => 1 - v1 (ix2 w k) * x (ix2 r k)) := by
      rw [pay4_apply]
      refine Finset.sum_congr rfl fun k _ => ?_
      rw [pay9_apply]
    have h6 : k0_pay6 (k0_pay9 v1 x) (ix3 r w 0) = nonzeros (fun k => 1 - v1 (ix2 w k) * x (ix2 r k)) := by
      rw [pay6_tower, tower_apply]
      refine Finset.prod_congr rfl fun k _ => ?_
      rw [pay5_apply, pay9_apply]
    rw [pay12_apply v1 x b r w u hu, h11, h6, pay7_apply, pay8_apply, pay5_apply, h4, pay9_apply]
    rfl
  · rename_i hc
    right
    have hn : k0_pay13 v1 x ≠ 0 := fun h => hc (zero_taken _ h)
    refine ⟨?_, ?_⟩
    · intro w
      have hy := pay13_ne v1 x hn r w
      refine Fin.addCases (m := 128) (n := 128) (fun l => ?_) (fun l => ?_)
      · intro e
        refine hy l ?_
        rw [pay10_apply, pay9_apply, e, zero_mul]
      · intro e
        refine hy l ?_
        rw [pay10_apply, pay9_apply v1 x r w (Fin.natAdd 128 l), e, mul_zero]
    · rw [pay46_apply]
      refine congrArg (fun z : EReal => 0 - z) ?_
      refine Finset.sum_congr rfl fun w _ => ?_
      rw [pay12_apply v1 x b r w u hu, h11, pay9_apply]
      rfl

/-- The data part's gradient in the memberships, by one of the two ways. -/
theorem ghOf_apply (x0 h : Vec Ideal S248x256 .f32) (u : Fin 248) (k : Fin 256) :
    (ghOf x0 h (ix2 u k) = 0 - ∑ w : Fin 248, slow (fun k => 1 - x0 (ix2 w k) * h (ix2 u k)) (sgn u w) (x0 (ix2 w k)) k)
      ∨ ((∀ w k, 1 - x0 (ix2 w k) * h (ix2 u k) ≠ 0)
        ∧ ghOf x0 h (ix2 u k) = 0 - ∑ w : Fin 248, fast (fun k => 1 - x0 (ix2 w k) * h (ix2 u k)) (sgn u w) (x0 (ix2 w k)) k) := by
  have hb : u.val / 8 < 31 := by omega
  have e : ∀ z : FVec Ideal S8x256 .f32, k0_pay47 z = z := fun z => shapeCast_self _ _
  have hx : ∀ k : Fin 256, rows8 h (u.val / 8) hb (ix2 ⟨u.val % 8, Nat.mod_lt _ (by decide)⟩ k) = h (ix2 u k) := by
    intro k
    refine congrArg h ?_
    refine (eq_ix2 (n0 := 248) (n1 := 256) _).trans ?_
    refine (ix2_inj _ _ _ _).mpr ⟨Fin.ext ?_, Fin.ext ?_⟩
    · show 8 * (u.val / 8) + 1 * (u.val % 8) = u.val
      omega
    · show 0 + 1 * k.val = _
      rw [one_mul, zero_add]
  have ht := trip1_apply x0 (rows8 h (u.val / 8) hb) ⟨u.val / 8, hb.trans_eq trips1.symm⟩ ⟨u.val % 8, Nat.mod_lt _ (by decide)⟩ u
    (by show u.val = 8 * (u.val / 8) + u.val % 8; omega) k
  simp only [hx] at ht
  unfold ghOf gh1
  rw [e]
  exact ht

/-! ## The ordering part and the whole gradient -/

/-- The membership of a node in a column: none in the first eight. -/
theorem hOf_apply (g : Vec Ideal S248x256 .f32) (u : Fin 248) (k : Fin 256) :
    hOf g (ix2 u k) = if 8 ≤ k.val then Ideal.logistic (g (ix2 u k)) else 0 := by
  pointwise [hOf, k0_pay44, k0_pay37]
  rw [WordCmp.cmpi_sge_eq]
  unfold Scalar.select
  have e : ((8#32 : BitVec 32).toInt ≤ (BitVec.ofNat 32 k.val).toInt) ↔ 8 ≤ k.val := by
    have h2 : (BitVec.ofNat 32 k.val).toInt = (k.val : ℤ) := by
      rw [BitVec.toInt_eq_toNat_of_lt] <;> simp <;> omega
    rw [h2]
    show (8 : ℤ) ≤ _ ↔ _
    omega
  simp only [e]
  by_cases h : 8 ≤ k.val
  · simp [h]
  · simp [h]

theorem pay48_apply (t : Vec Ideal S1x256 .f32) (u : Fin 248) (k : Fin 256) :
    k0_pay48 t (ix2 u k) = max (t (ix2 0 ⟨u.val, by omega⟩) - t (ix2 0 k) + Ideal.ofBits .f32 1036831949#32) 0 := by
  pointwise [k0_pay48]

theorem pay49_apply (t : Vec Ideal S1x256 .f32) (h g : Vec Ideal S248x256 .f32) (u : Fin 248) (k : Fin 256) :
    k0_pay49 t h g (ix2 u k) = (g (ix2 u k) + k0_pay48 t (ix2 u k) * k0_pay48 t (ix2 u k) * ((1 / 63488 : ℝ) : EReal))
      * (h (ix2 u k) * (1 - h (ix2 u k))) := by
  rw [← k_mean]
  pointwise [k0_pay49]

theorem pay53_apply (t : Vec Ideal S1x256 .f32) (h : Vec Ideal S248x256 .f32) (k : Fin 256) :
    k0_pay53 (k0_pay50 t h) (k0_pay51 t h) k0_pay52 (ix2 0 k)
      = ((if hk : k.val < 248 then ∑ x : Fin 256, h (ix2 ⟨k.val, hk⟩ x) * (((2 : ℝ) : EReal) * k0_pay48 t (ix2 ⟨k.val, hk⟩ x)) else 0)
          - ∑ u : Fin 248, h (ix2 u k) * (((2 : ℝ) : EReal) * k0_pay48 t (ix2 u k))) * ((1 / 63488 : ℝ) : EReal) := by
  rw [← k_mean, ← c_two]
  pointwise [k0_pay53, k0_pay52, k0_pay51, k0_pay50]

theorem pay2_apply (h : FVec Ideal S248x256 .f32) (a : Ideal .f32) (t : Vec Ideal S1x256 .f32) :
    k0_pay2 h a t = Ideal.div a ((992 : ℝ) : EReal)
      + (∑ u : Fin 248, ∑ k : Fin 256, h (ix2 u k) * (k0_pay48 t (ix2 u k) * k0_pay48 t (ix2 u k))) * ((1 / 63488 : ℝ) : EReal) := by
  rw [← k_mean, ← c_992]
  unfold k0_pay2
  pointwise [k0_pay48]

/-- The sum over a block's points of the squared differences of the products and the signs. -/
def sqsum (p : FVec Ideal S8x248x1 .f32) (c : BitVec 32) : Ideal .f32 :=
  extractAt ![0, 0, 0, 0] (shapeCast S1x1x1x1 (multiReduction .add [1, 2, 3] S1 (shapeCast S1x8x248x1
    (mulf
      (subf p (select (cmpi .eq i31 (addi i32 (broadcast S8x248x1 c))) (broadcast S8x248x1 (Scalar.ofBits .f32 0xBF800000#32 : Ideal .f32)) (broadcast S8x248x1 (Scalar.ofBits .f32 0x3F800000#32 : Ideal .f32))))
      (subf p (select (cmpi .eq i31 (addi i32 (broadcast S8x248x1 c))) (broadcast S8x248x1 (Scalar.ofBits .f32 0xBF800000#32 : Ideal .f32)) (broadcast S8x248x1 (Scalar.ofBits .f32 0x3F800000#32 : Ideal .f32)))))
    shapeCasts_S8x248x1_S1x8x248x1) 0x00000000#32 reduces_S1x8x248x1_S1 (.inl rfl) rfl) shapeCasts_S1_S1x1x1x1) inpos_S1x1x1x1_p0_0_0_0

theorem pay1_sq (v1 : FVec Ideal S248x256 .f32) (b : Fin k0_t4_loop.trips) (s : Ideal .f32) (x : Vec Ideal S8x256 .f32) :
    k0_pay1 v1 i31 i32 b s x = Scalar.addf s (sqsum (k0_pay11 v1 x) (Scalar.muli (Scf.iv 0#32 1#32 b) 8#32)) := rfl

theorem sqsum_apply (p : FVec Ideal S8x248x1 .f32) (b : Fin k0_t4_loop.trips)
    (u : Fin 8 → Fin 248) (hu : ∀ r, (u r).val = 8 * b.val + r.val) :
    sqsum p (Scalar.muli (Scf.iv 0#32 1#32 b) 8#32)
      = ∑ r : Fin 8, ∑ w : Fin 248, (p (ix3 r w 0) - ((sgn (u r) w : ℝ) : EReal)) * (p (ix3 r w 0) - ((sgn (u r) w : ℝ) : EReal)) := by
  have hb : b.val < 31 := lt_of_lt_of_eq b.isLt trips4
  have hs : ∀ r w, Scalar.select (IntOp.cmpi CmpIPredicate.eq (BitVec.ofNat 32 w.val)
      (IntOp.addi (BitVec.ofNat 32 r.val) (Scalar.muli (Scf.iv 0#32 1#32 b) 8#32))) (Ideal.ofBits FTy.f32 3212836864#32) 1 = ((sgn (u r) w : ℝ) : EReal) :=
    fun r w => sgn_select ⟨b.val, hb.trans_eq trips1.symm⟩ hb r w (u r) (hu r)
  simp only [← hs]
  unfold sqsum
  pointwise [i31, i32]
  simp only [Ideal.reduceAdd]
  rw [Finset.filter_true_of_mem fun i _ => funext fun a => Fin.ext (by
    have h1 := (reduces_S1x8x248x1_S1.drop i a).isLt
    have h2 := (ix1 (0 : Fin 1) a).isLt
    fin_cases a
    simp at h1 h2 ⊢
    omega), sum_idx4]
  simp only [Fin.sum_univ_one]
  refine Finset.sum_congr rfl fun r _ => Finset.sum_congr rfl fun w _ => ?_
  pointwise []

theorem pay1_apply (v1 : FVec Ideal S248x256 .f32) (b : Fin k0_t4_loop.trips) (s : Ideal .f32) (x : Vec Ideal S8x256 .f32)
    (u : Fin 8 → Fin 248) (hu : ∀ r, (u r).val = 8 * b.val + r.val) :
    k0_pay1 v1 i31 i32 b s x = s + ∑ r : Fin 8, ∑ w : Fin 248, (k0_pay11 v1 x (ix3 r w 0) - ((sgn (u r) w : ℝ) : EReal))
      * (k0_pay11 v1 x (ix3 r w 0) - ((sgn (u r) w : ℝ) : EReal)) := by
  rw [pay1_sq, sqsum_apply _ b u hu]
  rfl

/-- The sum of squares over all rows. -/
theorem acc_apply (x0 h : Vec Ideal S248x256 .f32) :
    acc x0 h 31 = ∑ u : Fin 248, ∑ w : Fin 248, dsq (fun k => 1 - x0 (ix2 w k) * h (ix2 u k)) (sgn u w) := by
  have step : ∀ n (hn : n ≤ 31), acc x0 h n
      = ∑ b : Fin n, ∑ r : Fin 8, ∑ w : Fin 248, dsq (fun k => 1 - x0 (ix2 w k) * h (ix2 ⟨8 * b.val + r.val, by omega⟩ k)) (sgn ⟨8 * b.val + r.val, by omega⟩ w) := by
    intro n
    induction n with
    | zero => intro _; simp [acc]
    | succ n ih =>
      intro hn
      have hn' : n < 31 := hn
      rw [acc, dif_pos hn', Fin.sum_univ_castSucc, ih (by omega),
        pay1_apply _ _ _ _ (fun r => ⟨8 * n + r.val, by omega⟩) (fun r => rfl)]
      refine congrArg (fun z : EReal => _ + z) ?_
      refine Finset.sum_congr rfl fun r _ => ?_
      refine Finset.sum_congr rfl fun w _ => ?_
      have hx : ∀ k, rows8 h n hn' (ix2 r k) = h (ix2 ⟨8 * n + r.val, by omega⟩ k) := by
        intro k
        refine congrArg h ?_
        refine (eq_ix2 (n0 := 248) (n1 := 256) _).trans ?_
        refine (ix2_inj _ _ _ _).mpr ⟨Fin.ext ?_, Fin.ext ?_⟩
        · show 8 * n + 1 * r.val = _
          rw [one_mul]
        · show 0 + 1 * k.val = _
          rw [one_mul, zero_add]
      have h11 : k0_pay11 x0 (rows8 h n hn') (ix3 r w 0) = ∏ k, (1 - x0 (ix2 w k) * h (ix2 ⟨8 * n + r.val, by omega⟩ k)) := by
        rw [pay11_tower, tower_apply]
        refine Finset.prod_congr rfl fun k _ => ?_
        rw [pay9_apply, hx]
      rw [h11]
      rfl
  rw [step 31 le_rfl]
  rw [← Fintype.sum_prod_type' (f := fun (b : Fin 31) (r : Fin 8) => ∑ w : Fin 248, dsq (fun k => 1 - x0 (ix2 w k) * h (ix2 ⟨8 * b.val + r.val, by omega⟩ k)) (sgn ⟨8 * b.val + r.val, by omega⟩ w))]
  refine Fintype.sum_equiv (finProdFinEquiv (m := 31) (n := 8)) _ _ fun p => ?_
  have e : (⟨8 * p.1.val + p.2.val, by omega⟩ : Fin 248) = finProdFinEquiv (m := 31) (n := 8) p := by
    ext; simp [finProdFinEquiv]; omega
  simp only [e]

end Cert.Proof.KernelIdeal
-- ==== Proof.KernelIdeal.Steps.lean ====
/-
  `KernelIdeal`: the kernel's three steps and its loss, entry by entry.
-/
module

public import proofs.«01_k».proof.Proof.KernelIdeal.Entries

@[expose] public section

set_option maxRecDepth 16384

noncomputable section

namespace Cert.Proof.KernelIdeal

open Cert.KernelIdeal Cert.KernelIdeal.Gen Cert.Proof.Products Cert.Proof.Math
open Idealize.ShloMosaic Idealize.ShloMosaic.TcCoe

/-- Column `8 + j`. -/
abbrev col (j : Fin 248) : Fin 256 := ⟨8 + j.val, by omega⟩

/-- The data part's gradient in the memberships as the kernel leaves it, for the operand `x0`. -/
def gradOf (x0 : Vec Ideal S248x256 .f32) (G : Fin 248 → Fin 248 → EReal) (u : Fin 248) (k : Fin 256) : EReal :=
  ghOf x0 (fun i => ((hrow G (i 0) (i 1) : ℝ) : EReal)) (ix2 u k)

theorem gradOf_ways (x0 : Vec Ideal S248x256 .f32) : TwoWays (fun w k => x0 (ix2 w k)) (gradOf x0) :=
  fun G u k => ghOf_apply x0 (fun i => ((hrow G (i 0) (i 1) : ℝ) : EReal)) u k

variable (x0 K : Vec Ideal S248x256 .f32) (t : Vec Ideal S1x256 .f32)
  (G : Fin 248 → Fin 248 → EReal) (T : Fin 256 → EReal)

theorem hOf_rel (hK : ∀ u j, K (ix2 u (col j)) = G u j) (u : Fin 248) (k : Fin 256) : hOf K (ix2 u k) = ((hrow G u k : ℝ) : EReal) := by
  rw [hOf_apply]
  unfold hrow
  by_cases h : 8 ≤ k.val
  · rw [if_pos h, dif_pos h, coe_sig, ← hK]
    exact congrArg (fun z => Ideal.logistic (K (ix2 u z))) (Fin.ext (show k.val = 8 + (k.val - 8) by omega))
  · rw [if_neg h, dif_neg h]
    simp

theorem pay48_rel (ht : ∀ k, t (ix2 0 k) = T k) (u : Fin 248) (k : Fin 256) : k0_pay48 t (ix2 u k) = hinge T u k := by
  rw [pay48_apply, ht, ht]
  rfl

theorem glat_rel (hK : ∀ u j, K (ix2 u (col j)) = G u j) (ht : ∀ k, t (ix2 0 k) = T k)
    (u j : Fin 248) : glat x0 K t (ix2 u (col j)) = gl (gradOf x0) G T u j := by
  have e : hOf K = fun i => ((hrow G (i 0) (i 1) : ℝ) : EReal) := by
    funext i
    exact (congrArg (hOf K) (eq_ix2 (n0 := 248) (n1 := 256) i)).trans (hOf_rel K G hK _ _)
  unfold glat
  rw [pay49_apply, e, pay48_rel t T ht]
  rfl

theorem gt_rel (hK : ∀ u j, K (ix2 u (col j)) = G u j) (ht : ∀ k, t (ix2 0 k) = T k) (k : Fin 256) :
    gt K t (ix2 0 k) = gtau G T k := by
  unfold gt
  rw [pay53_apply]
  simp only [hOf_rel K G hK, pay48_rel t T ht]
  rfl

theorem loss_rel (hK : ∀ u j, K (ix2 u (col j)) = G u j) (ht : ∀ k, t (ix2 0 k) = T k) :
    k0_pay2 (hOf K) (acc x0 (hOf K) 31) t = loss (fun w k => x0 (ix2 w k)) G T := by
  rw [pay2_apply, acc_apply]
  simp only [hOf_rel K G hK, pay48_rel t T ht]
  rfl

/-! ## The updates -/

section Updates
variable (g m v x : Vec Ideal S248x256 .f32) (gt m' v' x' : Vec Ideal S1x256 .f32)

theorem zero_a (u : Fin 248) (k : Fin 256) : k0_pay40 (F := Ideal) (ix2 u k) = Ideal.ofBits .f32 0#32 := by
  unfold k0_pay40; rw [shapeCast_self]; rfl
theorem zero_b (u : Fin 248) (k : Fin 256) : k0_pay41 (F := Ideal) (ix2 u k) = Ideal.ofBits .f32 0#32 := by
  unfold k0_pay41; rw [shapeCast_self]; rfl
theorem zero_c (k : Fin 256) : k0_pay42 (F := Ideal) (ix2 0 k) = Ideal.ofBits .f32 0#32 := by
  unfold k0_pay42; rw [shapeCast_self]; rfl
theorem zero_d (k : Fin 256) : k0_pay43 (F := Ideal) (ix2 0 k) = Ideal.ofBits .f32 0#32 := by
  unfold k0_pay43; rw [shapeCast_self]; rfl

theorem pay56_apply (u : Fin 248) (k : Fin 256) : k0_pay56 g m (ix2 u k) = mo (m (ix2 u k)) (g (ix2 u k)) := by
  unfold k0_pay56; rw [shapeCast_self]; rfl
theorem pay57_apply (u : Fin 248) (k : Fin 256) : k0_pay57 g v (ix2 u k) = vo (v (ix2 u k)) (g (ix2 u k)) := by
  unfold k0_pay57; rw [shapeCast_self]; rfl
theorem pay62_apply (k : Fin 256) : k0_pay62 gt m' (ix2 0 k) = mo (m' (ix2 0 k)) (gt (ix2 0 k)) := by
  unfold k0_pay62; rw [shapeCast_self]; rfl
theorem pay63_apply (k : Fin 256) : k0_pay63 gt v' (ix2 0 k) = vo (v' (ix2 0 k)) (gt (ix2 0 k)) := by
  unfold k0_pay63; rw [shapeCast_self]; rfl

theorem pay58_apply (u : Fin 248) (k : Fin 256) : k0_pay58 x g m v (ix2 u k)
    = upd 0x3DCCCCCD#32 0x3A83126F#32 (x (ix2 u k)) (mo (m (ix2 u k)) (g (ix2 u k))) (vo (v (ix2 u k)) (g (ix2 u k))) := rfl
theorem pay64_apply (k : Fin 256) : k0_pay64 x' gt m' v' (ix2 0 k)
    = upd 0x3DCCCCCD#32 0x3A83126F#32 (x' (ix2 0 k)) (mo (m' (ix2 0 k)) (gt (ix2 0 k))) (vo (v' (ix2 0 k)) (gt (ix2 0 k))) := by
  unfold k0_pay64; rw [shapeCast_self]; rfl
theorem pay79_apply (u : Fin 248) (k : Fin 256) : k0_pay79 x g m v (ix2 u k)
    = upd 0x3E428F5C#32 0x3B0301A8#32 (x (ix2 u k)) (mo (m (ix2 u k)) (g (ix2 u k))) (vo (v (ix2 u k)) (g (ix2 u k))) := by
  unfold k0_pay79; rw [shapeCast_self]; rfl
theorem pay84_apply (k : Fin 256) : k0_pay84 x' gt m' v' (ix2 0 k)
    = upd 0x3E428F5C#32 0x3B0301A8#32 (x' (ix2 0 k)) (mo (m' (ix2 0 k)) (gt (ix2 0 k))) (vo (v' (ix2 0 k)) (gt (ix2 0 k))) := by
  unfold k0_pay84; rw [shapeCast_self]; rfl
theorem pay97_apply (u : Fin 248) (k : Fin 256) : k0_pay97 x g m v (ix2 u k)
    = upd 0x3E8AC083#32 0x3B446955#32 (x (ix2 u k)) (mo (m (ix2 u k)) (g (ix2 u k))) (vo (v (ix2 u k)) (g (ix2 u k))) := by
  unfold k0_pay97; rw [shapeCast_self]; rfl
theorem pay103_apply (k : Fin 256) : k0_pay103 x' gt (k0_pay98 m') (FloatOps.ofBits .f32 0x3DCCCCCD#32) v' (ix2 0 k)
    = upd 0x3E8AC083#32 0x3B446955#32 (x' (ix2 0 k)) (mo (m' (ix2 0 k)) (gt (ix2 0 k))) (vo (v' (ix2 0 k)) (gt (ix2 0 k))) := by
  unfold k0_pay103; (try rw [shapeCast_self]); rfl

end Updates

/-! ## Three steps -/

section Steps
variable (x1 : Vec Ideal S248x256 .f32) (x2 : Vec Ideal S1x256 .f32)
  (hg : ∀ u j, x1 (ix2 u (col j)) = G u j) (ht : ∀ k, x2 (ix2 0 k) = T k)

include hg ht

theorem MO1_rel (u j : Fin 248) : MO1 x0 x1 x2 (ix2 u (col j)) = m1 (gradOf x0) G T u j := by
  unfold MO1 m1; rw [pay56_apply, zero_a, glat_rel x0 x1 x2 G T hg ht]
theorem V1_rel (u j : Fin 248) : V1 x0 x1 x2 (ix2 u (col j)) = v1 (gradOf x0) G T u j := by
  unfold V1 v1; rw [pay57_apply, zero_b, glat_rel x0 x1 x2 G T hg ht]
theorem G1_rel (u j : Fin 248) : G1 x0 x1 x2 (ix2 u (col j)) = g1 (gradOf x0) G T u j := by
  unfold G1 g1 m1 v1; rw [pay58_apply, zero_a, zero_b, glat_rel x0 x1 x2 G T hg ht, hg]
theorem MT1_rel (k : Fin 256) : MT1 x1 x2 (ix2 0 k) = mt1 G T k := by
  unfold MT1 mt1; rw [pay62_apply, zero_c, gt_rel x1 x2 G T hg ht]
theorem VT1_rel (k : Fin 256) : VT1 x1 x2 (ix2 0 k) = vt1 G T k := by
  unfold VT1 vt1; rw [pay63_apply, zero_d, gt_rel x1 x2 G T hg ht]
theorem T1_rel (k : Fin 256) : T1 x1 x2 (ix2 0 k) = t1 G T k := by
  unfold T1 t1 mt1 vt1; rw [pay64_apply, zero_c, zero_d, gt_rel x1 x2 G T hg ht, ht]

theorem MO2_rel (u j : Fin 248) : MO2 x0 x1 x2 (ix2 u (col j)) = m2 (gradOf x0) G T u j := by
  unfold MO2 m2
  rw [pay56_apply, MO1_rel x0 G T x1 x2 hg ht, glat_rel x0 _ _ _ _ (G1_rel x0 G T x1 x2 hg ht) (T1_rel G T x1 x2 hg ht)]
theorem V2_rel (u j : Fin 248) : V2 x0 x1 x2 (ix2 u (col j)) = v2 (gradOf x0) G T u j := by
  unfold V2 v2
  rw [pay57_apply, V1_rel x0 G T x1 x2 hg ht, glat_rel x0 _ _ _ _ (G1_rel x0 G T x1 x2 hg ht) (T1_rel G T x1 x2 hg ht)]
theorem G2_rel (u j : Fin 248) : G2 x0 x1 x2 (ix2 u (col j)) = g2 (gradOf x0) G T u j := by
  unfold G2 g2 m2 v2
  rw [pay79_apply, MO1_rel x0 G T x1 x2 hg ht, V1_rel x0 G T x1 x2 hg ht, G1_rel x0 G T x1 x2 hg ht,
    glat_rel x0 _ _ _ _ (G1_rel x0 G T x1 x2 hg ht) (T1_rel G T x1 x2 hg ht)]
theorem MT2_rel (k : Fin 256) : MT2 x0 x1 x2 (ix2 0 k) = mt2 (gradOf x0) G T k := by
  unfold MT2 mt2
  rw [pay62_apply, MT1_rel G T x1 x2 hg ht, gt_rel _ _ _ _ (G1_rel x0 G T x1 x2 hg ht) (T1_rel G T x1 x2 hg ht)]
theorem VT2_rel (k : Fin 256) : VT2 x0 x1 x2 (ix2 0 k) = vt2 (gradOf x0) G T k := by
  unfold VT2 vt2
  rw [pay63_apply, VT1_rel G T x1 x2 hg ht, gt_rel _ _ _ _ (G1_rel x0 G T x1 x2 hg ht) (T1_rel G T x1 x2 hg ht)]
theorem T2_rel (k : Fin 256) : T2 x0 x1 x2 (ix2 0 k) = t2 (gradOf x0) G T k := by
  unfold T2 t2 mt2 vt2
  rw [pay84_apply, MT1_rel G T x1 x2 hg ht, VT1_rel G T x1 x2 hg ht, T1_rel G T x1 x2 hg ht,
    gt_rel _ _ _ _ (G1_rel x0 G T x1 x2 hg ht) (T1_rel G T x1 x2 hg ht)]

theorem G3_rel (u j : Fin 248) : G3 x0 x1 x2 (ix2 u (col j)) = g3 (gradOf x0) G T u j := by
  unfold G3 g3
  rw [pay97_apply, MO2_rel x0 G T x1 x2 hg ht, V2_rel x0 G T x1 x2 hg ht, G2_rel x0 G T x1 x2 hg ht,
    glat_rel x0 _ _ _ _ (G2_rel x0 G T x1 x2 hg ht) (T2_rel x0 G T x1 x2 hg ht)]
theorem T3_rel (k : Fin 256) : T3 x0 x1 x2 (ix2 0 k) = t3 (gradOf x0) G T k := by
  unfold T3 t3
  rw [pay103_apply, MT2_rel x0 G T x1 x2 hg ht, VT2_rel x0 G T x1 x2 hg ht, T2_rel x0 G T x1 x2 hg ht,
    gt_rel _ _ _ _ (G2_rel x0 G T x1 x2 hg ht) (T2_rel x0 G T x1 x2 hg ht)]

/-- The kernel's loss is the loss after three steps. -/
theorem final_rel : k0_pay2 (hOf (G3 x0 x1 x2)) (acc x0 (hOf (G3 x0 x1 x2)) 31) (T3 x0 x1 x2) = final (gradOf x0) G T (fun w k => x0 (ix2 w k)) :=
  loss_rel x0 _ _ _ _ (G3_rel x0 G T x1 x2 hg ht) (T3_rel x0 G T x1 x2 hg ht)

end Steps

end Cert.Proof.KernelIdeal
-- ==== Proof.KernelIdeal.Result.lean ====
/-
  `KernelIdeal`: what the run leaves in the result, as a value of the three arguments.
-/
module

public import proofs.«01_k».proof.Proof.KernelIdeal.Steps
public import proofs.«01_k».proof.Proof.KernelIdeal.Run
public import Idealize.ShloMosaic.Lib.StableHlo.RunRead
public import Idealize.ShloMosaic.Lib.Pipeline.ValueKit

@[expose] public section

set_option maxRecDepth 16384

noncomputable section

namespace Cert.Proof.KernelIdeal

open Cert.KernelIdeal Cert.KernelIdeal.Gen Cert.Proof.Math
open Idealize.ShloMosaic Idealize.ShloMosaic.TcCoe
open Idealize.SL.Sem

section Host
variable {F : FTy → Type} [FloatOps F] [Named F]
variable (m : (ℓ : Loc nD τ sig) → Buf (Elt F) ℓ) (c : Dev nD)

/-- The operand the kernel takes for the matrix: twice its first 248 rows. -/
theorem V_v2 : V m c main_v2 = (mulf (broadcastInDim S248x256 ![] bcast_S_S248x256 (constant S_ .f32 0x40000000#32))
    (extractStridedSlice S248x256 ![0, 0] (m ((c : Thread nD τ).loc main_arg0)) slices_S256x256_S248x256_0_0) : FVec F S248x256 .f32) := by
  show StableHlo.after (List.flatten [hostOps0, hostOps0_1, hostOps0_2]) (fun b => m (c, b)) (Proc.devRef .tc main_v2) = _
  simp only [hostOps0, hostOps0_1, hostOps0_2, List.flatten_cons, List.flatten_nil, List.append_nil, List.cons_append, List.nil_append]
  after_reads_simp
/-- The operand the kernel takes for the logits: eight columns of zeros before them. -/
theorem V_v3 : V m c main_v3 = (pad S248x256 ![0, 8] ![0, 0] ![0, 0] (m ((c : Thread nD τ).loc main_arg2)) (sitofp .f32 (constantI S_ 32 0#32)) pads_S248x248_S248x256_000_800 h_S_ : FVec F S248x256 .f32) := by
  show StableHlo.after (List.flatten [hostOps0, hostOps0_1, hostOps0_2]) (fun b => m (c, b)) (Proc.devRef .tc main_v3) = _
  simp only [hostOps0, hostOps0_1, hostOps0_2, List.flatten_cons, List.flatten_nil, List.append_nil, List.cons_append, List.nil_append]
  after_reads_simp
  rfl
/-- The operand the kernel takes for the ordering parameter: the same entries as one row. -/
theorem V_v4 : V m c main_v4 = (shapeCast S1x256 (m ((c : Thread nD τ).loc main_arg1)) shapeCasts_S256_S1x256 : FVec F S1x256 .f32) := by
  show StableHlo.after (List.flatten [hostOps0, hostOps0_1, hostOps0_2]) (fun b => m (c, b)) (Proc.devRef .tc main_v4) = _
  simp only [hostOps0, hostOps0_1, hostOps0_2, List.flatten_cons, List.flatten_nil, List.append_nil, List.cons_append, List.nil_append]
  after_reads_simp
  rfl

/-- Every window's block index at the one point. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

theorem iblk_0 (t : Fin cfg0.N) : iblk m c 0 t = V m c main_v2 := by blk_ext! [iblk, idx t]
theorem iblk_1 (t : Fin cfg0.N) : iblk m c 1 t = V m c main_v3 := by blk_ext! [iblk, idx t]
theorem iblk_2 (t : Fin cfg0.N) : iblk m c 2 t = V m c main_v4 := by blk_ext! [iblk, idx t]

/-- The value the kernel computes from its three operands. -/
def kval (x0 x1 : Vec F S248x256 .f32) (x2 : Vec F S1x256 .f32) : F .f32 :=
  k0_pay2 (hOf (G3 x0 x1 x2)) (acc x0 (hOf (G3 x0 x1 x2)) 31) (T3 x0 x1 x2)

theorem outsAt_eq (t : Fin cfg0.N) : outsAt m c t = fun _ => kval (V m c main_v2) (V m c main_v3) (V m c main_v4) := by
  unfold outsAt
  rw [kernelRun_fst, iblk_0, iblk_1, iblk_2]
  rfl

/-- The kernel's result array after the run. -/
theorem final_v5 : (dats m 0 c).arrAt 3 cfg0.N = fun _ => kval (V m c main_v2) (V m c main_v3) (V m c main_v4) := by
  refine (dats m 0 c).arrAt_eq_of_after_last 3 (⟨0, by decide⟩ : Fin grid0.N) (by decide +kernel) _ fun j => ?_
  exact congrFun ((after0_3 m c _).trans (outsAt_eq m c _)) _

/-- The result buffer after the run. -/
theorem W_v6 : Pipeline.afterTail₀ cfgs (dats m) 0 (V0 m) [hostOps1] c main_v6 = fun _ => kval (V m c main_v2) (V m c main_v3) (V m c main_v4) := by
  have e := (Pipeline.withArrays_arr (cfgs 0).spec (by decide) c (V0 m c) (fun w => (dats m 0 c).arrAt w (cfgs 0).N) 3).trans (final_v5 m c)
  generalize kval (V m c main_v2) (V m c main_v3) (V m c main_v4) = z at e ⊢
  unfold Pipeline.afterTail₀
  generalize Pipeline.withArrays (cfgs 0).spec c (V0 m c) (fun w => (dats m 0 c).arrAt w (cfgs 0).N) = X at e ⊢
  simp only [hostOps1, List.flatten_cons, List.flatten_nil, List.append_nil, List.cons_append, List.nil_append]
  after_reads_simp
  have e' : X (Proc.devRef .tc main_v5) = fun _ => z := e
  rw [e']
  rfl

end Host

/-! ## The operands' entries -/

section Entries
variable (m : (ℓ : Loc nD τ sig) → Buf (Elt Ideal) ℓ) (c : Dev nD)

theorem v2_entry (w : Fin 248) (k : Fin 256) :
    V m c main_v2 (ix2 w k) = ((2 : ℝ) : EReal) * m ((c : Thread nD τ).loc main_arg0) (ix2 ⟨w.val, lt256 w⟩ k) := by
  rw [V_v2]
  pointwise []
  rw [c_two]
theorem v3_entry (u j : Fin 248) : V m c main_v3 (ix2 u (col j)) = m ((c : Thread nD τ).loc main_arg2) (ix2 u j) := by
  rw [V_v3]
  pointwise []
  refine dif_pos fun b => ?_
  have hj := j.isLt
  have hu := u.isLt
  match b with
  | ⟨0, _⟩ => exact ⟨Nat.zero_le _, Nat.mod_one _, by show (u.val - 0) / (0 + 1) < 248; omega⟩
  | ⟨1, _⟩ => exact ⟨by show 8 ≤ 8 + j.val; omega, by show (8 + j.val - 8) % (0 + 1) = 0; omega, by show (8 + j.val - 8) / (0 + 1) < 248; omega⟩
theorem v4_entry (k : Fin 256) : V m c main_v4 (ix2 0 k) = m ((c : Thread nD τ).loc main_arg1) (ix1 k) := by
  rw [V_v4]
  pointwise []

/-- The kernel's value is the loss after three steps, the gradient as the reference writes it. -/
theorem kval_eq (a : Fin 248 → Fin 256 → EReal)
    (ha : ∀ (w : Fin 248) k, a w k = ((2 : ℝ) : EReal) * m ((c : Thread nD τ).loc main_arg0) (ix2 ⟨w.val, lt256 w⟩ k)) :
    kval (V m c main_v2) (V m c main_v3) (V m c main_v4)
      = final (odd a) (fun u j => m ((c : Thread nD τ).loc main_arg2) (ix2 u j)) (fun k => m ((c : Thread nD τ).loc main_arg1) (ix1 k)) a := by
  have e : a = fun w k => V m c main_v2 (ix2 w k) := by
    funext w k
    rw [v2_entry, ha]
  rw [e]
  exact (final_rel _ _ _ _ _ (v3_entry m c) (v4_entry m c)).trans (final_odd (gradOf_ways _))

end Entries

end Cert.Proof.KernelIdeal
-- ==== Proof.RefEntries.lean ====
/-
  `ReferenceIdeal`: the entries of the reference's values over the extended reals.
-/
module

public import proofs.«01_k».proof.Proof.Gen.ReferenceIdeal.Read
public import proofs.«01_k».proof.Proof.Agree
public import Idealize.ShloMosaic.Lib.Pointwise
public import Idealize.ShloMosaic.Lib.WordCmp

@[expose] public section

set_option maxRecDepth 16384

noncomputable section

namespace Cert.Proof.RefValue

open Cert.ReferenceIdeal Cert.ReferenceIdeal.Gen Cert.ReferenceIdeal.Read Cert.Proof.Products Cert.Proof.Math
open Idealize.ShloMosaic Idealize.ShloMosaic.TcCoe

variable (x0 : (⟨S256x256, .f32⟩ : BufTy).Contents (Elt Ideal)) (x1 : (⟨S256, .f32⟩ : BufTy).Contents (Elt Ideal)) (x2 : (⟨S248x248, .f32⟩ : BufTy).Contents (Elt Ideal))

/-! ## The tree of products -/

theorem t32 (u w : Fin 248) (k : Fin 128) : val_main_v32 (F := Ideal) x0 x2 (ix3 u w k)
    = half (m := 128) (fun k : Fin 256 => val_main_v29 (F := Ideal) x0 x2 (ix3 u w k)) k := by

  pointwise [val_main_v32, val_main_v31, val_main_v30]
  rfl
theorem t35 (u w : Fin 248) (k : Fin 64) : val_main_v35 (F := Ideal) x0 x2 (ix3 u w k)
    = half (m := 64) (fun k : Fin 128 => val_main_v32 (F := Ideal) x0 x2 (ix3 u w k)) k := by

  pointwise [val_main_v35, val_main_v34, val_main_v33]
  rfl
theorem t38 (u w : Fin 248) (k : Fin 32) : val_main_v38 (F := Ideal) x0 x2 (ix3 u w k)
    = half (m := 32) (fun k : Fin 64 => val_main_v35 (F := Ideal) x0 x2 (ix3 u w k)) k := by

  pointwise [val_main_v38, val_main_v37, val_main_v36]
  rfl
theorem t41 (u w : Fin 248) (k : Fin 16) : val_main_v41 (F := Ideal) x0 x2 (ix3 u w k)
    = half (m := 16) (fun k : Fin 32 => val_main_v38 (F := Ideal) x0 x2 (ix3 u w k)) k := by

  pointwise [val_main_v41, val_main_v40, val_main_v39]
  rfl
theorem t44 (u w : Fin 248) (k : Fin 8) : val_main_v44 (F := Ideal) x0 x2 (ix3 u w k)
    = half (m := 8) (fun k : Fin 16 => val_main_v41 (F := Ideal) x0 x2 (ix3 u w k)) k := by

  pointwise [val_main_v44, val_main_v43, val_main_v42]
  rfl
theorem t47 (u w : Fin 248) (k : Fin 4) : val_main_v47 (F := Ideal) x0 x2 (ix3 u w k)
    = half (m := 4) (fun k : Fin 8 => val_main_v44 (F := Ideal) x0 x2 (ix3 u w k)) k := by

  pointwise [val_main_v47, val_main_v46, val_main_v45]
  rfl
theorem t50 (u w : Fin 248) (k : Fin 2) : val_main_v50 (F := Ideal) x0 x2 (ix3 u w k)
    = half (m := 2) (fun k : Fin 4 => val_main_v47 (F := Ideal) x0 x2 (ix3 u w k)) k := by

  pointwise [val_main_v50, val_main_v49, val_main_v48]
  rfl
theorem t53 (u w : Fin 248) (k : Fin 1) : val_main_v53 (F := Ideal) x0 x2 (ix3 u w k)
    = half (m := 1) (fun k : Fin 2 => val_main_v50 (F := Ideal) x0 x2 (ix3 u w k)) k := by
  rw [Fin.eq_zero k]
  pointwise [val_main_v53, val_main_v52, val_main_v51]
  generalize val_main_v50 (F := Ideal) x0 x2 = z; rfl

/-- The product of a point's factors. -/
theorem t54 (u w : Fin 248) : val_main_v54 (F := Ideal) x0 x2 (ix2 u w) = ∏ k : Fin 256, val_main_v29 (F := Ideal) x0 x2 (ix3 u w k) := by
  have e : val_main_v54 (F := Ideal) x0 x2 (ix2 u w) = val_main_v53 (F := Ideal) x0 x2 (ix3 u w 0) := by
    pointwise [val_main_v54]
  have c128 : ∏ k : Fin 256, val_main_v29 (F := Ideal) x0 x2 (ix3 u w k) = ∏ k : Fin 128, val_main_v32 (F := Ideal) x0 x2 (ix3 u w k) :=
    (prod_half (m := 128) fun k : Fin 256 => val_main_v29 (F := Ideal) x0 x2 (ix3 u w k)).symm.trans (Finset.prod_congr rfl fun k _ => (t32 x0 x2 u w k).symm)
  have c64 : ∏ k : Fin 128, val_main_v32 (F := Ideal) x0 x2 (ix3 u w k) = ∏ k : Fin 64, val_main_v35 (F := Ideal) x0 x2 (ix3 u w k) :=
    (prod_half (m := 64) fun k : Fin 128 => val_main_v32 (F := Ideal) x0 x2 (ix3 u w k)).symm.trans (Finset.prod_congr rfl fun k _ => (t35 x0 x2 u w k).symm)
  have c32 : ∏ k : Fin 64, val_main_v35 (F := Ideal) x0 x2 (ix3 u w k) = ∏ k : Fin 32, val_main_v38 (F := Ideal) x0 x2 (ix3 u w k) :=
    (prod_half (m := 32) fun k : Fin 64 => val_main_v35 (F := Ideal) x0 x2 (ix3 u w k)).symm.trans (Finset.prod_congr rfl fun k _ => (t38 x0 x2 u w k).symm)
  have c16 : ∏ k : Fin 32, val_main_v38 (F := Ideal) x0 x2 (ix3 u w k) = ∏ k : Fin 16, val_main_v41 (F := Ideal) x0 x2 (ix3 u w k) :=
    (prod_half (m := 16) fun k : Fin 32 => val_main_v38 (F := Ideal) x0 x2 (ix3 u w k)).symm.trans (Finset.prod_congr rfl fun k _ => (t41 x0 x2 u w k).symm)
  have c8 : ∏ k : Fin 16, val_main_v41 (F := Ideal) x0 x2 (ix3 u w k) = ∏ k : Fin 8, val_main_v44 (F := Ideal) x0 x2 (ix3 u w k) :=
    (prod_half (m := 8) fun k : Fin 16 => val_main_v41 (F := Ideal) x0 x2 (ix3 u w k)).symm.trans (Finset.prod_congr rfl fun k _ => (t44 x0 x2 u w k).symm)
  have c4 : ∏ k : Fin 8, val_main_v44 (F := Ideal) x0 x2 (ix3 u w k) = ∏ k : Fin 4, val_main_v47 (F := Ideal) x0 x2 (ix3 u w k) :=
    (prod_half (m := 4) fun k : Fin 8 => val_main_v44 (F := Ideal) x0 x2 (ix3 u w k)).symm.trans (Finset.prod_congr rfl fun k _ => (t47 x0 x2 u w k).symm)
  have c2 : ∏ k : Fin 4, val_main_v47 (F := Ideal) x0 x2 (ix3 u w k) = ∏ k : Fin 2, val_main_v50 (F := Ideal) x0 x2 (ix3 u w k) :=
    (prod_half (m := 2) fun k : Fin 4 => val_main_v47 (F := Ideal) x0 x2 (ix3 u w k)).symm.trans (Finset.prod_congr rfl fun k _ => (t50 x0 x2 u w k).symm)
  have c1 : ∏ k : Fin 2, val_main_v50 (F := Ideal) x0 x2 (ix3 u w k) = ∏ k : Fin 1, val_main_v53 (F := Ideal) x0 x2 (ix3 u w k) :=
    (prod_half (m := 1) fun k : Fin 2 => val_main_v50 (F := Ideal) x0 x2 (ix3 u w k)).symm.trans (Finset.prod_congr rfl fun k _ => (t53 x0 x2 u w k).symm)
  rw [e, c128, c64, c32, c16, c8, c4, c2, c1, Fin.prod_univ_one]

/-! ## The tree of the products of all factors but one -/

theorem b116_lo (u w : Fin 248) (i : Fin 1) : val_main_v116 (F := Ideal) x0 x2 (ix3 u w (Fin.castAdd (n := 1) 1 i))
    = val_main_v111 (F := Ideal) x0 x2 (ix3 u w i) * val_main_v50 (F := Ideal) x0 x2 (ix3 u w (Fin.natAdd (m := 1) 1 i)) := by
  obtain rfl : i = 0 := Fin.eq_zero i

  show val_main_v116 (F := Ideal) x0 x2 (ix3 u w 0) = _ * val_main_v50 (F := Ideal) x0 x2 (ix3 u w 1)
  pointwise [val_main_v116, val_main_v115, val_main_v114, val_main_v113, val_main_v112, val_main_v51, val_main_v52, val_main_cst_34, val_main_cst_35]

theorem b116_hi (u w : Fin 248) (i : Fin 1) : val_main_v116 (F := Ideal) x0 x2 (ix3 u w (Fin.natAdd (m := 1) 1 i))
    = val_main_v50 (F := Ideal) x0 x2 (ix3 u w (Fin.castAdd (n := 1) 1 i)) * val_main_v111 (F := Ideal) x0 x2 (ix3 u w i) := by
  obtain rfl : i = 0 := Fin.eq_zero i

  show val_main_v116 (F := Ideal) x0 x2 (ix3 u w 1) = val_main_v50 (F := Ideal) x0 x2 (ix3 u w 0) * _
  pointwise [val_main_v116, val_main_v115, val_main_v114, val_main_v113, val_main_v112, val_main_v51, val_main_v52, val_main_cst_34, val_main_cst_35]

theorem b121_lo (u w : Fin 248) (i : Fin 2) : val_main_v121 (F := Ideal) x0 x2 (ix3 u w (Fin.castAdd (n := 2) 2 i))
    = val_main_v116 (F := Ideal) x0 x2 (ix3 u w i) * val_main_v47 (F := Ideal) x0 x2 (ix3 u w (Fin.natAdd (m := 2) 2 i)) := by

  have h1 : ¬ (2 ≤ i.val) := by omega
  have h2 : i.val < 2 := i.isLt
  show val_main_v121 (F := Ideal) x0 x2 (ix3 u w ⟨i.val, by omega⟩) = _ * val_main_v47 (F := Ideal) x0 x2 (ix3 u w ⟨2 + i.val, by omega⟩)
  pointwise [val_main_v121, val_main_v120, val_main_v119, val_main_v118, val_main_v117, val_main_v48, val_main_v49, val_main_cst_36, val_main_cst_37]
  try simp [h1, h2]
theorem b121_hi (u w : Fin 248) (i : Fin 2) : val_main_v121 (F := Ideal) x0 x2 (ix3 u w (Fin.natAdd (m := 2) 2 i))
    = val_main_v47 (F := Ideal) x0 x2 (ix3 u w (Fin.castAdd (n := 2) 2 i)) * val_main_v116 (F := Ideal) x0 x2 (ix3 u w i) := by

  have h1 : ¬ (2 + i.val < 2) := by omega
  have h2 : i.val < 2 := i.isLt
  show val_main_v121 (F := Ideal) x0 x2 (ix3 u w ⟨2 + i.val, by omega⟩) = val_main_v47 (F := Ideal) x0 x2 (ix3 u w ⟨i.val, by omega⟩) * _
  pointwise [val_main_v121, val_main_v120, val_main_v119, val_main_v118, val_main_v117, val_main_v48, val_main_v49, val_main_cst_36, val_main_cst_37]
  try simp [h1, h2]
theorem b126_lo (u w : Fin 248) (i : Fin 4) : val_main_v126 (F := Ideal) x0 x2 (ix3 u w (Fin.castAdd (n := 4) 4 i))
    = val_main_v121 (F := Ideal) x0 x2 (ix3 u w i) * val_main_v44 (F := Ideal) x0 x2 (ix3 u w (Fin.natAdd (m := 4) 4 i)) := by

  have h1 : ¬ (4 ≤ i.val) := by omega
  have h2 : i.val < 4 := i.isLt
  show val_main_v126 (F := Ideal) x0 x2 (ix3 u w ⟨i.val, by omega⟩) = _ * val_main_v44 (F := Ideal) x0 x2 (ix3 u w ⟨4 + i.val, by omega⟩)
  pointwise [val_main_v126, val_main_v125, val_main_v124, val_main_v123, val_main_v122, val_main_v45, val_main_v46, val_main_cst_38, val_main_cst_39]
  try simp [h1, h2]
theorem b126_hi (u w : Fin 248) (i : Fin 4) : val_main_v126 (F := Ideal) x0 x2 (ix3 u w (Fin.natAdd (m := 4) 4 i))
    = val_main_v44 (F := Ideal) x0 x2 (ix3 u w (Fin.castAdd (n := 4) 4 i)) * val_main_v121 (F := Ideal) x0 x2 (ix3 u w i) := by

  have h1 : ¬ (4 + i.val < 4) := by omega
  have h2 : i.val < 4 := i.isLt
  show val_main_v126 (F := Ideal) x0 x2 (ix3 u w ⟨4 + i.val, by omega⟩) = val_main_v44 (F := Ideal) x0 x2 (ix3 u w ⟨i.val, by omega⟩) * _
  pointwise [val_main_v126, val_main_v125, val_main_v124, val_main_v123, val_main_v122, val_main_v45, val_main_v46, val_main_cst_38, val_main_cst_39]
  try simp [h1, h2]
theorem b131_lo (u w : Fin 248) (i : Fin 8) : val_main_v131 (F := Ideal) x0 x2 (ix3 u w (Fin.castAdd (n := 8) 8 i))
    = val_main_v126 (F := Ideal) x0 x2 (ix3 u w i) * val_main_v41 (F := Ideal) x0 x2 (ix3 u w (Fin.natAdd (m := 8) 8 i)) := by

  have h1 : ¬ (8 ≤ i.val) := by omega
  have h2 : i.val < 8 := i.isLt
  show val_main_v131 (F := Ideal) x0 x2 (ix3 u w ⟨i.val, by omega⟩) = _ * val_main_v41 (F := Ideal) x0 x2 (ix3 u w ⟨8 + i.val, by omega⟩)
  pointwise [val_main_v131, val_main_v130, val_main_v129, val_main_v128, val_main_v127, val_main_v42, val_main_v43, val_main_cst_40, val_main_cst_41]
  try simp [h1, h2]
theorem b131_hi (u w : Fin 248) (i : Fin 8) : val_main_v131 (F := Ideal) x0 x2 (ix3 u w (Fin.natAdd (m := 8) 8 i))
    = val_main_v41 (F := Ideal) x0 x2 (ix3 u w (Fin.castAdd (n := 8) 8 i)) * val_main_v126 (F := Ideal) x0 x2 (ix3 u w i) := by

  have h1 : ¬ (8 + i.val < 8) := by omega
  have h2 : i.val < 8 := i.isLt
  show val_main_v131 (F := Ideal) x0 x2 (ix3 u w ⟨8 + i.val, by omega⟩) = val_main_v41 (F := Ideal) x0 x2 (ix3 u w ⟨i.val, by omega⟩) * _
  pointwise [val_main_v131, val_main_v130, val_main_v129, val_main_v128, val_main_v127, val_main_v42, val_main_v43, val_main_cst_40, val_main_cst_41]
  try simp [h1, h2]
theorem b136_lo (u w : Fin 248) (i : Fin 16) : val_main_v136 (F := Ideal) x0 x2 (ix3 u w (Fin.castAdd (n := 16) 16 i))
    = val_main_v131 (F := Ideal) x0 x2 (ix3 u w i) * val_main_v38 (F := Ideal) x0 x2 (ix3 u w (Fin.natAdd (m := 16) 16 i)) := by

  have h1 : ¬ (16 ≤ i.val) := by omega
  have h2 : i.val < 16 := i.isLt
  show val_main_v136 (F := Ideal) x0 x2 (ix3 u w ⟨i.val, by omega⟩) = _ * val_main_v38 (F := Ideal) x0 x2 (ix3 u w ⟨16 + i.val, by omega⟩)
  pointwise [val_main_v136, val_main_v135, val_main_v134, val_main_v133, val_main_v132, val_main_v39, val_main_v40, val_main_cst_42, val_main_cst_43]
  try simp [h1, h2]
theorem b136_hi (u w : Fin 248) (i : Fin 16) : val_main_v136 (F := Ideal) x0 x2 (ix3 u w (Fin.natAdd (m := 16) 16 i))
    = val_main_v38 (F := Ideal) x0 x2 (ix3 u w (Fin.castAdd (n := 16) 16 i)) * val_main_v131 (F := Ideal) x0 x2 (ix3 u w i) := by

  have h1 : ¬ (16 + i.val < 16) := by omega
  have h2 : i.val < 16 := i.isLt
  show val_main_v136 (F := Ideal) x0 x2 (ix3 u w ⟨16 + i.val, by omega⟩) = val_main_v38 (F := Ideal) x0 x2 (ix3 u w ⟨i.val, by omega⟩) * _
  pointwise [val_main_v136, val_main_v135, val_main_v134, val_main_v133, val_main_v132, val_main_v39, val_main_v40, val_main_cst_42, val_main_cst_43]
  try simp [h1, h2]
theorem b141_lo (u w : Fin 248) (i : Fin 32) : val_main_v141 (F := Ideal) x0 x2 (ix3 u w (Fin.castAdd (n := 32) 32 i))
    = val_main_v136 (F := Ideal) x0 x2 (ix3 u w i) * val_main_v35 (F := Ideal) x0 x2 (ix3 u w (Fin.natAdd (m := 32) 32 i)) := by

  have h1 : ¬ (32 ≤ i.val) := by omega
  have h2 : i.val < 32 := i.isLt
  show val_main_v141 (F := Ideal) x0 x2 (ix3 u w ⟨i.val, by omega⟩) = _ * val_main_v35 (F := Ideal) x0 x2 (ix3 u w ⟨32 + i.val, by omega⟩)
  pointwise [val_main_v141, val_main_v140, val_main_v139, val_main_v138, val_main_v137, val_main_v36, val_main_v37, val_main_cst_44, val_main_cst_45]
  try simp [h1, h2]
theorem b141_hi (u w : Fin 248) (i : Fin 32) : val_main_v141 (F := Ideal) x0 x2 (ix3 u w (Fin.natAdd (m := 32) 32 i))
    = val_main_v35 (F := Ideal) x0 x2 (ix3 u w (Fin.castAdd (n := 32) 32 i)) * val_main_v136 (F := Ideal) x0 x2 (ix3 u w i) := by

  have h1 : ¬ (32 + i.val < 32) := by omega
  have h2 : i.val < 32 := i.isLt
  show val_main_v141 (F := Ideal) x0 x2 (ix3 u w ⟨32 + i.val, by omega⟩) = val_main_v35 (F := Ideal) x0 x2 (ix3 u w ⟨i.val, by omega⟩) * _
  pointwise [val_main_v141, val_main_v140, val_main_v139, val_main_v138, val_main_v137, val_main_v36, val_main_v37, val_main_cst_44, val_main_cst_45]
  try simp [h1, h2]
theorem b146_lo (u w : Fin 248) (i : Fin 64) : val_main_v146 (F := Ideal) x0 x2 (ix3 u w (Fin.castAdd (n := 64) 64 i))
    = val_main_v141 (F := Ideal) x0 x2 (ix3 u w i) * val_main_v32 (F := Ideal) x0 x2 (ix3 u w (Fin.natAdd (m := 64) 64 i)) := by

  have h1 : ¬ (64 ≤ i.val) := by omega
  have h2 : i.val < 64 := i.isLt
  show val_main_v146 (F := Ideal) x0 x2 (ix3 u w ⟨i.val, by omega⟩) = _ * val_main_v32 (F := Ideal) x0 x2 (ix3 u w ⟨64 + i.val, by omega⟩)
  pointwise [val_main_v146, val_main_v145, val_main_v144, val_main_v143, val_main_v142, val_main_v33, val_main_v34, val_main_cst_46, val_main_cst_47]
  try simp [h1, h2]
theorem b146_hi (u w : Fin 248) (i : Fin 64) : val_main_v146 (F := Ideal) x0 x2 (ix3 u w (Fin.natAdd (m := 64) 64 i))
    = val_main_v32 (F := Ideal) x0 x2 (ix3 u w (Fin.castAdd (n := 64) 64 i)) * val_main_v141 (F := Ideal) x0 x2 (ix3 u w i) := by

  have h1 : ¬ (64 + i.val < 64) := by omega
  have h2 : i.val < 64 := i.isLt
  show val_main_v146 (F := Ideal) x0 x2 (ix3 u w ⟨64 + i.val, by omega⟩) = val_main_v32 (F := Ideal) x0 x2 (ix3 u w ⟨i.val, by omega⟩) * _
  pointwise [val_main_v146, val_main_v145, val_main_v144, val_main_v143, val_main_v142, val_main_v33, val_main_v34, val_main_cst_46, val_main_cst_47]
  try simp [h1, h2]
theorem b151_lo (u w : Fin 248) (i : Fin 128) : val_main_v151 (F := Ideal) x0 x2 (ix3 u w (Fin.castAdd (n := 128) 128 i))
    = val_main_v146 (F := Ideal) x0 x2 (ix3 u w i) * val_main_v29 (F := Ideal) x0 x2 (ix3 u w (Fin.natAdd (m := 128) 128 i)) := by

  have h1 : ¬ (128 ≤ i.val) := by omega
  have h2 : i.val < 128 := i.isLt
  show val_main_v151 (F := Ideal) x0 x2 (ix3 u w ⟨i.val, by omega⟩) = _ * val_main_v29 (F := Ideal) x0 x2 (ix3 u w ⟨128 + i.val, by omega⟩)
  pointwise [val_main_v151, val_main_v150, val_main_v149, val_main_v148, val_main_v147, val_main_v30, val_main_v31, val_main_cst_48, val_main_cst_49]
  try simp [h1, h2]
theorem b151_hi (u w : Fin 248) (i : Fin 128) : val_main_v151 (F := Ideal) x0 x2 (ix3 u w (Fin.natAdd (m := 128) 128 i))
    = val_main_v29 (F := Ideal) x0 x2 (ix3 u w (Fin.castAdd (n := 128) 128 i)) * val_main_v146 (F := Ideal) x0 x2 (ix3 u w i) := by

  have h1 : ¬ (128 + i.val < 128) := by omega
  have h2 : i.val < 128 := i.isLt
  show val_main_v151 (F := Ideal) x0 x2 (ix3 u w ⟨128 + i.val, by omega⟩) = val_main_v29 (F := Ideal) x0 x2 (ix3 u w ⟨i.val, by omega⟩) * _
  pointwise [val_main_v151, val_main_v150, val_main_v149, val_main_v148, val_main_v147, val_main_v30, val_main_v31, val_main_cst_48, val_main_cst_49]
  try simp [h1, h2]

/-- The cotangent of a factor: the point's cotangent times the product of the point's other factors. -/
theorem b151 (u w : Fin 248) (k : Fin 256) : val_main_v151 (F := Ideal) x0 x2 (ix3 u w k)
    = val_main_v111 (F := Ideal) x0 x2 (ix3 u w 0) * others (fun k : Fin 256 => val_main_v29 (F := Ideal) x0 x2 (ix3 u w k)) k := by
  have e116 : ∀ k : Fin 2, val_main_v116 (F := Ideal) x0 x2 (ix3 u w k)
      = val_main_v111 (F := Ideal) x0 x2 (ix3 u w 0) * others (fun k : Fin 2 => val_main_v50 (F := Ideal) x0 x2 (ix3 u w k)) k :=
    others_step (m := 1) (fun k : Fin 2 => val_main_v50 (F := Ideal) x0 x2 (ix3 u w k)) (val_main_v111 (F := Ideal) x0 x2 (ix3 u w 0))
      (fun i => val_main_v111 (F := Ideal) x0 x2 (ix3 u w i)) (fun k : Fin 2 => val_main_v116 (F := Ideal) x0 x2 (ix3 u w k))
      (fun i => by rw [Fin.eq_zero i]; simp [others]) (b116_lo x0 x2 u w) (b116_hi x0 x2 u w)
  have e121 : ∀ k : Fin 4, val_main_v121 (F := Ideal) x0 x2 (ix3 u w k)
      = val_main_v111 (F := Ideal) x0 x2 (ix3 u w 0) * others (fun k : Fin 4 => val_main_v47 (F := Ideal) x0 x2 (ix3 u w k)) k :=
    others_step (m := 2) (fun k : Fin 4 => val_main_v47 (F := Ideal) x0 x2 (ix3 u w k)) (val_main_v111 (F := Ideal) x0 x2 (ix3 u w 0))
      (fun i => val_main_v116 (F := Ideal) x0 x2 (ix3 u w i)) (fun k : Fin 4 => val_main_v121 (F := Ideal) x0 x2 (ix3 u w k))
      (fun i => by rw [e116]; refine congrArg (fun z => _ * others z i) ?_; funext l; exact t50 x0 x2 u w l) (b121_lo x0 x2 u w) (b121_hi x0 x2 u w)
  have e126 : ∀ k : Fin 8, val_main_v126 (F := Ideal) x0 x2 (ix3 u w k)
      = val_main_v111 (F := Ideal) x0 x2 (ix3 u w 0) * others (fun k : Fin 8 => val_main_v44 (F := Ideal) x0 x2 (ix3 u w k)) k :=
    others_step (m := 4) (fun k : Fin 8 => val_main_v44 (F := Ideal) x0 x2 (ix3 u w k)) (val_main_v111 (F := Ideal) x0 x2 (ix3 u w 0))
      (fun i => val_main_v121 (F := Ideal) x0 x2 (ix3 u w i)) (fun k : Fin 8 => val_main_v126 (F := Ideal) x0 x2 (ix3 u w k))
      (fun i => by rw [e121]; refine congrArg (fun z => _ * others z i) ?_; funext l; exact t47 x0 x2 u w l) (b126_lo x0 x2 u w) (b126_hi x0 x2 u w)
  have e131 : ∀ k : Fin 16, val_main_v131 (F := Ideal) x0 x2 (ix3 u w k)
      = val_main_v111 (F := Ideal) x0 x2 (ix3 u w 0) * others (fun k : Fin 16 => val_main_v41 (F := Ideal) x0 x2 (ix3 u w k)) k :=
    others_step (m := 8) (fun k : Fin 16 => val_main_v41 (F := Ideal) x0 x2 (ix3 u w k)) (val_main_v111 (F := Ideal) x0 x2 (ix3 u w 0))
      (fun i => val_main_v126 (F := Ideal) x0 x2 (ix3 u w i)) (fun k : Fin 16 => val_main_v131 (F := Ideal) x0 x2 (ix3 u w k))
      (fun i => by rw [e126]; refine congrArg (fun z => _ * others z i) ?_; funext l; exact t44 x0 x2 u w l) (b131_lo x0 x2 u w) (b131_hi x0 x2 u w)
  have e136 : ∀ k : Fin 32, val_main_v136 (F := Ideal) x0 x2 (ix3 u w k)
      = val_main_v111 (F := Ideal) x0 x2 (ix3 u w 0) * others (fun k : Fin 32 => val_main_v38 (F := Ideal) x0 x2 (ix3 u w k)) k :=
    others_step (m := 16) (fun k : Fin 32 => val_main_v38 (F := Ideal) x0 x2 (ix3 u w k)) (val_main_v111 (F := Ideal) x0 x2 (ix3 u w 0))
      (fun i => val_main_v131 (F := Ideal) x0 x2 (ix3 u w i)) (fun k : Fin 32 => val_main_v136 (F := Ideal) x0 x2 (ix3 u w k))
      (fun i => by rw [e131]; refine congrArg (fun z => _ * others z i) ?_; funext l; exact t41 x0 x2 u w l) (b136_lo x0 x2 u w) (b136_hi x0 x2 u w)
  have e141 : ∀ k : Fin 64, val_main_v141 (F := Ideal) x0 x2 (ix3 u w k)
      = val_main_v111 (F := Ideal) x0 x2 (ix3 u w 0) * others (fun k : Fin 64 => val_main_v35 (F := Ideal) x0 x2 (ix3 u w k)) k :=
    others_step (m := 32) (fun k : Fin 64 => val_main_v35 (F := Ideal) x0 x2 (ix3 u w k)) (val_main_v111 (F := Ideal) x0 x2 (ix3 u w 0))
      (fun i => val_main_v136 (F := Ideal) x0 x2 (ix3 u w i)) (fun k : Fin 64 => val_main_v141 (F := Ideal) x0 x2 (ix3 u w k))
      (fun i => by rw [e136]; refine congrArg (fun z => _ * others z i) ?_; funext l; exact t38 x0 x2 u w l) (b141_lo x0 x2 u w) (b141_hi x0 x2 u w)
  have e146 : ∀ k : Fin 128, val_main_v146 (F := Ideal) x0 x2 (ix3 u w k)
      = val_main_v111 (F := Ideal) x0 x2 (ix3 u w 0) * others (fun k : Fin 128 => val_main_v32 (F := Ideal) x0 x2 (ix3 u w k)) k :=
    others_step (m := 64) (fun k : Fin 128 => val_main_v32 (F := Ideal) x0 x2 (ix3 u w k)) (val_main_v111 (F := Ideal) x0 x2 (ix3 u w 0))
      (fun i => val_main_v141 (F := Ideal) x0 x2 (ix3 u w i)) (fun k : Fin 128 => val_main_v146 (F := Ideal) x0 x2 (ix3 u w k))
      (fun i => by rw [e141]; refine congrArg (fun z => _ * others z i) ?_; funext l; exact t35 x0 x2 u w l) (b146_lo x0 x2 u w) (b146_hi x0 x2 u w)
  have e151 : ∀ k : Fin 256, val_main_v151 (F := Ideal) x0 x2 (ix3 u w k)
      = val_main_v111 (F := Ideal) x0 x2 (ix3 u w 0) * others (fun k : Fin 256 => val_main_v29 (F := Ideal) x0 x2 (ix3 u w k)) k :=
    others_step (m := 128) (fun k : Fin 256 => val_main_v29 (F := Ideal) x0 x2 (ix3 u w k)) (val_main_v111 (F := Ideal) x0 x2 (ix3 u w 0))
      (fun i => val_main_v146 (F := Ideal) x0 x2 (ix3 u w i)) (fun k : Fin 256 => val_main_v151 (F := Ideal) x0 x2 (ix3 u w k))
      (fun i => by rw [e146]; refine congrArg (fun z => _ * others z i) ?_; funext l; exact t32 x0 x2 u w l) (b151_lo x0 x2 u w) (b151_hi x0 x2 u w)
  exact e151 k

/-! ## The gradient of the data part -/

/-- A membership as a real number: none in the first eight columns. -/
def hRow (u : Fin 248) (k : Fin 256) : ℝ := hrow (fun u j => x2 (ix2 u j)) u k

theorem v9_apply (u j : Fin 248) : val_main_v9 (F := Ideal) x2 (ix2 u j) = Ideal.logistic (x2 (ix2 u j)) := by
  pointwise [val_main_v9, val_main_v8, val_main_v7, val_main_v6, val_main_v5, val_main_v4, val_main_cst_3, val_main_cst_4]
  rfl

theorem v21_apply (u : Fin 248) (k : Fin 256) : val_main_v21 (F := Ideal) x2 (ix2 u k) = ((hRow x2 u k : ℝ) : EReal) := by
  pointwise [val_main_v21, val_main_v17, val_main_v14, val_main_v13, val_main_cst_6]
  unfold hRow hrow
  by_cases h : k.val < 8
  · rw [dif_pos h, dif_neg (by omega), EReal.coe_zero]
  · rw [dif_neg h, dif_pos (by omega), v9_apply, coe_sig]

theorem v29_apply (a : Fin 248 → Fin 256 → EReal) (ha : ∀ (w : Fin 248) k, a w k = ((2 : ℝ) : EReal) * x0 (ix2 ⟨w.val, lt256 w⟩ k)) (u w : Fin 248) (k : Fin 256) :
    val_main_v29 (F := Ideal) x0 x2 (ix3 u w k) = fac a (fun u j => x2 (ix2 u j)) u w k := by
  have e : val_main_v29 (F := Ideal) x0 x2 (ix3 u w k)
      = 1 - Ideal.ofBits .f32 1073741824#32 * x0 (ix2 ⟨w.val, by omega⟩ k) * val_main_v21 (F := Ideal) x2 (ix2 u k) := by
    pointwise [val_main_v29, val_main_v28, val_main_v27, val_main_v26, val_main_v25, val_main_v24, val_main_v23, val_main_v22, val_main_v20, val_main_v19, val_main_cst_11, val_main_cst_10]
  rw [e, v21_apply, c_two]
  unfold fac
  rw [ha]
  rfl

theorem v65_apply (a : Fin 248 → Fin 256 → EReal) (ha : ∀ (w : Fin 248) k, a w k = ((2 : ℝ) : EReal) * x0 (ix2 ⟨w.val, lt256 w⟩ k)) (u w : Fin 248) :
    val_main_v65 (F := Ideal) x0 x2 (ix2 u w) = (∏ k, fac a (fun u j => x2 (ix2 u j)) u w k) - ((sgn u w : ℝ) : EReal) := by
  have e2 : (∏ k, fac a (fun u j => x2 (ix2 u j)) u w k) = val_main_v54 (F := Ideal) x0 x2 (ix2 u w) := by
    rw [t54]
    exact Finset.prod_congr rfl fun k _ => (v29_apply x0 x2 a ha u w k).symm
  rw [e2]
  pointwise [val_main_v65, val_main_v64, val_main_v63, val_main_v62, val_main_v61, val_main_v60, val_main_v59, val_main_v58, val_main_v57, val_main_v56, val_main_v55, val_main_c, val_main_cst_12, val_main_cst_13]
  refine congrArg (fun z : EReal => val_main_v54 (F := Ideal) x0 x2 (ix2 u w) - z) ?_
  have e : IntOp.addi (BitVec.ofNat 32 u.val) 0#32 = BitVec.ofNat 32 u.val := by simp [IntOp.addi]
  have e3 : (BitVec.ofNat 32 u.val = BitVec.ofNat 32 w.val) ↔ u.val = w.val := WordCmp.ofNat_eq_ofNat_iff (by omega) (by omega)
  rw [e, WordCmp.cmpi_eq_eq, c_two]
  simp only [e3]
  unfold sgn
  show 1 - ((2 : ℝ) : EReal) * (((BitVec.ofBool (decide (u.val = w.val))).toNat : ℝ) : EReal) = _
  by_cases h : u = w
  · subst h
    simp only [decide_true, BitVec.ofBool_true, if_true]
    rw [← EReal.coe_mul, ← EReal.coe_one, ← EReal.coe_sub]
    congr 1
    show (1 - 2 * ((1 : ℕ) : ℝ) : ℝ) = -1
    norm_num
  · have h' : u.val ≠ w.val := fun e => h (Fin.ext e)
    simp [h, h']

theorem v111_apply (u w : Fin 248) : val_main_v111 (F := Ideal) x0 x2 (ix3 u w 0)
    = ((1 / 992 : ℝ) : EReal) * (((2 : ℝ) : EReal) * val_main_v65 (F := Ideal) x0 x2 (ix2 u w)) := by
  have e : val_main_v111 (F := Ideal) x0 x2 (ix3 u w 0)
      = Ideal.div 1 (Ideal.ofBits .f32 1148715008#32) * (Ideal.ofBits .f32 1073741824#32 * val_main_v65 (F := Ideal) x0 x2 (ix2 u w)) := by
    pointwise [val_main_v111, val_main_v110, val_main_v109, val_main_v108, val_main_v68, val_main_v67, val_main_cst_14, val_main_cst_32, val_main_cst_33]
  rw [e, c_992, c_two, Ideal.div_coe (by norm_num), one_mul]

theorem v94_apply (u : Fin 248) (k : Fin 256) : val_main_v94 (F := Ideal) x1 (ix2 u k)
    = ((1 / 63488 : ℝ) : EReal) * (val_main_v80 (F := Ideal) x1 (ix2 u k) * val_main_v80 (F := Ideal) x1 (ix2 u k)) := by
  have e : val_main_v94 (F := Ideal) x1 (ix2 u k)
      = Ideal.div 1 (Ideal.ofBits .f32 1199046656#32) * (val_main_v80 (F := Ideal) x1 (ix2 u k) * val_main_v80 (F := Ideal) x1 (ix2 u k)) := by
    pointwise [val_main_v94, val_main_v92, val_main_v91, val_main_cst_23, val_main_cst_24, val_main_v84]
  rw [e, c_63488, Ideal.div_coe (by norm_num), one_mul]

theorem v80_apply (u : Fin 248) (k : Fin 256) : val_main_v80 (F := Ideal) x1 (ix2 u k)
    = max (x1 (ix1 ⟨u.val, by omega⟩) - x1 (ix1 k) + Ideal.ofBits .f32 1036831949#32) 0 := by
  pointwise [val_main_v80, val_main_v79, val_main_v78, val_main_v77, val_main_v76, val_main_v75, val_main_v74, val_main_v73, val_main_v72, val_main_cst_17, val_main_call0_v0, val_main_call0_cst]

theorem v79_apply (u : Fin 248) (k : Fin 256) : val_main_v79 (F := Ideal) x1 (ix2 u k)
    = x1 (ix1 ⟨u.val, by omega⟩) - x1 (ix1 k) + Ideal.ofBits .f32 1036831949#32 := by
  pointwise [val_main_v79, val_main_v78, val_main_v77, val_main_v76, val_main_v75, val_main_v74, val_main_v73, val_main_v72, val_main_cst_17]

theorem v164_apply (a : Fin 248 → Fin 256 → EReal) (ha : ∀ (w : Fin 248) k, a w k = ((2 : ℝ) : EReal) * x0 (ix2 ⟨w.val, lt256 w⟩ k)) (u j : Fin 248) :
    val_main_v164 (F := Ideal) x0 x1 x2 (ix2 u j)
      = (odd a (fun u j => x2 (ix2 u j)) u ⟨8 + j.val, by omega⟩
          + val_main_v80 (F := Ideal) x1 (ix2 u ⟨8 + j.val, by omega⟩) * val_main_v80 (F := Ideal) x1 (ix2 u ⟨8 + j.val, by omega⟩) * ((1 / 63488 : ℝ) : EReal))
        * (((hRow x2 u ⟨8 + j.val, by omega⟩ : ℝ) : EReal) * (1 - ((hRow x2 u ⟨8 + j.val, by omega⟩ : ℝ) : EReal))) := by
  have hj : 8 + j.val < 256 := by omega
  have e12 : val_main_v12 (F := Ideal) x2 (ix2 u j) = ((hRow x2 u ⟨8 + j.val, by omega⟩ : ℝ) : EReal) * (1 - ((hRow x2 u ⟨8 + j.val, by omega⟩ : ℝ) : EReal)) := by
    have e : ((hRow x2 u ⟨8 + j.val, by omega⟩ : ℝ) : EReal) = val_main_v9 (F := Ideal) x2 (ix2 u j) := by
      rw [v9_apply, ← coe_sig]
      unfold hRow hrow
      rw [dif_pos (by show 8 ≤ 8 + j.val; omega)]
      exact congrArg (fun z => ((sig (x2 (ix2 u z)) : ℝ) : EReal)) (Fin.ext (show 8 + j.val - 8 = j.val by omega))
    rw [e]
    pointwise [val_main_v12, val_main_v11, val_main_v10, val_main_cst_5]
  have e163 : val_main_v163 (F := Ideal) x0 x1 x2 (ix2 u j) = val_main_v94 (F := Ideal) x1 (ix2 u ⟨8 + j.val, hj⟩)
      + ∑ w : Fin 248, Ideal.ofBits .f32 1073741824#32 * x0 (ix2 ⟨w.val, by omega⟩ ⟨8 + j.val, hj⟩) * -val_main_v151 (F := Ideal) x0 x2 (ix3 u w ⟨8 + j.val, hj⟩) := by
    pointwise [val_main_v163, val_main_v160, val_main_v159, val_main_v158, val_main_v157, val_main_v156, val_main_v155, val_main_v154, val_main_v153, val_main_v152, val_main_v107, val_main_cst_50, val_main_cst_51, val_main_cst_52, val_main_cst_31, val_main_v24, val_main_v23, val_main_v20, val_main_v19, val_main_cst_10]
    simp [hj]
  have eodd : ∑ w : Fin 248, Ideal.ofBits .f32 1073741824#32 * x0 (ix2 ⟨w.val, by omega⟩ ⟨8 + j.val, hj⟩) * -val_main_v151 (F := Ideal) x0 x2 (ix3 u w ⟨8 + j.val, hj⟩)
      = odd a (fun u j => x2 (ix2 u j)) u ⟨8 + j.val, by omega⟩ := by
    unfold odd
    refine Finset.sum_congr rfl fun w _ => ?_
    have eo : (fun k : Fin 256 => val_main_v29 (F := Ideal) x0 x2 (ix3 u w k)) = fac a (fun u j => x2 (ix2 u j)) u w :=
      funext fun k => v29_apply x0 x2 a ha u w k
    rw [b151, v111_apply, v65_apply x0 x2 a ha, eo, c_two, ha]
    rfl
  show val_main_v163 (F := Ideal) x0 x1 x2 (ix2 u j) * val_main_v12 (F := Ideal) x2 (ix2 u j) = _
  rw [e163, e12, eodd, v94_apply, add_comm, mul_comm ((1 / 63488 : ℝ) : EReal)]

/-! ## The gradient of the ordering part -/

theorem v97_apply (u : Fin 248) (k : Fin 256) : val_main_v97 (F := Ideal) x1 x2 (ix2 u k)
    = ((hRow x2 u k : ℝ) : EReal) * (((2 : ℝ) : EReal) * val_main_v80 (F := Ideal) x1 (ix2 u k)) * ((1 / 63488 : ℝ) : EReal) := by
  have e : val_main_v97 (F := Ideal) x1 x2 (ix2 u k) = if 0 < val_main_v79 (F := Ideal) x1 (ix2 u k) then
      val_main_v21 (F := Ideal) x2 (ix2 u k) * Ideal.div 1 (Ideal.ofBits .f32 1199046656#32) * (Ideal.ofBits .f32 1073741824#32 * val_main_v80 (F := Ideal) x1 (ix2 u k)) else 0 := by
    pointwise [val_main_v97, val_main_v96, val_main_v95, val_main_v93, val_main_v92, val_main_v91, val_main_v86, val_main_v85, val_main_v82, val_main_v81, val_main_cst_18, val_main_cst_20, val_main_cst_25, val_main_v71, val_main_v21, val_main_cst_23, val_main_cst_24]
  rw [e, c_two, c_63488, Ideal.div_coe (by norm_num), one_mul, v21_apply]
  split
  · rw [mul_right_comm]
  · rename_i h
    have e0 : val_main_v80 (F := Ideal) x1 (ix2 u k) = 0 := by
      rw [v79_apply] at h
      rw [v80_apply]
      exact max_eq_right (not_lt.mp h)
    rw [e0]
    simp

theorem hRow_nonneg (u : Fin 248) (k : Fin 256) : (0 : EReal) ≤ ((hRow x2 u k : ℝ) : EReal) := by
  unfold hRow hrow
  split
  · rw [coe_sig]; exact sig_nonneg _
  · simp

theorem v80_nonneg (u : Fin 248) (k : Fin 256) : 0 ≤ val_main_v80 (F := Ideal) x1 (ix2 u k) := by
  rw [v80_apply]; exact le_max_right _ _

theorem v106_apply (k : Fin 256) : val_main_v106 (F := Ideal) x1 x2 (ix1 k)
    = ((if hk : k.val < 248 then ∑ x : Fin 256, ((hRow x2 ⟨k.val, hk⟩ x : ℝ) : EReal) * (((2 : ℝ) : EReal) * val_main_v80 (F := Ideal) x1 (ix2 ⟨k.val, hk⟩ x)) else 0)
          - ∑ u : Fin 248, ((hRow x2 u k : ℝ) : EReal) * (((2 : ℝ) : EReal) * val_main_v80 (F := Ideal) x1 (ix2 u k))) * ((1 / 63488 : ℝ) : EReal) := by
  have e : val_main_v106 (F := Ideal) x1 x2 (ix1 k) = (∑ u : Fin 248, -val_main_v97 (F := Ideal) x1 x2 (ix2 u k))
      + if hk : k.val < 248 then ∑ x : Fin 256, val_main_v97 (F := Ideal) x1 x2 (ix2 ⟨k.val, hk⟩ x) else 0 := by
    pointwise [val_main_v106, val_main_v105, val_main_v104, val_main_v103, val_main_v102, val_main_v101, val_main_v100, val_main_v99, val_main_v98, val_main_cst_26, val_main_cst_27, val_main_cst_28, val_main_cst_29, val_main_cst_30]
    simp
  have h2 : (0 : EReal) ≤ ((2 : ℝ) : EReal) := by exact_mod_cast (by norm_num : (0 : ℝ) ≤ 2)
  have hc : (0 : EReal) ≤ ((1 / 63488 : ℝ) : EReal) := by exact_mod_cast (by norm_num : (0 : ℝ) ≤ 1 / 63488)
  rw [e, scale_sub _ _ _ (by norm_num), sum_neg _ _ fun u _ => ?_]
  · simp only [v97_apply]
    rw [sum_mul _ _ _ (by norm_num)]
    refine congrArg (fun z : EReal => -((∑ i, ((hRow x2 i k : ℝ) : EReal) * (((2 : ℝ) : EReal) * val_main_v80 (F := Ideal) x1 (ix2 i k))) * ((1 / 63488 : ℝ) : EReal)) + z) ?_
    split
    · rw [sum_mul _ _ _ (by norm_num)]
    · rw [zero_mul]
  · rw [v97_apply]
    exact mul_nonneg (mul_nonneg (hRow_nonneg x2 u k) (mul_nonneg h2 (v80_nonneg x1 u k))) hc

/-! ## The steps -/

section Neutral

theorem v164_gl (a : Fin 248 → Fin 256 → EReal) (ha : ∀ (w : Fin 248) k, a w k = ((2 : ℝ) : EReal) * x0 (ix2 ⟨w.val, lt256 w⟩ k)) (u j : Fin 248) :
    val_main_v164 (F := Ideal) x0 x1 x2 (ix2 u j) = gl (odd a) (fun u j => x2 (ix2 u j)) (fun k => x1 (ix1 k)) u j := by
  rw [v164_apply x0 x1 x2 a ha, v80_apply]
  rfl

theorem v106_gtau (k : Fin 256) :
    val_main_v106 (F := Ideal) x1 x2 (ix1 k) = gtau (fun u j => x2 (ix2 u j)) (fun k => x1 (ix1 k)) k := by
  rw [v106_apply]
  simp only [v80_apply]
  rfl

theorem step2 : val_main_v369 (F := Ideal) x0 x1 x2 = val_main_v164 x0 (val_main_v208 x1 x2) (val_main_v201 x0 x1 x2) := rfl
theorem step2t : val_main_v311 (F := Ideal) x0 x1 x2 = val_main_v106 (val_main_v208 x1 x2) (val_main_v201 x0 x1 x2) := rfl
theorem step3 : val_main_v574 (F := Ideal) x0 x1 x2 = val_main_v164 x0 (val_main_v413 x0 x1 x2) (val_main_v406 x0 x1 x2) := rfl
theorem step3t : val_main_v516 (F := Ideal) x0 x1 x2 = val_main_v106 (val_main_v413 x0 x1 x2) (val_main_v406 x0 x1 x2) := rfl
theorem last65 : val_main_v675 (F := Ideal) x0 x1 x2 = val_main_v65 x0 (val_main_v611 x0 x1 x2) := rfl
theorem last80 : val_main_v688 (F := Ideal) x0 x1 x2 = val_main_v80 (val_main_v618 x0 x1 x2) := rfl
theorem last21 : val_main_v679 (F := Ideal) x0 x1 x2 = val_main_v21 (val_main_v611 x0 x1 x2) := rfl

end Neutral

end Cert.Proof.RefValue
-- ==== Proof.RefSteps.lean ====
/-
  `ReferenceIdeal`: the reference's three steps and its loss, entry by entry.
-/
module

public import proofs.«01_k».proof.Proof.RefEntries

@[expose] public section

set_option maxRecDepth 16384

noncomputable section

namespace Cert.Proof.RefValue

open Cert.ReferenceIdeal Cert.ReferenceIdeal.Gen Cert.ReferenceIdeal.Read Cert.Proof.Products Cert.Proof.Math
open Idealize.ShloMosaic Idealize.ShloMosaic.TcCoe

variable (x0 : (⟨S256x256, .f32⟩ : BufTy).Contents (Elt Ideal)) (x1 : (⟨S256, .f32⟩ : BufTy).Contents (Elt Ideal))
  (x2 : (⟨S248x248, .f32⟩ : BufTy).Contents (Elt Ideal))

/-! ## The updates -/

theorem v169_upd (u j : Fin 248) : val_main_v169 (F := Ideal) x0 x1 x2 (ix2 u j) = mo (Ideal.ofBits .f32 0#32) (val_main_v164 (F := Ideal) x0 x1 x2 (ix2 u j)) := rfl
theorem v180_upd (u j : Fin 248) : val_main_v180 (F := Ideal) x0 x1 x2 (ix2 u j) = vo (Ideal.ofBits .f32 0#32) (val_main_v164 (F := Ideal) x0 x1 x2 (ix2 u j)) := rfl
theorem v201_upd (u j : Fin 248) : val_main_v201 (F := Ideal) x0 x1 x2 (ix2 u j)
    = upd 0x3DCCCCCD#32 0x3A83126F#32 (x2 (ix2 u j)) (val_main_v169 (F := Ideal) x0 x1 x2 (ix2 u j)) (val_main_v180 (F := Ideal) x0 x1 x2 (ix2 u j)) := rfl
theorem v174_upd (k : Fin 256) : val_main_v174 (F := Ideal) x1 x2 (ix1 k) = mo (Ideal.ofBits .f32 0#32) (val_main_v106 (F := Ideal) x1 x2 (ix1 k)) := rfl
theorem v186_upd (k : Fin 256) : val_main_v186 (F := Ideal) x1 x2 (ix1 k) = vo (Ideal.ofBits .f32 0#32) (val_main_v106 (F := Ideal) x1 x2 (ix1 k)) := rfl
theorem v208_upd (k : Fin 256) : val_main_v208 (F := Ideal) x1 x2 (ix1 k)
    = upd 0x3DCCCCCD#32 0x3A83126F#32 (x1 (ix1 k)) (val_main_v174 (F := Ideal) x1 x2 (ix1 k)) (val_main_v186 (F := Ideal) x1 x2 (ix1 k)) := rfl

theorem v374_upd (u j : Fin 248) : val_main_v374 (F := Ideal) x0 x1 x2 (ix2 u j) = mo (val_main_v169 (F := Ideal) x0 x1 x2 (ix2 u j)) (val_main_v369 (F := Ideal) x0 x1 x2 (ix2 u j)) := rfl
theorem v385_upd (u j : Fin 248) : val_main_v385 (F := Ideal) x0 x1 x2 (ix2 u j) = vo (val_main_v180 (F := Ideal) x0 x1 x2 (ix2 u j)) (val_main_v369 (F := Ideal) x0 x1 x2 (ix2 u j)) := rfl
theorem v406_upd (u j : Fin 248) : val_main_v406 (F := Ideal) x0 x1 x2 (ix2 u j)
    = upd 0x3E428F5C#32 0x3B0301A8#32 (val_main_v201 (F := Ideal) x0 x1 x2 (ix2 u j)) (val_main_v374 (F := Ideal) x0 x1 x2 (ix2 u j)) (val_main_v385 (F := Ideal) x0 x1 x2 (ix2 u j)) := rfl
theorem v379_upd (k : Fin 256) : val_main_v379 (F := Ideal) x0 x1 x2 (ix1 k) = mo (val_main_v174 (F := Ideal) x1 x2 (ix1 k)) (val_main_v311 (F := Ideal) x0 x1 x2 (ix1 k)) := rfl
theorem v391_upd (k : Fin 256) : val_main_v391 (F := Ideal) x0 x1 x2 (ix1 k) = vo (val_main_v186 (F := Ideal) x1 x2 (ix1 k)) (val_main_v311 (F := Ideal) x0 x1 x2 (ix1 k)) := rfl
theorem v413_upd (k : Fin 256) : val_main_v413 (F := Ideal) x0 x1 x2 (ix1 k)
    = upd 0x3E428F5C#32 0x3B0301A8#32 (val_main_v208 (F := Ideal) x1 x2 (ix1 k)) (val_main_v379 (F := Ideal) x0 x1 x2 (ix1 k)) (val_main_v391 (F := Ideal) x0 x1 x2 (ix1 k)) := rfl

theorem v611_upd (u j : Fin 248) : val_main_v611 (F := Ideal) x0 x1 x2 (ix2 u j)
    = upd 0x3E8AC083#32 0x3B446955#32 (val_main_v406 (F := Ideal) x0 x1 x2 (ix2 u j))
        (mo (val_main_v374 (F := Ideal) x0 x1 x2 (ix2 u j)) (val_main_v574 (F := Ideal) x0 x1 x2 (ix2 u j)))
        (vo (val_main_v385 (F := Ideal) x0 x1 x2 (ix2 u j)) (val_main_v574 (F := Ideal) x0 x1 x2 (ix2 u j))) := rfl
theorem v618_upd (k : Fin 256) : val_main_v618 (F := Ideal) x0 x1 x2 (ix1 k)
    = upd 0x3E8AC083#32 0x3B446955#32 (val_main_v413 (F := Ideal) x0 x1 x2 (ix1 k))
        (mo (val_main_v379 (F := Ideal) x0 x1 x2 (ix1 k)) (val_main_v516 (F := Ideal) x0 x1 x2 (ix1 k)))
        (vo (val_main_v391 (F := Ideal) x0 x1 x2 (ix1 k)) (val_main_v516 (F := Ideal) x0 x1 x2 (ix1 k))) := rfl

/-! ## Three steps -/

section Steps
variable (a : Fin 248 → Fin 256 → EReal) (ha : ∀ (w : Fin 248) k, a w k = ((2 : ℝ) : EReal) * x0 (ix2 ⟨w.val, lt256 w⟩ k))

theorem mt1_ref (k : Fin 256) : val_main_v174 (F := Ideal) x1 x2 (ix1 k) = mt1 (fun u j => x2 (ix2 u j)) (fun k => x1 (ix1 k)) k := by
  rw [v174_upd, v106_gtau]; rfl
theorem vt1_ref (k : Fin 256) : val_main_v186 (F := Ideal) x1 x2 (ix1 k) = vt1 (fun u j => x2 (ix2 u j)) (fun k => x1 (ix1 k)) k := by
  rw [v186_upd, v106_gtau]; rfl
theorem t1_ref (k : Fin 256) : val_main_v208 (F := Ideal) x1 x2 (ix1 k) = t1 (fun u j => x2 (ix2 u j)) (fun k => x1 (ix1 k)) k := by
  rw [v208_upd, mt1_ref, vt1_ref]; rfl

include ha

theorem m1_ref (u j : Fin 248) : val_main_v169 (F := Ideal) x0 x1 x2 (ix2 u j) = m1 (odd a) (fun u j => x2 (ix2 u j)) (fun k => x1 (ix1 k)) u j := by
  rw [v169_upd, v164_gl x0 x1 x2 a ha]; rfl
theorem v1_ref (u j : Fin 248) : val_main_v180 (F := Ideal) x0 x1 x2 (ix2 u j) = v1 (odd a) (fun u j => x2 (ix2 u j)) (fun k => x1 (ix1 k)) u j := by
  rw [v180_upd, v164_gl x0 x1 x2 a ha]; rfl
theorem g1_ref (u j : Fin 248) : val_main_v201 (F := Ideal) x0 x1 x2 (ix2 u j) = g1 (odd a) (fun u j => x2 (ix2 u j)) (fun k => x1 (ix1 k)) u j := by
  rw [v201_upd, m1_ref x0 x1 x2 a ha, v1_ref x0 x1 x2 a ha]; rfl

theorem gl2_ref (u j : Fin 248) : val_main_v369 (F := Ideal) x0 x1 x2 (ix2 u j) = gl (odd a) (g1 (odd a) (fun u j => x2 (ix2 u j)) (fun k => x1 (ix1 k))) (t1 (fun u j => x2 (ix2 u j)) (fun k => x1 (ix1 k))) u j := by
  rw [step2, v164_gl _ _ _ a ha]
  simp only [g1_ref x0 x1 x2 a ha, t1_ref]
theorem gtau2_ref (k : Fin 256) : val_main_v311 (F := Ideal) x0 x1 x2 (ix1 k) = gtau (g1 (odd a) (fun u j => x2 (ix2 u j)) (fun k => x1 (ix1 k))) (t1 (fun u j => x2 (ix2 u j)) (fun k => x1 (ix1 k))) k := by
  rw [step2t, v106_gtau]
  simp only [g1_ref x0 x1 x2 a ha, t1_ref]
theorem m2_ref (u j : Fin 248) : val_main_v374 (F := Ideal) x0 x1 x2 (ix2 u j) = m2 (odd a) (fun u j => x2 (ix2 u j)) (fun k => x1 (ix1 k)) u j := by
  rw [v374_upd, m1_ref x0 x1 x2 a ha, gl2_ref x0 x1 x2 a ha]; rfl
theorem v2_ref (u j : Fin 248) : val_main_v385 (F := Ideal) x0 x1 x2 (ix2 u j) = v2 (odd a) (fun u j => x2 (ix2 u j)) (fun k => x1 (ix1 k)) u j := by
  rw [v385_upd, v1_ref x0 x1 x2 a ha, gl2_ref x0 x1 x2 a ha]; rfl
theorem g2_ref (u j : Fin 248) : val_main_v406 (F := Ideal) x0 x1 x2 (ix2 u j) = g2 (odd a) (fun u j => x2 (ix2 u j)) (fun k => x1 (ix1 k)) u j := by
  rw [v406_upd, g1_ref x0 x1 x2 a ha, m2_ref x0 x1 x2 a ha, v2_ref x0 x1 x2 a ha]; rfl
theorem mt2_ref (k : Fin 256) : val_main_v379 (F := Ideal) x0 x1 x2 (ix1 k) = mt2 (odd a) (fun u j => x2 (ix2 u j)) (fun k => x1 (ix1 k)) k := by
  rw [v379_upd, mt1_ref, gtau2_ref x0 x1 x2 a ha]; rfl
theorem vt2_ref (k : Fin 256) : val_main_v391 (F := Ideal) x0 x1 x2 (ix1 k) = vt2 (odd a) (fun u j => x2 (ix2 u j)) (fun k => x1 (ix1 k)) k := by
  rw [v391_upd, vt1_ref, gtau2_ref x0 x1 x2 a ha]; rfl
theorem t2_ref (k : Fin 256) : val_main_v413 (F := Ideal) x0 x1 x2 (ix1 k) = t2 (odd a) (fun u j => x2 (ix2 u j)) (fun k => x1 (ix1 k)) k := by
  rw [v413_upd, t1_ref, mt2_ref x0 x1 x2 a ha, vt2_ref x0 x1 x2 a ha]; rfl

theorem gl3_ref (u j : Fin 248) : val_main_v574 (F := Ideal) x0 x1 x2 (ix2 u j) = gl (odd a) (g2 (odd a) (fun u j => x2 (ix2 u j)) (fun k => x1 (ix1 k))) (t2 (odd a) (fun u j => x2 (ix2 u j)) (fun k => x1 (ix1 k))) u j := by
  rw [step3, v164_gl _ _ _ a ha]
  simp only [g2_ref x0 x1 x2 a ha, t2_ref x0 x1 x2 a ha]
theorem gtau3_ref (k : Fin 256) : val_main_v516 (F := Ideal) x0 x1 x2 (ix1 k) = gtau (g2 (odd a) (fun u j => x2 (ix2 u j)) (fun k => x1 (ix1 k))) (t2 (odd a) (fun u j => x2 (ix2 u j)) (fun k => x1 (ix1 k))) k := by
  rw [step3t, v106_gtau]
  simp only [g2_ref x0 x1 x2 a ha, t2_ref x0 x1 x2 a ha]
theorem g3_ref (u j : Fin 248) : val_main_v611 (F := Ideal) x0 x1 x2 (ix2 u j) = g3 (odd a) (fun u j => x2 (ix2 u j)) (fun k => x1 (ix1 k)) u j := by
  rw [v611_upd, g2_ref x0 x1 x2 a ha, m2_ref x0 x1 x2 a ha, v2_ref x0 x1 x2 a ha, gl3_ref x0 x1 x2 a ha]; rfl
theorem t3_ref (k : Fin 256) : val_main_v618 (F := Ideal) x0 x1 x2 (ix1 k) = t3 (odd a) (fun u j => x2 (ix2 u j)) (fun k => x1 (ix1 k)) k := by
  rw [v618_upd, t2_ref x0 x1 x2 a ha, mt2_ref x0 x1 x2 a ha, vt2_ref x0 x1 x2 a ha, gtau3_ref x0 x1 x2 a ha]; rfl

/-- The data part's sum of squares. -/
theorem v677_apply : val_main_v677 (F := Ideal) x0 x1 x2 (fun i => i.elim0)
    = ∑ u : Fin 248, ∑ w : Fin 248, dsq (fac a (g3 (odd a) (fun u j => x2 (ix2 u j)) (fun k => x1 (ix1 k))) u w) (sgn u w) := by
  have e : val_main_v677 (F := Ideal) x0 x1 x2 (fun i => i.elim0)
      = ∑ u : Fin 248, ∑ w : Fin 248, val_main_v675 (F := Ideal) x0 x1 x2 (ix2 u w) * val_main_v675 (F := Ideal) x0 x1 x2 (ix2 u w) := by
    pointwise [val_main_v677, val_main_v676, val_main_cst_212]
  rw [e, last65]
  refine Finset.sum_congr rfl fun u _ => ?_
  refine Finset.sum_congr rfl fun w _ => ?_
  rw [v65_apply x0 _ a ha]
  unfold dsq
  simp only [g3_ref x0 x1 x2 a ha]

/-- The reference's loss is the loss after three steps. -/
theorem final_ref : val_main_v693 (F := Ideal) x0 x1 x2 (fun i => i.elim0) = final (odd a) (fun u j => x2 (ix2 u j)) (fun k => x1 (ix1 k)) a := by
  have e : val_main_v693 (F := Ideal) x0 x1 x2 (fun i => i.elim0)
      = Ideal.div (val_main_v677 (F := Ideal) x0 x1 x2 (fun i => i.elim0)) (Ideal.ofBits .f32 0x44780000#32)
        + Ideal.div (∑ u : Fin 248, ∑ k : Fin 256, val_main_v679 (F := Ideal) x0 x1 x2 (ix2 u k)
            * (val_main_v688 (F := Ideal) x0 x1 x2 (ix2 u k) * val_main_v688 (F := Ideal) x0 x1 x2 (ix2 u k))) (Ideal.ofBits .f32 0x47780000#32) := by
    pointwise [val_main_v693, val_main_v692, val_main_v691, val_main_v690, val_main_v689, val_main_v678, val_main_cst_213, val_main_cst_216, val_main_cst_215]
  rw [e, v677_apply x0 x1 x2 a ha, last21, last80, c_992, c_63488, Ideal.div_coe (by norm_num : (63488 : ℝ) ≠ 0)]
  simp only [v21_apply, v80_apply, hRow, g3_ref x0 x1 x2 a ha, t3_ref x0 x1 x2 a ha]
  rfl

end Steps

end Cert.Proof.RefValue
-- ==== Proof.Algebraic.lean ====
/-
  The value claim: over the extended reals the kernel and the reference end with the same loss, whatever the arguments.
-/
module

public import proofs.«01_k».proof.Defs
public import proofs.«01_k».proof.Proof.KernelIdeal.Result
public import proofs.«01_k».proof.Proof.RefSteps
public import proofs.«01_k».proof.Proof.Gen.ReferenceIdeal.Run

@[expose] public section

set_option maxRecDepth 16384

noncomputable section

namespace Cert.Proof

open Idealize.ShloMosaic Idealize.ShloMosaic.TcCoe Idealize.SL.Sem
open Cert.Proof.Math

theorem algebraic : Cert.algebraic_KernelIdeal_ReferenceIdeal := by
  intro m ρ m' ρ' _ hagree
  refine ⟨fun c => fun _ => KernelIdeal.kval (Cert.KernelIdeal.Gen.V m c Cert.KernelIdeal.main_v2) (Cert.KernelIdeal.Gen.V m c Cert.KernelIdeal.main_v3)
    (Cert.KernelIdeal.Gen.V m c Cert.KernelIdeal.main_v4), ?_, ?_⟩
  · refine (θ_run Cert.KernelIdeal.defs _ _).mono (fun r h c => ?_) (KernelIdeal.run_main (F := Ideal) m ρ)
    have hr := fun b hb => (h.1 c).2 b hb
    exact ⟨(hr _ (Pipeline.mem_restRefs_of Cert.KernelIdeal.main_v6 (by decide) (by decide))).trans (KernelIdeal.W_v6 m c),
      (hr _ (Pipeline.mem_restRefs_of Cert.KernelIdeal.main_arg0 (by decide) (by decide))).trans (Cert.KernelIdeal.Gen.W_main_arg0 m _ c),
      (hr _ (Pipeline.mem_restRefs_of Cert.KernelIdeal.main_arg1 (by decide) (by decide))).trans (Cert.KernelIdeal.Gen.W_main_arg1 m _ c),
      (hr _ (Pipeline.mem_restRefs_of Cert.KernelIdeal.main_arg2 (by decide) (by decide))).trans (Cert.KernelIdeal.Gen.W_main_arg2 m _ c)⟩
  · refine (θ_run Cert.ReferenceIdeal.defs _ _).mono (fun _ h c => ⟨(h c).1.trans ?_, (h c).2⟩) (Cert.ReferenceIdeal.Value.run (F := Ideal) m' ρ')
    obtain ⟨h0, h1, h2⟩ := hagree c
    refine (Cert.ReferenceIdeal.Read.val_main_v693_eq (F := Ideal) (StableHlo.launchContents m' c)).trans ?_
    show Cert.ReferenceIdeal.Read.val_main_v693 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      = fun _ => KernelIdeal.kval (Cert.KernelIdeal.Gen.V m c Cert.KernelIdeal.main_v2) (Cert.KernelIdeal.Gen.V m c Cert.KernelIdeal.main_v3)
        (Cert.KernelIdeal.Gen.V m c Cert.KernelIdeal.main_v4)
    rw [h0, h1, h2]
    funext i
    rw [KernelIdeal.kval_eq m c _ fun _ _ => rfl]
    refine (congrArg (Cert.ReferenceIdeal.Read.val_main_v693 (F := Ideal) _ _ _) (funext fun b => b.elim0)).trans (RefValue.final_ref _ _ _ _ fun _ _ => rfl)

end Cert.Proof

end
-- ==== Proof.lean ====
/-
  The proof of `Cert.Claim`: the frames and the named constants (`Frames.lean`), the value claim (`Algebraic.lean`).
-/
module

public import proofs.«01_k».proof.Defs
public import proofs.«01_k».proof.Proof.Frames
public import proofs.«01_k».proof.Proof.Algebraic
public import proofs.«01_k».proof.Proof.Gen.Reference.Run
public import proofs.«01_k».proof.Proof.Gen.ReferenceIdeal.Run
public import proofs.«01_k».proof.Proof.Gen.ReferenceIdeal.Read

@[expose] public section

noncomputable section

namespace Cert.Proof

theorem claim : Cert.Claim :=
  ⟨Cert.Kernel.Gen.facts, Cert.KernelIdeal.Gen.facts, Cert.Reference.Gen.facts, Cert.ReferenceIdeal.Gen.facts,
    frame_k, frame_i, frame_ref, frame_r, preserves, preserves_ref, algebraic⟩

end Cert.Proof

end
